-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x1024x1024 : Shape := ⟨3, ![16, 1024, 1024]⟩
abbrev S16x1024x128 : Shape := ⟨3, ![16, 1024, 128]⟩
abbrev S64x256x256 : Shape := ⟨3, ![64, 256, 256]⟩
abbrev S64x256 : Shape := ⟨2, ![64, 256]⟩
abbrev S2048x2048 : Shape := ⟨2, ![2048, 2048]⟩
abbrev S16x128x1024 : Shape := ⟨3, ![16, 128, 1024]⟩
abbrev S16x128x128 : Shape := ⟨3, ![16, 128, 128]⟩
abbrev S8x256x256 : Shape := ⟨3, ![8, 256, 256]⟩
abbrev S8x256 : Shape := ⟨2, ![8, 256]⟩
abbrev S256x2048 : Shape := ⟨2, ![256, 2048]⟩
abbrev S2x8192x128 : Shape := ⟨3, ![2, 8192, 128]⟩
abbrev S2x1024x128 : Shape := ⟨3, ![2, 1024, 128]⟩
abbrev S16x16x1024 : Shape := ⟨3, ![16, 16, 1024]⟩
abbrev S256x1024 : Shape := ⟨2, ![256, 1024]⟩
abbrev S1x256x256 : Shape := ⟨3, ![1, 256, 256]⟩
abbrev S256x256 : Shape := ⟨2, ![256, 256]⟩
abbrev S1024x256 : Shape := ⟨2, ![1024, 256]⟩
abbrev S1024x128 : Shape := ⟨2, ![1024, 128]⟩
abbrev S1x1024x128 : Shape := ⟨3, ![1, 1024, 128]⟩
abbrev S16x16x128 : Shape := ⟨3, ![16, 16, 128]⟩
abbrev S256x128 : Shape := ⟨2, ![256, 128]⟩
abbrev S128x256 : Shape := ⟨2, ![128, 256]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩

abbrev nBuf : Space → Nat
  | .hbm => 9
  | .vmem => 21
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x128, .bf16⟩
  | .hbm, ⟨2, _⟩ => ⟨S64x256x256, .bf16⟩
  | .hbm, ⟨3, _⟩ => ⟨S64x256x256, .bf16⟩
  | .hbm, ⟨4, _⟩ => ⟨S64x256x256, .bf16⟩
  | .hbm, ⟨5, _⟩ => ⟨S64x256, .f32⟩
  | .hbm, ⟨6, _⟩ => ⟨S2048x2048, .f32⟩
  | .hbm, ⟨7, _⟩ => ⟨S16x1024x1024, .bf16⟩
  | .hbm, ⟨8, _⟩ => ⟨S2048x2048, .bf16⟩
  | .local _ .vmem, ⟨0, _⟩ => ⟨S16x128x1024, .bf16⟩
  | .local _ .vmem, ⟨1, _⟩ => ⟨S16x128x1024, .bf16⟩
  | .local _ .vmem, ⟨2, _⟩ => ⟨S16x128x128, .bf16⟩
  | .local _ .vmem, ⟨3, _⟩ => ⟨S16x128x128, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S8x256x256, .bf16⟩
  | .local _ .vmem, ⟨9, _⟩ => ⟨S8x256x256, .bf16⟩
  | .local _ .vmem, ⟨10, _⟩ => ⟨S8x256, .f32⟩
  | .local _ .vmem, ⟨11, _⟩ => ⟨S8x256, .f32⟩
  | .local _ .vmem, ⟨12, _⟩ => ⟨S256x2048, .f32⟩
  | .local _ .vmem, ⟨13, _⟩ => ⟨S256x2048, .f32⟩
  | .local _ .vmem, ⟨14, _⟩ => ⟨S16x128x1024, .bf16⟩
  | .local _ .vmem, ⟨15, _⟩ => ⟨S16x128x1024, .bf16⟩
  | .local _ .vmem, ⟨16, _⟩ => ⟨S256x2048, .bf16⟩
  | .local _ .vmem, ⟨17, _⟩ => ⟨S256x2048, .bf16⟩
  | .local _ .vmem, ⟨18, _⟩ => ⟨S2x8192x128, .f32⟩
  | .local _ .vmem, ⟨19, _⟩ => ⟨S2x1024x128, .f32⟩
  | .local _ .vmem, ⟨20, _⟩ => ⟨S2x8192x128, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v218 : BitVec 32 := Scalar.addi c0_i32 c16_i32
  let c1_i32 : BitVec 32 := 1#32
  ⟨c0_i32, v218, c1_i32⟩
def k0_mult1 (k0_t1 : Fin k0_t1_loop.trips) : BitVec 32 :=
  let c0_i32_389 : BitVec 32 := 0#32
  let c0_i32 : BitVec 32 := 0#32
  let c1_i32 : BitVec 32 := 1#32
  let arg13 : BitVec 32 := Scf.iv c0_i32 c1_i32 k0_t1
  let v438 : BitVec 32 := Scalar.addi c0_i32_389 arg13
  let c8_i32 : BitVec 32 := 8#32
  let v439 : BitVec 32 := Scalar.muli v438 c8_i32
  v439
def k0_mult2 (k0_t1 : Fin k0_t1_loop.trips) : BitVec 32 :=
  let c15_i32 : BitVec 32 := 15#32
  let c0_i32 : BitVec 32 := 0#32
  let c1_i32 : BitVec 32 := 1#32
  let arg13 : BitVec 32 := Scf.iv c0_i32 c1_i32 k0_t1
  let v441 : BitVec 32 := Scalar.subi c15_i32 arg13
  let c8_i32_390 : BitVec 32 := 8#32
  let v442 : BitVec 32 := Scalar.muli v441 c8_i32_390
  v442
def k0_off1 (k0_t1 : Fin k0_t1_loop.trips) (c0_i32_389 : BitVec 32) : Fin 3 → Nat :=
  let c0_391 : Index := 0#32
  let c0_i32 : BitVec 32 := 0#32
  let c1_i32 : BitVec 32 := 1#32
  let arg13 : BitVec 32 := Scf.iv c0_i32 c1_i32 k0_t1
  let v438 : BitVec 32 := Scalar.addi c0_i32_389 arg13
  let c8_i32 : BitVec 32 := 8#32
  let v439 : BitVec 32 := Scalar.muli v438 c8_i32
  let v440 : BitVec 32 := v439
  let v444 : Index := Scalar.indexCast v440
  let c0_392 : Index := 0#32
  ![0, v444.toNat, 0]
def k0_off2 (k0_t1 : Fin k0_t1_loop.trips) (c15_i32 : BitVec 32) : Fin 3 → Nat :=
  let c0_393 : Index := 0#32
  let c0_i32 : BitVec 32 := 0#32
  let c1_i32 : BitVec 32 := 1#32
  let arg13 : BitVec 32 := Scf.iv c0_i32 c1_i32 k0_t1
  let v441 : BitVec 32 := Scalar.subi c15_i32 arg13
  let c8_i32_390 : BitVec 32 := 8#32
  let v442 : BitVec 32 := Scalar.muli v441 c8_i32_390
  let v443 : BitVec 32 := v442
  let v447 : Index := Scalar.indexCast v443
  let c0_394 : Index := 0#32
  ![0, v447.toNat, 0]
def k0_off3 (k0_t1 : Fin k0_t1_loop.trips) (c0_i32_389 : BitVec 32) : Fin 3 → Nat :=
  let c1_395 : Index := 1#32
  let c0_i32 : BitVec 32 := 0#32
  let c1_i32 : BitVec 32 := 1#32
  let arg13 : BitVec 32 := Scf.iv c0_i32 c1_i32 k0_t1
  let v438 : BitVec 32 := Scalar.addi c0_i32_389 arg13
  let c8_i32 : BitVec 32 := 8#32
  let v439 : BitVec 32 := Scalar.muli v438 c8_i32
  let v440 : BitVec 32 := v439
  let v451 : Index := Scalar.indexCast v440
  let c0_396 : Index := 0#32
  ![1, v451.toNat, 0]
def k0_off4 (k0_t1 : Fin k0_t1_loop.trips) (c15_i32 : BitVec 32) : Fin 3 → Nat :=
  let c1_397 : Index := 1#32
  let c0_i32 : BitVec 32 := 0#32
  let c1_i32 : BitVec 32 := 1#32
  let arg13 : BitVec 32 := Scf.iv c0_i32 c1_i32 k0_t1
  let v441 : BitVec 32 := Scalar.subi c15_i32 arg13
  let c8_i32_390 : BitVec 32 := 8#32
  let v442 : BitVec 32 := Scalar.muli v441 c8_i32_390
  let v443 : BitVec 32 := v442
  let v454 : Index := Scalar.indexCast v443
  let c0_398 : Index := 0#32
  ![1, v454.toNat, 0]
def k0_mult3 (k0_t1 : Fin k0_t1_loop.trips) : BitVec 32 :=
  let c16_i32_399 : BitVec 32 := 16#32
  let c0_i32 : BitVec 32 := 0#32
  let c1_i32 : BitVec 32 := 1#32
  let arg13 : BitVec 32 := Scf.iv c0_i32 c1_i32 k0_t1
  let v466 : BitVec 32 := Scalar.addi c16_i32_399 arg13
  let c8_i32_400 : BitVec 32 := 8#32
  let v467 : BitVec 32 := Scalar.muli v466 c8_i32_400
  v467
def k0_mult4 (k0_t1 : Fin k0_t1_loop.trips) : BitVec 32 :=
  let c31_i32 : BitVec 32 := 31#32
  let c0_i32 : BitVec 32 := 0#32
  let c1_i32 : BitVec 32 := 1#32
  let arg13 : BitVec 32 := Scf.iv c0_i32 c1_i32 k0_t1
  let v469 : BitVec 32 := Scalar.subi c31_i32 arg13
  let c8_i32_401 : BitVec 32 := 8#32
  let v470 : BitVec 32 := Scalar.muli v469 c8_i32_401
  v470
@[reducible] def k0_t2_loop : Scf.Loop 32 :=
  let c0_i32_202 : BitVec 32 := 0#32
  let c512_i32 : BitVec 32 := 512#32
  let v220 : BitVec 32 := Scalar.addi c0_i32_202 c512_i32
  let c1_i32_203 : BitVec 32 := 1#32
  ⟨c0_i32_202, v220, c1_i32_203⟩
def k0_mult5 (k0_t2 : Fin k0_t2_loop.trips) : BitVec 32 :=
  let c0_i32_389 : BitVec 32 := 0#32
  let c0_i32_202 : BitVec 32 := 0#32
  let c1_i32_203 : BitVec 32 := 1#32
  let arg13 : BitVec 32 := Scf.iv c0_i32_202 c1_i32_203 k0_t2
  let v438 : BitVec 32 := Scalar.addi c0_i32_389 arg13
  let c8_i32 : BitVec 32 := 8#32
  let v439 : BitVec 32 := Scalar.muli v438 c8_i32
  v439
def k0_mult6 (k0_t2 : Fin k0_t2_loop.trips) : BitVec 32 :=
  let c511_i32 : BitVec 32 := 511#32
  let c0_i32_202 : BitVec 32 := 0#32
  let c1_i32_203 : BitVec 32 := 1#32
  let arg13 : BitVec 32 := Scf.iv c0_i32_202 c1_i32_203 k0_t2
  let v441 : BitVec 32 := Scalar.subi c511_i32 arg13
  let c8_i32_390 : BitVec 32 := 8#32
  let v442 : BitVec 32 := Scalar.muli v441 c8_i32_390
  v442
def k0_off5 (k0_t2 : Fin k0_t2_loop.trips) (c0_i32_389 : BitVec 32) : Fin 3 → Nat :=
  let c0_391 : Index := 0#32
  let c0_i32_202 : BitVec 32 := 0#32
  let c1_i32_203 : BitVec 32 := 1#32
  let arg13 : BitVec 32 := Scf.iv c0_i32_202 c1_i32_203 k0_t2
  let v438 : BitVec 32 := Scalar.addi c0_i32_389 arg13
  let c8_i32 : BitVec 32 := 8#32
  let v439 : BitVec 32 := Scalar.muli v438 c8_i32
  let v440 : BitVec 32 := v439
  let v444 : Index := Scalar.indexCast v440
  let c0_392 : Index := 0#32
  ![0, v444.toNat, 0]
def k0_off6 (k0_t2 : Fin k0_t2_loop.trips) (c0_i32_389 : BitVec 32) : Fin 3 → Nat :=
  let c1_393 : Index := 1#32
  let c0_i32_202 : BitVec 32 := 0#32
  let c1_i32_203 : BitVec 32 := 1#32
  let arg13 : BitVec 32 := Scf.iv c0_i32_202 c1_i32_203 k0_t2
  let v438 : BitVec 32 := Scalar.addi c0_i32_389 arg13
  let c8_i32 : BitVec 32 := 8#32
  let v439 : BitVec 32 := Scalar.muli v438 c8_i32
  let v440 : BitVec 32 := v439
  let v449 : Index := Scalar.indexCast v440
  let c0_394 : Index := 0#32
  ![1, v449.toNat, 0]
def k0_off7 (k0_t2 : Fin k0_t2_loop.trips) (c511_i32 : BitVec 32) : Fin 3 → Nat :=
  let c0_395 : Index := 0#32
  let c0_i32_202 : BitVec 32 := 0#32
  let c1_i32_203 : BitVec 32 := 1#32
  let arg13 : BitVec 32 := Scf.iv c0_i32_202 c1_i32_203 k0_t2
  let v441 : BitVec 32 := Scalar.subi c511_i32 arg13
  let c8_i32_390 : BitVec 32 := 8#32
  let v442 : BitVec 32 := Scalar.muli v441 c8_i32_390
  let v443 : BitVec 32 := v442
  let v454 : Index := Scalar.indexCast v443
  let c0_396 : Index := 0#32
  ![0, v454.toNat, 0]
def k0_off8 (k0_t2 : Fin k0_t2_loop.trips) (c511_i32 : BitVec 32) : Fin 3 → Nat :=
  let c1_397 : Index := 1#32
  let c0_i32_202 : BitVec 32 := 0#32
  let c1_i32_203 : BitVec 32 := 1#32
  let arg13 : BitVec 32 := Scf.iv c0_i32_202 c1_i32_203 k0_t2
  let v441 : BitVec 32 := Scalar.subi c511_i32 arg13
  let c8_i32_390 : BitVec 32 := 8#32
  let v442 : BitVec 32 := Scalar.muli v441 c8_i32_390
  let v443 : BitVec 32 := v442
  let v459 : Index := Scalar.indexCast v443
  let c0_398 : Index := 0#32
  ![1, v459.toNat, 0]
def k0_mult7 (k0_t2 : Fin k0_t2_loop.trips) : BitVec 32 :=
  let c512_i32_407 : BitVec 32 := 512#32
  let c0_i32_202 : BitVec 32 := 0#32
  let c1_i32_203 : BitVec 32 := 1#32
  let arg13 : BitVec 32 := Scf.iv c0_i32_202 c1_i32_203 k0_t2
  let v486 : BitVec 32 := Scalar.addi c512_i32_407 arg13
  let c8_i32_408 : BitVec 32 := 8#32
  let v487 : BitVec 32 := Scalar.muli v486 c8_i32_408
  v487
def k0_mult8 (k0_t2 : Fin k0_t2_loop.trips) : BitVec 32 :=
  let c1023_i32 : BitVec 32 := 1023#32
  let c0_i32_202 : BitVec 32 := 0#32
  let c1_i32_203 : BitVec 32 := 1#32
  let arg13 : BitVec 32 := Scf.iv c0_i32_202 c1_i32_203 k0_t2
  let v489 : BitVec 32 := Scalar.subi c1023_i32 arg13
  let c8_i32_409 : BitVec 32 := 8#32
  let v490 : BitVec 32 := Scalar.muli v489 c8_i32_409
  v490
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x1024x1024 : Shape := ⟨3, ![16, 1024, 1024]⟩
abbrev S16x1024x128 : Shape := ⟨3, ![16, 1024, 128]⟩
abbrev S64x256x256 : Shape := ⟨3, ![64, 256, 256]⟩
abbrev S64x256 : Shape := ⟨2, ![64, 256]⟩
abbrev S2048x2048 : Shape := ⟨2, ![2048, 2048]⟩
abbrev S16x64x16x1024 : Shape := ⟨4, ![16, 64, 16, 1024]⟩
abbrev S64x16x16x1024 : Shape := ⟨4, ![64, 16, 16, 1024]⟩
abbrev S64x256x1024 : Shape := ⟨3, ![64, 256, 1024]⟩
abbrev S64x1024x256 : Shape := ⟨3, ![64, 1024, 256]⟩
abbrev S16x1024x32 : Shape := ⟨3, ![16, 1024, 32]⟩
abbrev S16x64x16x32 : Shape := ⟨4, ![16, 64, 16, 32]⟩
abbrev S64x16x16x32 : Shape := ⟨4, ![64, 16, 16, 32]⟩
abbrev S64x256x32 : Shape := ⟨3, ![64, 256, 32]⟩
abbrev S64x32x256 : Shape := ⟨3, ![64, 32, 256]⟩
abbrev S64x128 : Shape := ⟨2, ![64, 128]⟩
abbrev S64x1x128 : Shape := ⟨3, ![64, 1, 128]⟩
abbrev S_ : Shape := ⟨0, ![]⟩
abbrev S64x2x128 : Shape := ⟨3, ![64, 2, 128]⟩
abbrev S64x32x128 : Shape := ⟨3, ![64, 32, 128]⟩
abbrev S64x2x16x128 : Shape := ⟨4, ![64, 2, 16, 128]⟩
abbrev S128 : Shape := ⟨1, ![128]⟩
abbrev S64x1024x128 : Shape := ⟨3, ![64, 1024, 128]⟩
abbrev S64x2x512x128 : Shape := ⟨4, ![64, 2, 512, 128]⟩
abbrev S64x2x528x128 : Shape := ⟨4, ![64, 2, 528, 128]⟩
abbrev S528x64x2x128 : Shape := ⟨4, ![528, 64, 2, 128]⟩
abbrev S1x64x2x128 : Shape := ⟨4, ![1, 64, 2, 128]⟩
abbrev S512x64x2x128 : Shape := ⟨4, ![512, 64, 2, 128]⟩

abbrev nBuf : Space → Nat
  | .hbm => 155
  | .vmem => 0
  | .smem => 0
  | _ => 0

abbrev hbmTy0_0 (i : Nat) : BufTy := match i % 128 with
  | 0 => ⟨S16x1024x1024, .bf16⟩
  | 1 => ⟨S16x1024x128, .bf16⟩
  | 2 => ⟨S64x256x256, .bf16⟩
  | 3 => ⟨S64x256x256, .bf16⟩
  | 4 => ⟨S64x256x256, .bf16⟩
  | 5 => ⟨S64x256, .f32⟩
  | 6 => ⟨S2048x2048, .f32⟩
  | 7 => ⟨S16x64x16x1024, .bf16⟩
  | 8 => ⟨S64x16x16x1024, .bf16⟩
  | 9 => ⟨S64x256x1024, .bf16⟩
  | 10 => ⟨S64x1024x256, .f32⟩
  | 11 => ⟨S16x1024x32, .bf16⟩
  | 12 => ⟨S16x64x16x32, .bf16⟩
  | 13 => ⟨S64x16x16x32, .bf16⟩
  | 14 => ⟨S64x256x32, .bf16⟩
  | 15 => ⟨S64x32x256, .f32⟩
  | 16 => ⟨S64x128, .f32⟩
  | 17 => ⟨S64x1x128, .f32⟩
  | 18 => ⟨S64x128, .f32⟩
  | 19 => ⟨S64x1x128, .f32⟩
  | 20 => ⟨S_, .f32⟩
  | 21 => ⟨S64x2x128, .f32⟩
  | 22 => ⟨S64x32x128, .f32⟩
  | 23 => ⟨S64x2x16x128, .f32⟩
  | 24 => ⟨S128, .i32⟩
  | 25 => ⟨S_, .i32⟩
  | 26 => ⟨S128, .i32⟩
  | 27 => ⟨S128, .i1⟩
  | 28 => ⟨S64x2x16x128, .f32⟩
  | 29 => ⟨S64x2x16x128, .i1⟩
  | 30 => ⟨S64x2x16x128, .f32⟩
  | 31 => ⟨S64x1024x128, .f32⟩
  | 32 => ⟨S64x2x512x128, .f32⟩
  | 33 => ⟨S128, .i32⟩
  | 34 => ⟨S_, .i32⟩
  | 35 => ⟨S128, .i32⟩
  | 36 => ⟨S128, .i1⟩
  | 37 => ⟨S64x2x512x128, .f32⟩
  | 38 => ⟨S64x2x512x128, .i1⟩
  | 39 => ⟨S64x2x512x128, .f32⟩
  | 40 => ⟨S64x2x528x128, .f32⟩
  | 41 => ⟨S528x64x2x128, .f32⟩
  | 42 => ⟨S64x32x128, .f32⟩
  | 43 => ⟨S64x2x16x128, .f32⟩
  | 44 => ⟨S128, .i32⟩
  | 45 => ⟨S_, .i32⟩
  | 46 => ⟨S128, .i32⟩
  | 47 => ⟨S128, .i1⟩
  | 48 => ⟨S64x2x16x128, .f32⟩
  | 49 => ⟨S64x2x16x128, .i1⟩
  | 50 => ⟨S64x2x16x128, .f32⟩
  | 51 => ⟨S64x1024x128, .f32⟩
  | 52 => ⟨S64x2x512x128, .f32⟩
  | 53 => ⟨S128, .i32⟩
  | 54 => ⟨S_, .i32⟩
  | 55 => ⟨S128, .i32⟩
  | 56 => ⟨S128, .i1⟩
  | 57 => ⟨S64x2x512x128, .f32⟩
  | 58 => ⟨S64x2x512x128, .i1⟩
  | 59 => ⟨S64x2x512x128, .f32⟩
  | 60 => ⟨S64x2x528x128, .f32⟩
  | 61 => ⟨S528x64x2x128, .f32⟩
  | 62 => ⟨S_, .f32⟩
  | 63 => ⟨S528x64x2x128, .f32⟩
  | 64 => ⟨S_, .f32⟩
  | 65 => ⟨S528x64x2x128, .f32⟩
  | 66 => ⟨S_, .i32⟩
  | 67 => ⟨S528x64x2x128, .f32⟩
  | 68 => ⟨S528x64x2x128, .f32⟩
  | 69 => ⟨S64x1x128, .f32⟩
  | 70 => ⟨S64x1x128, .f32⟩
  | 71 => ⟨S_, .i32⟩
  | 72 => ⟨S64x2x128, .f32⟩
  | 73 => ⟨S64x2x128, .f32⟩
  | 74 => ⟨S528x64x2x128, .f32⟩
  | 75 => ⟨S528x64x2x128, .f32⟩
  | 76 => ⟨S_, .i32⟩
  | 77 => ⟨S_, .i1⟩
  | 78 => ⟨S_, .i32⟩
  | 79 => ⟨S_, .i32⟩
  | 80 => ⟨S_, .i32⟩
  | 81 => ⟨S1x64x2x128, .f32⟩
  | 82 => ⟨S64x2x128, .f32⟩
  | 83 => ⟨S_, .i32⟩
  | 84 => ⟨S_, .i32⟩
  | 85 => ⟨S_, .i32⟩
  | 86 => ⟨S1x64x2x128, .f32⟩
  | 87 => ⟨S64x2x128, .f32⟩
  | 88 => ⟨S64x2x128, .f32⟩
  | 89 => ⟨S64x2x128, .f32⟩
  | 90 => ⟨S64x2x128, .f32⟩
  | 91 => ⟨S64x2x128, .f32⟩
  | 92 => ⟨S64x2x128, .f32⟩
  | 93 => ⟨S64x2x128, .f32⟩
  | 94 => ⟨S64x2x128, .f32⟩
  | 95 => ⟨S64x2x128, .f32⟩
  | 96 => ⟨S64x2x128, .f32⟩
  | 97 => ⟨S64x2x128, .f32⟩
  | 98 => ⟨S64x2x128, .f32⟩
  | 99 => ⟨S64x2x128, .f32⟩
  | 100 => ⟨S1x64x2x128, .f32⟩
  | 101 => ⟨S_, .i32⟩
  | 102 => ⟨S_, .i32⟩
  | 103 => ⟨S_, .i32⟩
  | 104 => ⟨S528x64x2x128, .f32⟩
  | 105 => ⟨S1x64x2x128, .f32⟩
  | 106 => ⟨S_, .i32⟩
  | 107 => ⟨S_, .i32⟩
  | 108 => ⟨S_, .i32⟩
  | 109 => ⟨S528x64x2x128, .f32⟩
  | 110 => ⟨S_, .i32⟩
  | 111 => ⟨S_, .i32⟩
  | 112 => ⟨S512x64x2x128, .f32⟩
  | 113 => ⟨S64x2x512x128, .f32⟩
  | 114 => ⟨S128, .i32⟩
  | 115 => ⟨S_, .i32⟩
  | 116 => ⟨S128, .i32⟩
  | 117 => ⟨S128, .i1⟩
  | 118 => ⟨S64x2x512x128, .f32⟩
  | 119 => ⟨S64x2x512x128, .i1⟩
  | 120 => ⟨S64x2x512x128, .f32⟩
  | 121 => ⟨S64x1024x128, .f32⟩
  | 122 => ⟨S512x64x2x128, .f32⟩
  | 123 => ⟨S64x2x512x128, .f32⟩
  | 124 => ⟨S128, .i32⟩
  | 125 => ⟨S_, .i32⟩
  | 126 => ⟨S128, .i32⟩
  | 127 => ⟨S128, .i1⟩
  | _ => ⟨S16x1024x1024, .bf16⟩

abbrev hbmTy0_1 (i : Nat) : BufTy := match i % 128 with
  | 0 => ⟨S64x2x512x128, .f32⟩
  | 1 => ⟨S64x2x512x128, .i1⟩
  | 2 => ⟨S64x2x512x128, .f32⟩
  | 3 => ⟨S64x1024x128, .f32⟩
  | 4 => ⟨S64x1024x256, .f32⟩
  | 5 => ⟨S64x1024x256, .bf16⟩
  | 6 => ⟨S16x64x16x1024, .bf16⟩
  | 7 => ⟨S64x16x16x1024, .bf16⟩
  | 8 => ⟨S64x256x1024, .bf16⟩
  | 9 => ⟨S64x1024x256, .f32⟩
  | 10 => ⟨S64x1024x256, .f32⟩
  | 11 => ⟨S64x1024x256, .f32⟩
  | 12 => ⟨S_, .f32⟩
  | 13 => ⟨S64x1024x256, .f32⟩
  | 14 => ⟨S64x1024x256, .f32⟩
  | 15 => ⟨S64x1024x256, .f32⟩
  | 16 => ⟨S_, .f32⟩
  | 17 => ⟨S64x1024x256, .f32⟩
  | 18 => ⟨S64x1024x256, .f32⟩
  | 19 => ⟨S64x1024x256, .f32⟩
  | 20 => ⟨S64x1024x256, .f32⟩
  | 21 => ⟨S64x1024x256, .bf16⟩
  | 22 => ⟨S64x256x1024, .bf16⟩
  | 23 => ⟨S64x16x16x1024, .bf16⟩
  | 24 => ⟨S16x64x16x1024, .bf16⟩
  | 25 => ⟨S16x1024x1024, .bf16⟩
  | 26 => ⟨S2048x2048, .bf16⟩
  | _ => ⟨S16x1024x1024, .bf16⟩

abbrev hbmTy (i : Nat) : BufTy := match i / 128 with
  | 0 => hbmTy0_0 i
  | 1 => hbmTy0_1 i
  | _ => ⟨S16x1024x1024, .bf16⟩

abbrev bufTy : (tb : Table) → Fin (tcTables nBuf tb) → BufTy
  | .hbm, ⟨i, _⟩ => hbmTy i
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call3_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call5_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call7_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_c_5 : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev main_v48_3 : Ref sig .tc := ⟨.hbm, 70, rfl⟩
abbrev main_v48_4 : Ref sig .tc := ⟨.hbm, 71, rfl⟩
abbrev main_v48_5 : Ref sig .tc := ⟨.hbm, 72, rfl⟩
abbrev main_v48_6 : Ref sig .tc := ⟨.hbm, 73, rfl⟩
abbrev main_v48_7 : Ref sig .tc := ⟨.hbm, 74, rfl⟩
abbrev main_v48_8 : Ref sig .tc := ⟨.hbm, 75, rfl⟩
abbrev main_while0c_c_18 : Ref sig .tc := ⟨.hbm, 76, rfl⟩
abbrev main_while0c_v86 : Ref sig .tc := ⟨.hbm, 77, rfl⟩
abbrev main_while0b_call8_c : Ref sig .tc := ⟨.hbm, 78, rfl⟩
abbrev main_while0b_call8_c_0 : Ref sig .tc := ⟨.hbm, 79, rfl⟩
abbrev main_while0b_call8_c_1 : Ref sig .tc := ⟨.hbm, 80, rfl⟩
abbrev main_while0b_call8_v0 : Ref sig .tc := ⟨.hbm, 81, rfl⟩
abbrev main_while0b_v86 : Ref sig .tc := ⟨.hbm, 82, rfl⟩
abbrev main_while0b_call9_c : Ref sig .tc := ⟨.hbm, 83, rfl⟩
abbrev main_while0b_call9_c_0 : Ref sig .tc := ⟨.hbm, 84, rfl⟩
abbrev main_while0b_call9_c_1 : Ref sig .tc := ⟨.hbm, 85, rfl⟩
abbrev main_while0b_call9_v0 : Ref sig .tc := ⟨.hbm, 86, rfl⟩
abbrev main_while0b_v87 : Ref sig .tc := ⟨.hbm, 87, rfl⟩
abbrev main_while0b_v88 : Ref sig .tc := ⟨.hbm, 88, rfl⟩
abbrev main_while0b_v89 : Ref sig .tc := ⟨.hbm, 89, rfl⟩
abbrev main_while0b_v90 : Ref sig .tc := ⟨.hbm, 90, rfl⟩
abbrev main_while0b_v91 : Ref sig .tc := ⟨.hbm, 91, rfl⟩
abbrev main_while0b_v92 : Ref sig .tc := ⟨.hbm, 92, rfl⟩
abbrev main_while0b_v93 : Ref sig .tc := ⟨.hbm, 93, rfl⟩
abbrev main_while0b_v94 : Ref sig .tc := ⟨.hbm, 94, rfl⟩
abbrev main_while0b_v95 : Ref sig .tc := ⟨.hbm, 95, rfl⟩
abbrev main_while0b_v96 : Ref sig .tc := ⟨.hbm, 96, rfl⟩
abbrev main_while0b_v97 : Ref sig .tc := ⟨.hbm, 97, rfl⟩
abbrev main_while0b_v98 : Ref sig .tc := ⟨.hbm, 98, rfl⟩
abbrev main_while0b_v99 : Ref sig .tc := ⟨.hbm, 99, rfl⟩
abbrev main_while0b_call10_v0 : Ref sig .tc := ⟨.hbm, 100, rfl⟩
abbrev main_while0b_call10_c : Ref sig .tc := ⟨.hbm, 101, rfl⟩
abbrev main_while0b_call10_c_0 : Ref sig .tc := ⟨.hbm, 102, rfl⟩
abbrev main_while0b_call10_c_1 : Ref sig .tc := ⟨.hbm, 103, rfl⟩
abbrev main_while0b_v100 : Ref sig .tc := ⟨.hbm, 104, rfl⟩
abbrev main_while0b_call11_v0 : Ref sig .tc := ⟨.hbm, 105, rfl⟩
abbrev main_while0b_call11_c : Ref sig .tc := ⟨.hbm, 106, rfl⟩
abbrev main_while0b_call11_c_0 : Ref sig .tc := ⟨.hbm, 107, rfl⟩
abbrev main_while0b_call11_c_1 : Ref sig .tc := ⟨.hbm, 108, rfl⟩
abbrev main_while0b_v101 : Ref sig .tc := ⟨.hbm, 109, rfl⟩
abbrev main_while0b_c_18 : Ref sig .tc := ⟨.hbm, 110, rfl⟩
abbrev main_while0b_v102 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_6 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_call13_v0 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_c_7 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_call15_v0 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_8 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_9 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩

abbrev nD : Nat := 1
abbrev τ : Topo := Topo.v7x

variable {F : FTy → Type} [FloatOps F]

abbrev main_while0_count : Scf.Loop 32 := ⟨0#32, 528#32, 1#32⟩
-- ==== Kernel2.lean ====
abbrev S2x8192x2048 : Shape := ⟨3, ![2, 8192, 2048]⟩
abbrev S8x1x6144 : Shape := ⟨3, ![8, 1, 6144]⟩
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S128x1024 : Shape := ⟨2, ![128, 1024]⟩
abbrev S2048x5120 : Shape := ⟨2, ![2048, 5120]⟩
abbrev S2x8192x1024 : Shape := ⟨3, ![2, 8192, 1024]⟩
abbrev S1x512x2048 : Shape := ⟨3, ![1, 512, 2048]⟩
abbrev S1x1x2048 : Shape := ⟨3, ![1, 1, 2048]⟩
abbrev S64x1024 : Shape := ⟨2, ![64, 1024]⟩
abbrev S1x512x1024 : Shape := ⟨3, ![1, 512, 1024]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x3072 : Shape := ⟨2, ![256, 3072]⟩
abbrev S256x1024 : Shape := ⟨2, ![256, 1024]⟩
abbrev S1x256x1024 : Shape := ⟨3, ![1, 256, 1024]⟩
abbrev S1x128x128 : Shape := ⟨3, ![1, 128, 128]⟩
abbrev S128x128 : Shape := ⟨2, ![128, 128]⟩

abbrev nBuf : Space → Nat
  | .hbm => 13
  | .vmem => 22
  | .smem => 0
  | _ => 0

abbrev bufTy : (tb : Table) → Fin (tcTables nBuf tb) → BufTy
  | .hbm, ⟨0, _⟩ => ⟨S2x8192x2048, .f32⟩
  | .hbm, ⟨1, _⟩ => ⟨S8x1x6144, .f32⟩
  | .hbm, ⟨2, _⟩ => ⟨S2048x3072, .bf16⟩
  | .hbm, ⟨3, _⟩ => ⟨S2048x1024, .bf16⟩
  | .hbm, ⟨4, _⟩ => ⟨S1x1024, .f32⟩
  | .hbm, ⟨5, _⟩ => ⟨S1x1024, .f32⟩
  | .hbm, ⟨6, _⟩ => ⟨S8x128x128, .f32⟩
  | .hbm, ⟨7, _⟩ => ⟨S128x1024, .f32⟩
  | .hbm, ⟨8, _⟩ => ⟨S2048x5120, .f32⟩
  | .hbm, ⟨9, _⟩ => ⟨S2x8192x1024, .bf16⟩
  | .hbm, ⟨10, _⟩ => ⟨S2x8192x1024, .bf16⟩
  | .hbm, ⟨11, _⟩ => ⟨S2x8192x2048, .bf16⟩
  | .hbm, ⟨12, _⟩ => ⟨S2048x1024, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x3072, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .f32⟩
  | .local _ .vmem, ⟨11, _⟩ => ⟨S128x1024, .f32⟩
  | .local _ .vmem, ⟨12, _⟩ => ⟨S64x1024, .f32⟩
  | .local _ .vmem, ⟨13, _⟩ => ⟨S64x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x2048, .bf16⟩
  | .local _ .vmem, ⟨19, _⟩ => ⟨S1x512x2048, .bf16⟩
  | .local _ .vmem, ⟨20, _⟩ => ⟨S64x1024, .bf16⟩
  | .local _ .vmem, ⟨21, _⟩ => ⟨S64x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8192x2048 : Shape := ⟨3, ![2, 8192, 2048]⟩
abbrev S8x1x6144 : Shape := ⟨3, ![8, 1, 6144]⟩
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S128x1024 : Shape := ⟨2, ![128, 1024]⟩
abbrev S2048x5120 : Shape := ⟨2, ![2048, 5120]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S2x8192x3072 : Shape := ⟨3, ![2, 8192, 3072]⟩
abbrev S2x8192x1024 : Shape := ⟨3, ![2, 8192, 1024]⟩
abbrev S1x1x1024 : Shape := ⟨3, ![1, 1, 1024]⟩
abbrev S2x64x128x8x128 : Shape := ⟨5, ![2, 64, 128, 8, 128]⟩
abbrev S8x2x64x128x128 : Shape := ⟨5, ![8, 2, 64, 128, 128]⟩
abbrev S128x8x128 : Shape := ⟨3, ![128, 8, 128]⟩
abbrev S1x1x128x8x128 : Shape := ⟨5, ![1, 1, 128, 8, 128]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x1x6144, .f32⟩
  | .hbm, ⟨2, _⟩ => ⟨S2048x3072, .bf16⟩
  | .hbm, ⟨3, _⟩ => ⟨S2048x1024, .bf16⟩
  | .hbm, ⟨4, _⟩ => ⟨S1x1024, .f32⟩
  | .hbm, ⟨5, _⟩ => ⟨S1x1024, .f32⟩
  | .hbm, ⟨6, _⟩ => ⟨S8x128x128, .f32⟩
  | .hbm, ⟨7, _⟩ => ⟨S128x1024, .f32⟩
  | .hbm, ⟨8, _⟩ => ⟨S2048x5120, .f32⟩
  | .hbm, ⟨9, _⟩ => ⟨S2x1x2048, .f32⟩
  | .hbm, ⟨10, _⟩ => ⟨S2x1x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S2x8192x2048, .bf16⟩
  | .hbm, ⟨42, _⟩ => ⟨S2x8192x3072, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S2x8192x1, .f32⟩
  | .hbm, ⟨85, _⟩ => ⟨S2x8192x1024, .f32⟩
  | .hbm, ⟨86, _⟩ => ⟨S2x8192x1024, .f32⟩
  | .hbm, ⟨87, _⟩ => ⟨S1x1x1024, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | .hbm, ⟨93, _⟩ => ⟨S2x8192x1024, .bf16⟩
  | .hbm, ⟨94, _⟩ => ⟨S2x64x128x8x128, .bf16⟩
  | .hbm, ⟨95, _⟩ => ⟨S8x128x128, .bf16⟩
  | .hbm, ⟨96, _⟩ => ⟨S8x2x64x128x128, .f32⟩
  | .hbm, ⟨97, _⟩ => ⟨S2x64x128x8x128, .f32⟩
  | .hbm, ⟨98, _⟩ => ⟨S128x8x128, .f32⟩
  | .hbm, ⟨99, _⟩ => ⟨S1x1x128x8x128, .f32⟩
  | .hbm, ⟨100, _⟩ => ⟨S2x64x128x8x128, .f32⟩
  | .hbm, ⟨101, _⟩ => ⟨S2x64x128x8x128, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S_, .f32⟩
  | .hbm, ⟨108, _⟩ => ⟨S2x8192x1024, .f32⟩
  | .hbm, ⟨109, _⟩ => ⟨S2x8192x1024, .f32⟩
  | .hbm, ⟨110, _⟩ => ⟨S_, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S2x8192x1024, .f32⟩
  | .hbm, ⟨115, _⟩ => ⟨S2x8192x1024, .bf16⟩
  | .hbm, ⟨116, _⟩ => ⟨S2x8192x1024, .f32⟩
  | .hbm, ⟨117, _⟩ => ⟨S2x8192x1024, .f32⟩
  | .hbm, ⟨118, _⟩ => ⟨S_, .f32⟩
  | .hbm, ⟨119, _⟩ => ⟨S2x8192x1024, .f32⟩
  | .hbm, ⟨120, _⟩ => ⟨S2x8192x1024, .f32⟩
  | .hbm, ⟨121, _⟩ => ⟨S_, .f32⟩
  | .hbm, ⟨122, _⟩ => ⟨S2x8192x1024, .f32⟩
  | .hbm, ⟨123, _⟩ => ⟨S2x8192x1024, .f32⟩
  | .hbm, ⟨124, _⟩ => ⟨S2x8192x1024, .f32⟩
  | .hbm, ⟨125, _⟩ => ⟨S2x8192x1024, .bf16⟩
  | .hbm, ⟨126, _⟩ => ⟨S2048x1024, .f32⟩
  | .hbm, ⟨127, _⟩ => ⟨S2048x1024, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x8192x1024 : Shape := ⟨3, ![2, 8192, 1024]⟩
abbrev S8x1x6144 : Shape := ⟨3, ![8, 1, 6144]⟩
abbrev S2048x2048 : Shape := ⟨2, ![2048, 2048]⟩
abbrev S1x2048 : Shape := ⟨2, ![1, 2048]⟩
abbrev S1x512x2048 : Shape := ⟨3, ![1, 512, 2048]⟩
abbrev S1x512x1024 : Shape := ⟨3, ![1, 512, 1024]⟩
abbrev S1x1x2048 : Shape := ⟨3, ![1, 1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .bf16⟩
  | .hbm, ⟨2, _⟩ => ⟨S2x8192x1024, .bf16⟩
  | .hbm, ⟨3, _⟩ => ⟨S2x8192x1024, .bf16⟩
  | .hbm, ⟨4, _⟩ => ⟨S8x1x6144, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x512x2048, .f32⟩
  | .local _ .vmem, ⟨14, _⟩ => ⟨S1x512x2048, .f32⟩
  | .local _ .vmem, ⟨15, _⟩ => ⟨S512x2048, .f32⟩
  | .local _ .vmem, ⟨16, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let c32_i32 : BitVec 32 := 32#32
  let v6 : BitVec 1 := Scalar.cmpi .slt arg0 c32_i32
  let v7 : BitVec 1 := Scalar.andi v5 v6
  let c2_i32 : BitVec 32 := 2#32
  let v0 : BitVec 32 := Scalar.remsi arg0 c2_i32
  let c0_i32 : BitVec 32 := 0#32
  let v1 : BitVec 1 := Scalar.cmpi .eq v0 c0_i32
  let v8 : BitVec 1 := Scalar.andi v7 v1
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v11 : BitVec 1 := Scalar.xori v1 v_true
  let v12 : BitVec 32 := Scalar.extui v11
  let c0_i32_4 : BitVec 32 := 0#32
  let v13 : BitVec 1 := Scalar.cmpi .ne v12 c0_i32_4
  v13

def k0_cond4 (i : grid0.Coords) : BitVec 1 :=
  let arg0 : BitVec 32 := BitVec.ofNat 32 (i 0).val
  let c32_i32_5 : BitVec 32 := 32#32
  let v14 : BitVec 1 := Scalar.cmpi .eq arg0 c32_i32_5
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c2_i32 : BitVec 32 := 2#32
  let c0_i32_11 : BitVec 32 := 0#32
  ![v17.toNat, c0_i32_10.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x8192x2048 : Shape := ⟨3, ![2, 8192, 2048]⟩
abbrev S2x8192x1024 : Shape := ⟨3, ![2, 8192, 1024]⟩
abbrev S8x1x6144 : Shape := ⟨3, ![8, 1, 6144]⟩
abbrev S2048x2048 : Shape := ⟨2, ![2048, 2048]⟩
abbrev S1x2048 : Shape := ⟨2, ![1, 2048]⟩
abbrev S_ : Shape := ⟨0, ![]⟩
abbrev S2x1x2048 : Shape := ⟨3, ![2, 1, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .bf16⟩
  | .hbm, ⟨2, _⟩ => ⟨S2x8192x1024, .bf16⟩
  | .hbm, ⟨3, _⟩ => ⟨S2x8192x1024, .bf16⟩
  | .hbm, ⟨4, _⟩ => ⟨S8x1x6144, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .bf16⟩
  | .hbm, ⟨12, _⟩ => ⟨S2x8192x2048, .bf16⟩
  | .hbm, ⟨13, _⟩ => ⟨S2x8192x2048, .f32⟩
  | .hbm, ⟨14, _⟩ => ⟨S_, .f32⟩
  | .hbm, ⟨15, _⟩ => ⟨S2x8192x2048, .f32⟩
  | .hbm, ⟨16, _⟩ => ⟨S2x8192x2048, .f32⟩
  | .hbm, ⟨17, _⟩ => ⟨S2x1x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x2048, .f32⟩
  | .hbm, ⟨43, _⟩ => ⟨S2x8192x2048, .f32⟩
  | .hbm, ⟨44, _⟩ => ⟨S1x1x2048, .f32⟩
  | .hbm, ⟨45, _⟩ => ⟨S2x8192x2048, .f32⟩
  | .hbm, ⟨46, _⟩ => ⟨S2x8192x2048, .f32⟩
  | .hbm, ⟨47, _⟩ => ⟨S1x1x2048, .f32⟩
  | .hbm, ⟨48, _⟩ => ⟨S2x8192x2048, .f32⟩
  | .hbm, ⟨49, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Loop.lean ====
/- The latent loop's trip: what one pass of the 512-trip loop does to the carried state and to the table of states. -/
module

public import proofs.«01_k».proof.Proof.Gen.KernelIdeal.Loops
public import proofs.«01_k».proof.Proof.Gen.KernelIdeal.Frame

@[expose] public section

set_option maxRecDepth 16384

noncomputable section

namespace Cert.Proof.Ssm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The carried state: batch 0's real and imaginary parts, then batch 1's. -/
abbrev Carry (F : FTy → Type) : Type := FVec F S8x128 .f32 × FVec F S8x128 .f32 × FVec F S8x128 .f32 × FVec F S8x128 .f32

section
variable (c : Dev nD) (i : grid0.Coords)
  (arg1 : Memref sig .tc .vmem S16x128x1024 .bf16) (harg1 : arg1.IsWhole) (arg2 : Memref sig .tc .vmem S16x128x128 .bf16) (harg2 : arg2.IsWhole)
  (arg3 : Memref sig .tc .vmem S8x256x256 .bf16) (harg3 : arg3.IsWhole) (arg4 : Memref sig .tc .vmem S8x256x256 .bf16) (harg4 : arg4.IsWhole)
  (arg5 : Memref sig .tc .vmem S8x256x256 .bf16) (harg5 : arg5.IsWhole) (arg6 : Memref sig .tc .vmem S8x256 .f32) (harg6 : arg6.IsWhole)
  (arg7 : Memref sig .tc .vmem S256x2048 .f32) (harg7 : arg7.IsWhole) (arg8 : Memref sig .tc .vmem S16x128x1024 .bf16) (harg8 : arg8.IsWhole)
  (arg9 : Memref sig .tc .vmem S256x2048 .bf16) (harg9 : arg9.IsWhole) (arg10 : Memref sig .tc .vmem S2x8192x128 .f32) (harg10 : arg10.IsWhole)
  (arg11 : Memref sig .tc .vmem S2x1024x128 .f32) (harg11 : arg11.IsWhole) (arg12 : Memref sig .tc .vmem S2x8192x128 .f32) (harg12 : arg12.IsWhole)
  (v211 v212 : Vec F S8x128 .f32) (v215 v216 : IVec S8x128 1) (v219_0 v219_1 v219_2 v219_3 : FVec F S8x128 .f32) (c0_i32_202 : BitVec 32)

/-- What a trip holds: the drives (read only) and the table of states. -/
abbrev Held (X : BufTy.Contents (Elt F) arg10.view.ty) (f : BufTy.Contents (Elt F) arg12.view.ty) : sProp 𝕄 :=
  iprop((arg10.view.loc (c : Thread nD τ) ↦[arg10.view.set]{fullShare} X) ∗ (arg12.view.loc (c : Thread nD τ) ↦[arg12.view.set]{fullShare} f))

/-- The eight rows of plane-and-row offset `off` read off a table's contents. -/
abbrev rows (M : Memref sig .tc .vmem S2x8192x128 .f32) (X : BufTy.Contents (Elt F) M.view.ty) (off : Fin 3 → ℕ)
    (h : ∀ a, off a + S1x8x128.size a ≤ S2x8192x128.size a) : Vec F S1x8x128 .f32 :=
  View.readAt (Elt F) M.view (Rect.unit (s := S2x8192x128) off S1x8x128.size h).toLoadRect X

/-- The state after a trip: each batch's `a·h + s`, the drive `s` read at chunk `k` in the first 64 lanes and at chunk
    `511 - k` in the others. -/
def adv (X : BufTy.Contents (Elt F) arg10.view.ty) (k : Fin k0_t2_loop.trips) (acc : Carry F) : Carry F :=
  (k0_pay14 v211 v212 acc.1 acc.2.1
      (k0_pay12 v215 (rows arg10 X _ (k0_off5_inb k 0)) (rows arg10 X _ (k0_off7_inb k 0))),
    k0_pay15 v211 v212 v215 acc.1 acc.2.1
      (k0_pay13 (rows arg10 X _ (k0_off6_inb k 0))) (rows arg10 X _ (k0_off8_inb k 0)),
    k0_pay84 v211 v212 v215 acc.2.2.1 acc.2.2.2
      (k0_pay24 (rows arg10 X _ (k0_off5_inb k 1))) (rows arg10 X _ (k0_off7_inb k 1)),
    k0_pay85 v211 v212 v215 acc.2.2.1 acc.2.2.2
      (rows arg10 X _ (k0_off6_inb k 1)) (rows arg10 X _ (k0_off8_inb k 1)))

/-- A store of eight rows under a lane mask. -/
abbrev put (M : Memref sig .tc .vmem S2x8192x128 .f32) (f : BufTy.Contents (Elt F) M.view.ty) (off : Fin 3 → ℕ)
    (h : ∀ a, off a + S1x8x128.size a ≤ S2x8192x128.size a) (w : Vec F S1x8x128 .f32) (msk : IVec S1x8x128 1) :
    BufTy.Contents (Elt F) M.view.ty :=
  View.write (Elt F) (M.access (Rect.unit (s := S2x8192x128) off S1x8x128.size h)) f w (IVec.on msk)

/-- The table after a trip: the entering state of each batch stored at chunk `k` in the first 64 lanes and at chunk
    `511 - k` in the others. -/
def record (f : BufTy.Contents (Elt F) arg12.view.ty) (k : Fin k0_t2_loop.trips) (acc : Carry F) :
    BufTy.Contents (Elt F) arg12.view.ty :=
  put arg12 (put arg12 (put arg12 (put arg12 (put arg12 (put arg12 (put arg12 (put arg12 f
    _ (k0_off5_inb k 0) (k0_pay4 acc.1) (k0_pay5 v215))
    _ (k0_off6_inb k 0) (k0_pay6 acc.2.1) (k0_pay7 v215))
    _ (k0_off7_inb k 0) (k0_pay8 acc.1) (k0_pay9 v216))
    _ (k0_off8_inb k 0) (k0_pay10 acc.2.1) (k0_pay11 v216))
    _ (k0_off5_inb k 1) (k0_pay16 acc.2.2.1) (k0_pay17 v215))
    _ (k0_off6_inb k 1) (k0_pay18 acc.2.2.2) (k0_pay19 v215))
    _ (k0_off7_inb k 1) (k0_pay20 acc.2.2.1) (k0_pay21 v216))
    _ (k0_off8_inb k 1) (k0_pay22 acc.2.2.2) (k0_pay23 v216)

/-- ONE TRIP at a symbolic `k`. -/
theorem trip (X : BufTy.Contents (Elt F) arg10.view.ty) (f : BufTy.Contents (Elt F) arg12.view.ty) (k : Fin k0_t2_loop.trips) (acc : Carry F) :
    Held (F := F) c arg10 arg12 X f
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 v211 v212 v215 v216 v219_0 v219_1 v219_2 v219_3 c0_i32_202 k acc)
          (fun yld => iprop(⌜yld = adv arg10 v211 v212 v215 X k acc⌝ ∗ Held (F := F) c arg10 arg12 X (record arg12 v215 v216 f k acc))) := by
  have hk : k.val < 512 := Nat.lt_of_lt_of_le k.isLt k0_t2_abs.2.1
  obtain ⟨a0, a1, a2, a3⟩ := acc
  unfold k0_t2_body
  iintro ⟨H10, H12⟩
  sl_exec
  sl_step
  isplitr
  · ipureintro; rfl
  isplitl [H10]; · iexact H10
  iexact H12

/-- The carried state before trip `k`. -/
def hst (X : BufTy.Contents (Elt F) arg10.view.ty) (init : Carry F) : ℕ → Carry F
  | 0 => init
  | k + 1 => if h : k < k0_t2_loop.trips then adv arg10 v211 v212 v215 X ⟨k, h⟩ (hst X init k) else hst X init k

/-- The table of states before trip `k`. -/
def tab (X : BufTy.Contents (Elt F) arg10.view.ty) (init : Carry F) (f : BufTy.Contents (Elt F) arg12.view.ty) :
    ℕ → BufTy.Contents (Elt F) arg12.view.ty
  | 0 => f
  | k + 1 => if h : k < k0_t2_loop.trips then record arg12 v215 v216 (tab X init f k) ⟨k, h⟩ (hst arg10 v211 v212 v215 X init k)
      else tab X init f k

theorem hst_succ (X : BufTy.Contents (Elt F) arg10.view.ty) (init : Carry F) (k : Fin k0_t2_loop.trips) :
    hst arg10 v211 v212 v215 X init (k.val + 1) = adv arg10 v211 v212 v215 X k (hst arg10 v211 v212 v215 X init k.val) := by
  rw [hst, dif_pos k.isLt]

theorem tab_succ (X : BufTy.Contents (Elt F) arg10.view.ty) (init : Carry F) (f : BufTy.Contents (Elt F) arg12.view.ty) (k : Fin k0_t2_loop.trips) :
    tab arg10 arg12 v211 v212 v215 v216 X init f (k.val + 1)
      = record arg12 v215 v216 (tab arg10 arg12 v211 v212 v215 v216 X init f k.val) k (hst arg10 v211 v212 v215 X init k.val) := by
  rw [tab, dif_pos k.isLt]

/-- Before trip `k`: the drives as they were, the table and the carried state by their recursions. -/
abbrev inv (X : BufTy.Contents (Elt F) arg10.view.ty) (f : BufTy.Contents (Elt F) arg12.view.ty) (init : Carry F) (k : ℕ) (acc : Carry F) : sProp 𝕄 :=
  iprop((arg10.view.loc (c : Thread nD τ) ↦[arg10.view.set]{fullShare} X)
    ∗ (arg12.view.loc (c : Thread nD τ) ↦[arg12.view.set]{fullShare} tab arg10 arg12 v211 v212 v215 v216 X init f k)
    ∗ ⌜acc = hst arg10 v211 v212 v215 X init k⌝)

set_option warn.classDefReducibility false in
/-- THE LATENT LOOP BY ITS INVARIANT. -/
@[sl_loop] def loopInv_k0_t2 (X : BufTy.Contents (Elt F) arg10.view.ty) (G_arg12 : BufTy.Contents (Elt F) arg12.view.ty) (init : Carry F) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 v211 v212 v215 v216 v219_0 v219_1 v219_2 v219_3 c0_i32_202 init where
  inv := inv c arg10 arg12 v211 v212 v215 v216 X G_arg12 init
  step k acc := by
    iintro ⟨H10, H12, %h_acc⟩
    subst h_acc
    iapply (wp_wand_r Idealize.ShloMosaic.frame (wpE (defs₀ (F := F)) Variants.none (c : Thread nD τ) none) Set.univ)
    isplitl [H10 H12]
    · iapply (trip c i arg1 harg1 arg2 harg2 arg3 harg3 arg4 harg4 arg5 harg5 arg6 harg6 arg7 harg7 arg8 harg8 arg9 harg9 arg10 harg10 arg11 harg11 arg12 harg12 v211 v212 v215 v216 v219_0 v219_1 v219_2 v219_3 c0_i32_202 X _ k _)
      isplitl [H10]; · iexact H10
      iexact H12
    · iintro %yld ⟨%h_res, H10, H12⟩
      unfold inv; rw [hst_succ, tab_succ]
      isplitl [H10]; · iexact H10
      isplitl [H12]; · iexact H12
      ipureintro; exact h_res

end

end Cert.Proof.Ssm

end
-- ==== Proof.Orbit.lean ====
/- The recurrence `h ← a·h + s` of one complex state, written on its real and imaginary parts, and where the tables keep
   the chunk of a time step. -/
module

public import Idealize.ShloMosaic.Lib.Pointwise
public import proofs.«01_k».proof.Proof.Loop

@[expose] public section

set_option maxRecDepth 16384

noncomputable section

namespace Cert.Proof.Ssm

open Cert.KernelIdeal Cert.KernelIdeal.Gen
open Idealize.ShloMosaic

variable {F : FTy → Type} [FloatOps F]

/-- A complex number: its real and imaginary parts. -/
abbrev Z (F : FTy → Type) : Type := F .f32 × F .f32

/-- One step: `a·h + s`. -/
def turn (a h s : Z F) : Z F :=
  (FloatOps.addf (FloatOps.subf (FloatOps.mulf a.1 h.1) (FloatOps.mulf a.2 h.2)) s.1,
    FloatOps.addf (FloatOps.addf (FloatOps.mulf a.1 h.2) (FloatOps.mulf a.2 h.1)) s.2)

/-- The states from `h₀` under the drives `d`. -/
def orbit (a h₀ : Z F) (d : ℕ → Z F) : ℕ → Z F
  | 0 => h₀
  | n + 1 => turn a (orbit a h₀ d n) (d n)

/-- Two orbits under drives that agree below `n` agree at `n`. -/
theorem orbit_congr (a h₀ : Z F) (d d' : ℕ → Z F) (n : ℕ) (h : ∀ k < n, d k = d' k) : orbit a h₀ d n = orbit a h₀ d' n := by
  induction n with
  | zero => rfl
  | succ n ih => rw [orbit, orbit, ih fun k hk => h k (by omega), h n (by omega)]

/-- An orbit goes on from where it was. -/
theorem orbit_add (a h₀ : Z F) (d : ℕ → Z F) (m n : ℕ) :
    orbit a h₀ d (m + n) = orbit a (orbit a h₀ d m) (fun k => d (m + k)) n := by
  induction n with
  | zero => rfl
  | succ n ih => rw [← Nat.add_assoc, orbit, orbit, ih]

/-- Lane `l`'s chunk at step `t` of `N`: the first 64 lanes run forward, the others backward. -/
def chunkAt (N : ℕ) (l : Fin 128) (t : ℕ) : ℕ := if l.val < 64 then t else N - 1 - t

/-- Batch `b`'s drive at chunk `n` is row `8·(N·b + n) + g` of its table, real parts in plane 0, imaginary in plane 1. -/
def driveOf (rows : ℕ) [NeZero rows] (N : ℕ) (R : (⟨3, ![2, rows, 128]⟩ : Shape).Idx → F .f32) (b : Fin 2) (g : Fin 8) (l : Fin 128) (t : ℕ) : Z F :=
  (R (ix3 0 (Fin.ofNat rows (8 * (N * b.val) + 8 * chunkAt N l t + g.val)) l),
    R (ix3 1 (Fin.ofNat rows (8 * (N * b.val) + 8 * chunkAt N l t + g.val)) l))

/-- The lane mask, and its complement. -/
theorem mask_at : ∀ (g : Fin 8) (l : Fin 128), k0_pay79 (ix2 g l) = if l.val < 64 then 1#1 else 0#1 := by decide +kernel
theorem mask'_at : ∀ (g : Fin 8) (l : Fin 128), k0_pay80 (ix2 g l) = if l.val < 64 then 0#1 else 1#1 := by decide +kernel

/-- The next real and imaginary parts of a batch's eight groups: `RF` the rows the forward lanes read, `RB` the backward. -/
def nextRe (v211 v212 : FVec F S8x128 .f32) (h h' : FVec F S8x128 .f32) (RF RB : FVec F S1x8x128 .f32) : FVec F S8x128 .f32 :=
  addf (subf (mulf v211 h) (mulf v212 h'))
    (select k0_pay79 (shapeCast S8x128 RF shapeCasts_S1x8x128_S8x128) (shapeCast S8x128 RB shapeCasts_S1x8x128_S8x128))
def nextIm (v211 v212 : FVec F S8x128 .f32) (h h' : FVec F S8x128 .f32) (RF RB : FVec F S1x8x128 .f32) : FVec F S8x128 .f32 :=
  addf (addf (mulf v211 h') (mulf v212 h))
    (select k0_pay79 (shapeCast S8x128 RF shapeCasts_S1x8x128_S8x128) (shapeCast S8x128 RB shapeCasts_S1x8x128_S8x128))

theorem select_mask (g : Fin 8) (l : Fin 128) (x y : F .f32) :
    Scalar.select (k0_pay79 (ix2 g l)) x y = if l.val < 64 then x else y := by
  rw [mask_at]; by_cases hl : l.val < 64 <;> simp [hl, Scalar.select]

theorem next_at (v211 v212 : FVec F S8x128 .f32) (h h' : FVec F S8x128 .f32) (RF RB RF' RB' : FVec F S1x8x128 .f32) (g : Fin 8) (l : Fin 128) :
    (nextRe v211 v212 h h' RF RB (ix2 g l), nextIm v211 v212 h h' RF' RB' (ix2 g l))
      = turn (v211 (ix2 g l), v212 (ix2 g l)) (h (ix2 g l), h' (ix2 g l))
          (if l.val < 64 then RF (ix3 0 g l) else RB (ix3 0 g l), if l.val < 64 then RF' (ix3 0 g l) else RB' (ix3 0 g l)) := by
  pointwise [nextRe, nextIm, turn]
  rw [select_mask, select_mask]

/-- The carried state's entry for batch `b`, group `g`, lane `l`. -/
def part (acc : Carry F) (b : Fin 2) (g : Fin 8) (l : Fin 128) : Z F :=
  if b.val = 0 then (acc.1 (ix2 g l), acc.2.1 (ix2 g l)) else (acc.2.2.1 (ix2 g l), acc.2.2.2 (ix2 g l))

/-- A load of eight rows, at an index. -/
theorem rows8_at {n : ℕ} [NeZero n] (M : Memref sig .tc .vmem ⟨3, ![2, n, 128]⟩ .f32) (X : BufTy.Contents (Elt F) M.view.ty)
    (off : Fin 3 → ℕ) (h : ∀ a, off a + S1x8x128.size a ≤ (⟨3, ![2, n, 128]⟩ : Shape).size a) (p : Fin 2) (r : ℕ) (e : off = ![p.val, r, 0])
    (g : Fin 8) (l : Fin 128) :
    View.readAt (Elt F) M.view (Rect.unit (s := ⟨3, ![2, n, 128]⟩) off S1x8x128.size h).toLoadRect X (ix3 0 g l)
      = M.view.read (Elt F) X (ix3 p (Fin.ofNat n (r + g.val)) l) := by
  subst e
  rw [View.readAt_apply]
  refine congrArg _ ?_
  have h1 : r + 8 ≤ n := h 1
  funext a
  match a with
  | ⟨0, _⟩ => exact Fin.ext (by show p.val + 1 * 0 = p.val; omega)
  | ⟨1, _⟩ => exact Fin.ext (by show r + 1 * g.val = (r + g.val) % n; rw [Nat.mod_eq_of_lt (by omega)]; omega)
  | ⟨2, _⟩ => exact Fin.ext (by show 0 + 1 * l.val = l.val; omega)

end Cert.Proof.Ssm

end
-- ==== Proof.Table.lean ====
/- What the latent loop leaves: the carried state is the recurrence's orbit, and the table keeps each step's state at the
   step's chunk. -/
module

public import proofs.«01_k».proof.Proof.Orbit

@[expose] public section

set_option maxRecDepth 16384

noncomputable section

namespace Cert.Proof.Ssm

open Cert.KernelIdeal Cert.KernelIdeal.Gen
open Idealize.ShloMosaic Idealize.ShloMosaic.TcCoe

variable {F : FTy → Type} [FloatOps F]

variable (arg10 : Memref sig .tc .vmem S2x8192x128 .f32) (arg12 : Memref sig .tc .vmem S2x8192x128 .f32)
  (v211 v212 : Vec F S8x128 .f32) (X : BufTy.Contents (Elt F) arg10.view.ty)

/-- The latent loop makes 512 trips. -/
theorem trips_latent : k0_t2_loop.trips = 512 := by decide +kernel

/-- Lane `l` of group `g`'s multiplier. -/
def mult (v211 v212 : Vec F S8x128 .f32) (g : Fin 8) (l : Fin 128) : Z F := (v211 (ix2 g l), v212 (ix2 g l))

/-- A trip turns each entry of the carried state. -/
theorem part_adv (k : Fin k0_t2_loop.trips) (acc : Carry F) (b : Fin 2) (g : Fin 8) (l : Fin 128) :
    part (adv arg10 v211 v212 k0_pay79 X k acc) b g l
      = turn (mult v211 v212 g l) (part acc b g l) (driveOf 8192 512 (arg10.view.read (Elt F) X) b g l k.val) := by
  have hk : k.val < 512 := Nat.lt_of_lt_of_le k.isLt k0_t2_abs.2.1
  have f5 (r : Fin 2) : rows arg10 X _ (k0_off5_inb k r) (ix3 0 g l) = arg10.view.read (Elt F) X (ix3 0 (Fin.ofNat 8192 (4096 * r.val + 8 * k.val + g.val)) l) :=
    rows8_at arg10 X _ (k0_off5_inb k r) 0 _ (k0_off5_eq k r) g l
  have f6 (r : Fin 2) : rows arg10 X _ (k0_off6_inb k r) (ix3 0 g l) = arg10.view.read (Elt F) X (ix3 1 (Fin.ofNat 8192 (4096 * r.val + 8 * k.val + g.val)) l) :=
    rows8_at arg10 X _ (k0_off6_inb k r) 1 _ (k0_off6_eq k r) g l
  have f7 (r : Fin 2) : rows arg10 X _ (k0_off7_inb k r) (ix3 0 g l) = arg10.view.read (Elt F) X (ix3 0 (Fin.ofNat 8192 (4096 * r.val + 4088 - 8 * k.val + g.val)) l) :=
    rows8_at arg10 X _ (k0_off7_inb k r) 0 _ (k0_off7_eq k r) g l
  have f8 (r : Fin 2) : rows arg10 X _ (k0_off8_inb k r) (ix3 0 g l) = arg10.view.read (Elt F) X (ix3 1 (Fin.ofNat 8192 (4096 * r.val + 4088 - 8 * k.val + g.val)) l) :=
    rows8_at arg10 X _ (k0_off8_inb k r) 1 _ (k0_off8_eq k r) g l
  match b with
  | ⟨0, _⟩ =>
    refine (next_at v211 v212 acc.1 acc.2.1 _ _ _ _ g l).trans ?_
    rw [f5 0, f6 0, f7 0, f8 0]
    simp only [part, mult, driveOf, chunkAt, if_true]
    by_cases hl : l.val < 64
    · simp only [hl, if_true]; rfl
    · simp only [hl, if_false]
      rw [show 4096 * (0 : Fin 2).val + 4088 - 8 * k.val = 8 * (512 * 0) + 8 * (512 - 1 - k.val) from by show 4096 * 0 + 4088 - 8 * k.val = _; omega]
  | ⟨1, _⟩ =>
    refine (next_at v211 v212 acc.2.2.1 acc.2.2.2 _ _ _ _ g l).trans ?_
    rw [f5 1, f6 1, f7 1, f8 1]
    simp only [part, mult, driveOf, chunkAt]
    by_cases hl : l.val < 64
    · simp only [hl, if_true]; rfl
    · simp only [hl, if_false]
      rw [show 4096 * (1 : Fin 2).val + 4088 - 8 * k.val = 8 * (512 * 1) + 8 * (512 - 1 - k.val) from by show 4096 * 1 + 4088 - 8 * k.val = _; omega]
      rfl

/-- Before trip `k` the carried state is the orbit's state `k`. -/
theorem hst_at (init : Carry F) (b : Fin 2) (g : Fin 8) (l : Fin 128) (k : ℕ) (hk : k ≤ 512) :
    part (hst arg10 v211 v212 k0_pay79 X init k) b g l
      = orbit (mult v211 v212 g l) (part init b g l) (driveOf 8192 512 (arg10.view.read (Elt F) X) b g l) k := by
  induction k with
  | zero => rfl
  | succ k ih =>
    have ht : k < k0_t2_loop.trips := Nat.lt_of_lt_of_eq (by omega) trips_latent.symm
    rw [show hst arg10 v211 v212 k0_pay79 X init (k + 1) = _ from hst_succ arg10 v211 v212 k0_pay79 X init ⟨k, ht⟩, part_adv, orbit,
      ih (by omega)]

/-- Where a mask holds. -/
theorem mem_on {t : Shape} (m : IVec t 1) (x : t.Idx) : x ∈ IVec.on m ↔ m x = 1#1 := by simp [IVec.on]

/-- A masked store through a rectangle, read where the rectangle sits. -/
theorem put_hit (M : Memref sig .tc .vmem S2x8192x128 .f32) (r : Rect S2x8192x128) (f : BufTy.Contents (Elt F) M.view.ty)
    (w : r.shape.Idx → Elt F .f32) (msk : IVec r.shape 1) (x : r.shape.Idx) :
    M.view.read (Elt F) (View.write (Elt F) (M.access r) f w (IVec.on msk)) (r.emb x)
      = if msk x = 1#1 then w x else M.view.read (Elt F) f (r.emb x) := by
  by_cases hm : msk x = 1#1
  · rw [if_pos hm]
    exact View.read_slice_write_emb r f w ((mem_on _ _).mpr hm)
  · rw [if_neg hm]
    refine View.read_slice_write_of_not_mem r f w _ fun hc => ?_
    obtain ⟨x', hx', he⟩ := Finset.mem_map.mp hc
    exact hm (r.emb.injective he ▸ (mem_on _ _).mp hx')

/-- The same store, read elsewhere. -/
theorem put_miss (M : Memref sig .tc .vmem S2x8192x128 .f32) (r : Rect S2x8192x128) (f : BufTy.Contents (Elt F) M.view.ty)
    (w : r.shape.Idx → Elt F .f32) (msk : IVec r.shape 1) (y : S2x8192x128.Idx) (hy : ∀ x : r.shape.Idx, r.emb x ≠ y) :
    M.view.read (Elt F) (View.write (Elt F) (M.access r) f w (IVec.on msk)) y = M.view.read (Elt F) f y :=
  View.read_slice_write_of_not_mem r f w _ fun hc => by
    obtain ⟨x', -, he⟩ := Finset.mem_map.mp hc
    exact hy x' he

/-- A masked store of the eight rows of chunk `n`, read at an index: it holds at that plane and those rows, where the
    mask does. -/
theorem put_at (M : Memref sig .tc .vmem S2x8192x128 .f32) (f : BufTy.Contents (Elt F) M.view.ty)
    (off : Fin 3 → ℕ) (h : ∀ a, off a + S1x8x128.size a ≤ S2x8192x128.size a) (w : Vec F S1x8x128 .f32) (msk : IVec S1x8x128 1)
    (p : Fin 2) (n : ℕ) (e : off = ![p.val, 8 * n, 0]) (q : Fin 2) (m : ℕ) (hm : m < 1024) (g : Fin 8) (l : Fin 128) :
    M.view.read (Elt F) (put M f off h w msk) (ix3 q (⟨8 * m + g.val, by omega⟩ : Fin 8192) l)
      = if (q = p ∧ m = n) ∧ msk (ix3 0 g l) = 1#1 then w (ix3 0 g l)
        else M.view.read (Elt F) f (ix3 q (⟨8 * m + g.val, by omega⟩ : Fin 8192) l) := by
  subst e
  by_cases hh : q = p ∧ m = n
  · obtain ⟨rfl, rfl⟩ := hh
    have hx : (Rect.unit (s := S2x8192x128) ![q.val, 8 * m, 0] S1x8x128.size h).emb (ix3 0 g l)
        = ix3 q (⟨8 * m + g.val, by omega⟩ : Fin 8192) l := by
      funext a
      match a with
      | ⟨0, _⟩ => exact Fin.ext (by show q.val + 1 * 0 = q.val; omega)
      | ⟨1, _⟩ => exact Fin.ext (by show 8 * m + 1 * g.val = 8 * m + g.val; omega)
      | ⟨2, _⟩ => exact Fin.ext (by show 0 + 1 * l.val = l.val; omega)
    have := put_hit M (Rect.unit (s := S2x8192x128) ![q.val, 8 * m, 0] S1x8x128.size h) f w msk (ix3 0 g l)
    rw [hx] at this
    simp only [true_and, and_self]
    exact this
  · rw [if_neg (fun hc => hh hc.1)]
    refine put_miss M (Rect.unit (s := S2x8192x128) ![p.val, 8 * n, 0] S1x8x128.size h) f w msk _ fun x hx => hh ?_
    have h0 : p.val + 1 * (x 0).val = q.val := congrArg (fun y : S2x8192x128.Idx => (y 0).val) hx
    have h1 : 8 * n + 1 * (x 1).val = 8 * m + g.val := congrArg (fun y : S2x8192x128.Idx => (y 1).val) hx
    have b0 : (x 0).val < 1 := (x 0).isLt
    have b1 : (x 1).val < 8 := (x 1).isLt
    exact ⟨Fin.ext (by omega), by omega⟩

/-- What each store writes and where its mask holds. -/
theorem pay_at (h : FVec F S8x128 .f32) (g : Fin 8) (l : Fin 128) :
    shapeCast S1x8x128 h shapeCasts_S8x128_S1x8x128 (ix3 0 g l) = h (ix2 g l) := by pointwise

theorem msk_at (v : IVec S8x128 1) (g : Fin 8) (l : Fin 128) :
    shapeCast S1x8x128 v shapeCasts_S8x128_S1x8x128 (ix3 0 g l) = v (ix2 g l) := by pointwise

/-- The component a plane holds. -/
def comp (q : Fin 2) (z : Z F) : F .f32 := if q.val = 0 then z.1 else z.2

/-- One trip's record: chunk `k` of the first 64 lanes and chunk `511 - k` of the others take the entering state. -/
theorem record_at (f : BufTy.Contents (Elt F) arg12.view.ty) (k : Fin k0_t2_loop.trips) (acc : Carry F)
    (q b : Fin 2) (n : Fin 512) (g : Fin 8) (l : Fin 128) :
    arg12.view.read (Elt F) (record arg12 k0_pay79 k0_pay80 f k acc) (ix3 q (⟨8 * (512 * b.val + n.val) + g.val, by omega⟩ : Fin 8192) l)
      = if chunkAt 512 l n.val = k.val then comp q (part acc b g l)
        else arg12.view.read (Elt F) f (ix3 q (⟨8 * (512 * b.val + n.val) + g.val, by omega⟩ : Fin 8192) l) := by
  have hk : k.val < 512 := Nat.lt_of_lt_of_le k.isLt k0_t2_abs.2.1
  have hn := n.isLt
  have hb := b.isLt
  unfold record
  rw [put_at arg12 _ _ _ _ _ 1 (512 + 511 - k.val) ((k0_off8_eq k 1).trans (by congr 2; show 4096 * 1 + 4088 - 8 * k.val = _; omega)) q _ (by omega) g l,
    put_at arg12 _ _ _ _ _ 0 (512 + 511 - k.val) ((k0_off7_eq k 1).trans (by congr 2; show 4096 * 1 + 4088 - 8 * k.val = _; omega)) q _ (by omega) g l,
    put_at arg12 _ _ _ _ _ 1 (512 + k.val) ((k0_off6_eq k 1).trans (by congr 2; show 4096 * 1 + 8 * k.val = _; omega)) q _ (by omega) g l,
    put_at arg12 _ _ _ _ _ 0 (512 + k.val) ((k0_off5_eq k 1).trans (by congr 2; show 4096 * 1 + 8 * k.val = _; omega)) q _ (by omega) g l,
    put_at arg12 _ _ _ _ _ 1 (511 - k.val) ((k0_off8_eq k 0).trans (by congr 2; show 4096 * 0 + 4088 - 8 * k.val = _; omega)) q _ (by omega) g l,
    put_at arg12 _ _ _ _ _ 0 (511 - k.val) ((k0_off7_eq k 0).trans (by congr 2; show 4096 * 0 + 4088 - 8 * k.val = _; omega)) q _ (by omega) g l,
    put_at arg12 _ _ _ _ _ 1 k.val ((k0_off6_eq k 0).trans (by congr 2; show 4096 * 0 + 8 * k.val = _; omega)) q _ (by omega) g l,
    put_at arg12 _ _ _ _ _ 0 k.val ((k0_off5_eq k 0).trans (by congr 2; show 4096 * 0 + 8 * k.val = _; omega)) q _ (by omega) g l]
  simp only [k0_pay4, k0_pay5, k0_pay6, k0_pay7, k0_pay8, k0_pay9, k0_pay10, k0_pay11, k0_pay16, k0_pay17, k0_pay18, k0_pay19,
    k0_pay20, k0_pay21, k0_pay22, k0_pay23, pay_at, msk_at, mask_at, mask'_at, chunkAt, comp, part]
  by_cases hl : l.val < 64
  · simp only [hl, if_true, if_false, and_true, show ((0#1 : BitVec 1) = 1#1) = False from by decide, and_false]
    have hq : q = 0 ∨ q = 1 := by omega
    have hb' : b = 0 ∨ b = 1 := by omega
    rcases hq with rfl | rfl <;> rcases hb' with rfl | rfl <;> by_cases hnk : n.val = k.val <;> simp [hnk] <;> omega
  · simp only [hl, if_false, and_true, show ((0#1 : BitVec 1) = 1#1) = False from by decide, and_false]
    have hq : q = 0 ∨ q = 1 := by omega
    have hb' : b = 0 ∨ b = 1 := by omega
    have e1 : (512 * b.val + n.val = 512 + 511 - k.val) ↔ (b.val = 1 ∧ 512 - 1 - n.val = k.val) := by omega
    have e0 : (512 * b.val + n.val = 511 - k.val) ↔ (b.val = 0 ∧ 512 - 1 - n.val = k.val) := by omega
    simp only [e0, e1]
    rcases hq with rfl | rfl <;> rcases hb' with rfl | rfl <;> by_cases hnk : 512 - 1 - n.val = k.val <;> simp [hnk]

/-- After `k` trips a chunk whose step is past holds its state. -/
theorem tab_upto (init : Carry F) (f : BufTy.Contents (Elt F) arg12.view.ty) (q b : Fin 2) (n : Fin 512) (g : Fin 8) (l : Fin 128)
    (k : ℕ) (hk : k ≤ 512) (hn : chunkAt 512 l n.val < k) :
    arg12.view.read (Elt F) (tab arg10 arg12 v211 v212 k0_pay79 k0_pay80 X init f k)
        (ix3 q (⟨8 * (512 * b.val + n.val) + g.val, by omega⟩ : Fin 8192) l)
      = comp q (orbit (mult v211 v212 g l) (part init b g l) (driveOf 8192 512 (arg10.view.read (Elt F) X) b g l) (chunkAt 512 l n.val)) := by
  induction k with
  | zero => omega
  | succ k ih =>
    have ht : k < k0_t2_loop.trips := Nat.lt_of_lt_of_eq (by omega) trips_latent.symm
    rw [show tab arg10 arg12 v211 v212 k0_pay79 k0_pay80 X init f (k + 1) = _ from
      tab_succ arg10 arg12 v211 v212 k0_pay79 k0_pay80 X init f ⟨k, ht⟩, record_at]
    by_cases h : chunkAt 512 l n.val = k
    · rw [if_pos h, h, hst_at arg10 v211 v212 X init b g l k (by omega)]
    · rw [if_neg h]; exact ih (by omega) (by omega)

theorem chunkAt_lt (l : Fin 128) (n : Fin 512) : chunkAt 512 l n.val < 512 := by
  unfold chunkAt; split <;> omega

/-- The table the loop leaves: every chunk holds its step's state. -/
theorem tab_at (init : Carry F) (f : BufTy.Contents (Elt F) arg12.view.ty) (q b : Fin 2) (n : Fin 512) (g : Fin 8) (l : Fin 128) :
    arg12.view.read (Elt F) (tab arg10 arg12 v211 v212 k0_pay79 k0_pay80 X init f k0_t2_loop.trips)
        (ix3 q (⟨8 * (512 * b.val + n.val) + g.val, by omega⟩ : Fin 8192) l)
      = comp q (orbit (mult v211 v212 g l) (part init b g l) (driveOf 8192 512 (arg10.view.read (Elt F) X) b g l) (chunkAt 512 l n.val)) := by
  rw [trips_latent]
  exact tab_upto arg10 arg12 v211 v212 X init f q b n g l 512 le_rfl (chunkAt_lt l n)

end Cert.Proof.Ssm

end
-- ==== Proof.Ctx.lean ====
/- What the context loop leaves: the state the latent loop starts from. -/
module

public import proofs.«01_k».proof.Proof.Table

@[expose] public section

set_option maxRecDepth 16384

noncomputable section

namespace Cert.Proof.Ssm

open Cert.KernelIdeal Cert.KernelIdeal.Gen
open Idealize.ShloMosaic Idealize.ShloMosaic.TcCoe

variable {F : FTy → Type} [FloatOps F]

section
variable (c : Dev nD) (i : grid0.Coords)
  (arg1 : Memref sig .tc .vmem S16x128x1024 .bf16) (harg1 : arg1.IsWhole) (arg2 : Memref sig .tc .vmem S16x128x128 .bf16) (harg2 : arg2.IsWhole)
  (arg3 : Memref sig .tc .vmem S8x256x256 .bf16) (harg3 : arg3.IsWhole) (arg4 : Memref sig .tc .vmem S8x256x256 .bf16) (harg4 : arg4.IsWhole)
  (arg5 : Memref sig .tc .vmem S8x256x256 .bf16) (harg5 : arg5.IsWhole) (arg6 : Memref sig .tc .vmem S8x256 .f32) (harg6 : arg6.IsWhole)
  (arg7 : Memref sig .tc .vmem S256x2048 .f32) (harg7 : arg7.IsWhole) (arg8 : Memref sig .tc .vmem S16x128x1024 .bf16) (harg8 : arg8.IsWhole)
  (arg9 : Memref sig .tc .vmem S256x2048 .bf16) (harg9 : arg9.IsWhole) (arg10 : Memref sig .tc .vmem S2x8192x128 .f32) (harg10 : arg10.IsWhole)
  (arg11 : Memref sig .tc .vmem S2x1024x128 .f32) (harg11 : arg11.IsWhole) (arg12 : Memref sig .tc .vmem S2x8192x128 .f32) (harg12 : arg12.IsWhole)

/-- The context loop makes 16 trips. -/
theorem trips_ctx : k0_t1_loop.trips = 16 := by decide +kernel

abbrev rowsC (M : Memref sig .tc .vmem S2x1024x128 .f32) (X : BufTy.Contents (Elt F) M.view.ty) (off : Fin 3 → ℕ)
    (h : ∀ a, off a + S1x8x128.size a ≤ S2x1024x128.size a) : Vec F S1x8x128 .f32 :=
  View.readAt (Elt F) M.view (Rect.unit (s := S2x1024x128) off S1x8x128.size h).toLoadRect X

/-- The state after a trip of the context loop. -/
def advC (v211 v212 : Vec F S8x128 .f32) (X : BufTy.Contents (Elt F) arg11.view.ty) (k : Fin k0_t1_loop.trips) (acc : Carry F) : Carry F :=
  (nextRe v211 v212 acc.1 acc.2.1 (rowsC arg11 X _ (k0_off1_inb k 0)) (rowsC arg11 X _ (k0_off2_inb k 0)),
    nextIm v211 v212 acc.1 acc.2.1 (rowsC arg11 X _ (k0_off3_inb k 0)) (rowsC arg11 X _ (k0_off4_inb k 0)),
    nextRe v211 v212 acc.2.2.1 acc.2.2.2 (rowsC arg11 X _ (k0_off1_inb k 1)) (rowsC arg11 X _ (k0_off2_inb k 1)),
    nextIm v211 v212 acc.2.2.1 acc.2.2.2 (rowsC arg11 X _ (k0_off3_inb k 1)) (rowsC arg11 X _ (k0_off4_inb k 1)))

theorem trip_ctx (v189 v193 v211 v212) (X : BufTy.Contents (Elt F) arg11.view.ty) (k : Fin k0_t1_loop.trips) (acc : Carry F) :
    tripR_k0_t1 (F := F) Variants.none c none i arg1 harg1 arg2 harg2 arg3 harg3 arg4 harg4 arg5 harg5 arg6 harg6 arg7 harg7 arg8 harg8 arg9 harg9 arg10 harg10 arg11 harg11 arg12 harg12 v189 v193 v211 v212 X k acc
      = advC arg11 v211 v212 X k acc := by
  unfold tripR_k0_t1 trip_k0_t1
  rfl

theorem part_advC (v211 v212 : Vec F S8x128 .f32) (X : BufTy.Contents (Elt F) arg11.view.ty) (k : Fin k0_t1_loop.trips) (acc : Carry F)
    (b : Fin 2) (g : Fin 8) (l : Fin 128) :
    part (advC arg11 v211 v212 X k acc) b g l
      = turn (mult v211 v212 g l) (part acc b g l) (driveOf 1024 16 (arg11.view.read (Elt F) X) b g l k.val) := by
  have hk : k.val < 16 := Nat.lt_of_lt_of_le k.isLt k0_t1_abs.2.1
  have f1 (r : Fin 2) : rowsC arg11 X _ (k0_off1_inb k r) (ix3 0 g l) = arg11.view.read (Elt F) X (ix3 0 (Fin.ofNat 1024 (128 * r.val + 8 * k.val + g.val)) l) :=
    rows8_at arg11 X _ (k0_off1_inb k r) 0 _ (k0_off1_eq k r) g l
  have f2 (r : Fin 2) : rowsC arg11 X _ (k0_off2_inb k r) (ix3 0 g l) = arg11.view.read (Elt F) X (ix3 0 (Fin.ofNat 1024 ((128 * r.val + 120) - 8 * k.val + g.val)) l) :=
    rows8_at arg11 X _ (k0_off2_inb k r) 0 _ (k0_off2_eq k r) g l
  have f3 (r : Fin 2) : rowsC arg11 X _ (k0_off3_inb k r) (ix3 0 g l) = arg11.view.read (Elt F) X (ix3 1 (Fin.ofNat 1024 (128 * r.val + 8 * k.val + g.val)) l) :=
    rows8_at arg11 X _ (k0_off3_inb k r) 1 _ (k0_off3_eq k r) g l
  have f4 (r : Fin 2) : rowsC arg11 X _ (k0_off4_inb k r) (ix3 0 g l) = arg11.view.read (Elt F) X (ix3 1 (Fin.ofNat 1024 ((128 * r.val + 120) - 8 * k.val + g.val)) l) :=
    rows8_at arg11 X _ (k0_off4_inb k r) 1 _ (k0_off4_eq k r) g l
  match b with
  | ⟨0, _⟩ =>
    refine (next_at v211 v212 acc.1 acc.2.1 _ _ _ _ g l).trans ?_
    rw [f1 0, f2 0, f3 0, f4 0]
    simp only [part, mult, driveOf, chunkAt, if_true]
    by_cases hl : l.val < 64
    · simp only [hl, if_true]; rfl
    · simp only [hl, if_false]
      rw [show (128 * (0 : Fin 2).val + 120) - 8 * k.val = 8 * (16 * 0) + 8 * (16 - 1 - k.val) from by show (128 * 0 + 120) - 8 * k.val = _; omega]
  | ⟨1, _⟩ =>
    refine (next_at v211 v212 acc.2.2.1 acc.2.2.2 _ _ _ _ g l).trans ?_
    rw [f1 1, f2 1, f3 1, f4 1]
    simp only [part, mult, driveOf, chunkAt]
    by_cases hl : l.val < 64
    · simp only [hl, if_true]; rfl
    · simp only [hl, if_false]
      rw [show (128 * (1 : Fin 2).val + 120) - 8 * k.val = 8 * (16 * 1) + 8 * (16 - 1 - k.val) from by show (128 * 1 + 120) - 8 * k.val = _; omega]
      rfl

/-- Before trip `k` of the context loop the carried state is the orbit's state `k`. -/
theorem st_at (v189 v193 v211 v212) (X : BufTy.Contents (Elt F) arg11.view.ty) (init : Carry F)
    (b : Fin 2) (g : Fin 8) (l : Fin 128) (k : ℕ) (hk : k ≤ 16) :
    part (st_k0_t1 (F := F) Variants.none c none i arg1 harg1 arg2 harg2 arg3 harg3 arg4 harg4 arg5 harg5 arg6 harg6 arg7 harg7 arg8 harg8 arg9 harg9 arg10 harg10 arg11 harg11 arg12 harg12 v189 v193 v211 v212 X init k) b g l
      = orbit (mult v211 v212 g l) (part init b g l) (driveOf 1024 16 (arg11.view.read (Elt F) X) b g l) k := by
  induction k with
  | zero => rfl
  | succ k ih =>
    have ht : k < k0_t1_loop.trips := Nat.lt_of_lt_of_eq (by omega) trips_ctx.symm
    rw [orbit, ← ih (by omega), ← part_advC arg11 v211 v212 X ⟨k, ht⟩,
      ← trip_ctx c i arg1 harg1 arg2 harg2 arg3 harg3 arg4 harg4 arg5 harg5 arg6 harg6 arg7 harg7 arg8 harg8 arg9 harg9 arg10 harg10 arg11 harg11 arg12 harg12 v189 v193 v211 v212 X ⟨k, ht⟩]
    exact congrArg (fun z => part z b g l) (st_k0_t1_succ Variants.none c none i arg1 harg1 arg2 harg2 arg3 harg3 arg4 harg4 arg5 harg5 arg6 harg6 arg7 harg7 arg8 harg8 arg9 harg9 arg10 harg10 arg11 harg11 arg12 harg12 v189 v193 v211 v212 X init ⟨k, ht⟩)

end
end Cert.Proof.Ssm
end
-- ==== Proof.Drives.lean ====
/- The drive tables: sixteen strided stores, one per plane and group, and what one grid point's blocks make of them. -/
module

public import proofs.«01_k».proof.Proof.Ctx

@[expose] public section

set_option maxRecDepth 16384

noncomputable section

namespace Cert.Proof.Ssm

open Cert.KernelIdeal Cert.KernelIdeal.Gen
open Idealize.ShloMosaic Idealize.ShloMosaic.TcCoe

variable {F : FTy → Type} [FloatOps F]

section
variable {n N : ℕ} (hN : N = 8 * n)

/-- Every eighth row of plane `p`, from row `g`. -/
def every8 (p : Fin 2) (g : Fin 8) : Rect (⟨3, ![2, N, 128]⟩ : Shape) :=
  ⟨⟨![p.val, g.val, 0], (⟨3, ![1, n, 128]⟩ : Shape).size, ![1, 8, 1], fun a => by
    match a with
    | ⟨0, _⟩ => right; show p.val + 1 * (1 - 1) < 2; omega
    | ⟨1, _⟩ =>
      by_cases h0 : n = 0
      · left; exact h0
      · right; show g.val + 8 * (n - 1) < N; omega
    | ⟨2, _⟩ => right; show 0 + 1 * (128 - 1) < 128; omega⟩,
   fun a => by match a with | ⟨0, _⟩ => exact Nat.one_pos | ⟨1, _⟩ => exact Nat.succ_pos 7 | ⟨2, _⟩ => exact Nat.one_pos⟩

theorem every8_at (p : Fin 2) (g : Fin 8) (q : Fin n) (l : Fin 128) (hr : 8 * q.val + g.val < N) :
    (every8 hN p g).emb (ix3 0 q l : (⟨3, ![1, n, 128]⟩ : Shape).Idx) = ix3 p ⟨8 * q.val + g.val, hr⟩ l := by
  funext a
  match a with
  | ⟨0, _⟩ => exact Fin.ext (by show p.val + 1 * 0 = p.val; omega)
  | ⟨1, _⟩ => exact Fin.ext (by show g.val + 8 * q.val = 8 * q.val + g.val; omega)
  | ⟨2, _⟩ => exact Fin.ext (by show 0 + 1 * l.val = l.val; omega)

/-- The sixteen stores, the newest first. -/
def pieces8 (W : Fin 2 → Fin 8 → (⟨3, ![1, n, 128]⟩ : Shape).Idx → F .f32) : List (View.Piece (Elt F) (⟨3, ![2, N, 128]⟩ : Shape) .f32) :=
  ([7, 6, 5, 4, 3, 2, 1, 0] : List (Fin 8)).flatMap fun g => [⟨every8 hN 1 g, W 1 g⟩, ⟨every8 hN 0 g, W 0 g⟩]

theorem allg : ∀ g : Fin 8, g ∈ ([7, 6, 5, 4, 3, 2, 1, 0] : List (Fin 8)) := by decide

/-- The table they leave. -/
theorem pieces8_at {κ : Kind} {sp : Space} (v : View sig κ sp (⟨3, ![2, N, 128]⟩ : Shape) .f32) (f : v.ty.Contents (Elt F))
    (W : Fin 2 → Fin 8 → (⟨3, ![1, n, 128]⟩ : Shape).Idx → F .f32) (p : Fin 2) (g : Fin 8) (q : Fin n) (l : Fin 128) (hr : 8 * q.val + g.val < N) :
    v.read (Elt F) (v.writes (Elt F) f (pieces8 hN W)) (ix3 p ⟨8 * q.val + g.val, hr⟩ l) = W p g (ix3 0 q l) := by
  have hp : p = 0 ∨ p = 1 := by omega
  have mem : (⟨every8 hN p g, W p g⟩ : View.Piece (Elt F) (⟨3, ![2, N, 128]⟩ : Shape) .f32) ∈ pieces8 hN W := by
    refine List.mem_flatMap.2 ⟨g, allg g, ?_⟩
    rcases hp with rfl | rfl
    · exact List.mem_cons_of_mem _ List.mem_cons_self
    · exact List.mem_cons_self
  rw [← every8_at hN p g q l hr]
  refine View.read_writes_of_unique v f ⟨every8 hN p g, W p g⟩ (ix3 0 q l) _ mem fun r hr' hx => ?_
  obtain ⟨g', -, hg'⟩ := List.mem_flatMap.1 hr'
  have key : ∀ p' : Fin 2, (every8 hN p g).emb (ix3 0 q l : (⟨3, ![1, n, 128]⟩ : Shape).Idx) ∈ (every8 hN p' g').set → p' = p ∧ g' = g := by
    intro p' h
    rw [← Rect.map_emb_univ] at h
    obtain ⟨x, -, hx⟩ := Finset.mem_map.1 h
    rw [every8_at hN p g q l hr] at hx
    have h0 : p'.val + 1 * (x 0).val = p.val := congrArg (fun y : (⟨3, ![2, N, 128]⟩ : Shape).Idx => (y 0).val) hx
    have h1 : g'.val + 8 * (x 1).val = 8 * q.val + g.val := congrArg (fun y : (⟨3, ![2, N, 128]⟩ : Shape).Idx => (y 1).val) hx
    have b0 : (x 0).val < 1 := (x 0).isLt
    exact ⟨Fin.ext (by omega), Fin.ext (by omega)⟩
  rcases List.mem_cons.1 hg' with rfl | hg'
  · obtain ⟨rfl, rfl⟩ := key 1 hx; rfl
  · obtain rfl := List.mem_singleton.1 hg'
    obtain ⟨rfl, rfl⟩ := key 0 hx; rfl

end

/-- Group `g`'s sixteen channels of a block of latents, of a block of contexts; group `g`'s matrix. -/
theorem ublk_inb (g : Fin 8) : ∀ a, (![0, 16 * g.val, 0] : Fin 3 → ℕ) a + S16x16x1024.size a ≤ S16x128x1024.size a := by
  revert g; decide +kernel
theorem cblk_inb (g : Fin 8) : ∀ a, (![0, 16 * g.val, 0] : Fin 3 → ℕ) a + S16x16x128.size a ≤ S16x128x128.size a := by
  revert g; decide +kernel
theorem mat_inb (g : Fin 8) : ∀ a, (![g.val, 0, 0] : Fin 3 → ℕ) a + S1x256x256.size a ≤ S8x256x256.size a := by
  revert g; decide +kernel
def ublk (X : Vec F S16x128x1024 .bf16) (g : Fin 8) : Vec F S16x16x1024 .bf16 := fun j =>
  X ((Rect.unit (s := S16x128x1024) ![0, 16 * g.val, 0] S16x16x1024.size (ublk_inb g)).toLoadRect.idx j)
def cblk (X : Vec F S16x128x128 .bf16) (g : Fin 8) : Vec F S16x16x128 .bf16 := fun j =>
  X ((Rect.unit (s := S16x128x128) ![0, 16 * g.val, 0] S16x16x128.size (cblk_inb g)).toLoadRect.idx j)
def mat (X : Vec F S8x256x256 .bf16) (g : Fin 8) : Vec F S1x256x256 .bf16 := fun j =>
  X ((Rect.unit (s := S8x256x256) ![g.val, 0, 0] S1x256x256.size (mat_inb g)).toLoadRect.idx j)
/-- The multipliers' real parts and imaginary parts. -/
def aRe (X : Vec F S8x256 .f32) : Vec F S8x128 .f32 := fun j =>
  X ((Rect.unit (s := S8x256) ![0, 0] S8x128.size inb_S8x256_S8x128_0_0).toLoadRect.idx j)
def aIm (X : Vec F S8x256 .f32) : Vec F S8x128 .f32 := fun j =>
  X ((Rect.unit (s := S8x256) ![0, 128] S8x128.size inb_S8x256_S8x128_0_128).toLoadRect.idx j)

/-- The latents' drives and the contexts': plane `p`, group `g`, one row per chunk. -/
def dLat (X1 : Vec F S16x128x1024 .bf16) (X3 : Vec F S8x256x256 .bf16) (p : Fin 2) (g : Fin 8) : FVec F S1x1024x128 .f32 :=
  match p with
  | ⟨0, _⟩ => k0_pay27 (ublk X1 g) (mat X3 g)
  | ⟨1, _⟩ => k0_pay28 (ublk X1 g) (mat X3 g)
def dCtx (X2 : Vec F S16x128x128 .bf16) (X3 : Vec F S8x256x256 .bf16) (p : Fin 2) (g : Fin 8) : FVec F S1x128x128 .f32 :=
  match p with
  | ⟨0, _⟩ => k0_pay30 (cblk X2 g) (mat X3 g)
  | ⟨1, _⟩ => k0_pay32 (k0_pay31 (cblk X2 g) (mat X3 g))

/-- The drive of step `t`: sixteen steps of context, then the latents. -/
def driveAll (X1 : Vec F S16x128x1024 .bf16) (X2 : Vec F S16x128x128 .bf16) (X3 : Vec F S8x256x256 .bf16) (b : Fin 2) (g : Fin 8) (l : Fin 128) (t : ℕ) : Z F :=
  if t < 16 then
    (dCtx X2 X3 0 g (ix3 0 (Fin.ofNat 128 (16 * b.val + chunkAt 16 l t)) l), dCtx X2 X3 1 g (ix3 0 (Fin.ofNat 128 (16 * b.val + chunkAt 16 l t)) l))
  else
    (dLat X1 X3 0 g (ix3 0 (Fin.ofNat 1024 (512 * b.val + chunkAt 512 l (t - 16))) l), dLat X1 X3 1 g (ix3 0 (Fin.ofNat 1024 (512 * b.val + chunkAt 512 l (t - 16))) l))

/-- The state entering batch `b`'s chunk `n`. -/
def enter (X1 : Vec F S16x128x1024 .bf16) (X2 : Vec F S16x128x128 .bf16) (X3 : Vec F S8x256x256 .bf16) (X6 : Vec F S8x256 .f32)
    (b : Fin 2) (n : ℕ) (g : Fin 8) (l : Fin 128) : Z F :=
  orbit (mult (aRe X6) (aIm X6) g l) (k0_pay81 (ix2 g l), k0_pay81 (ix2 g l)) (driveAll X1 X2 X3 b g l) (16 + chunkAt 512 l n)

/-- Plane `p` of the entering states of group `g`, one row per chunk. -/
def hblk (X1 : Vec F S16x128x1024 .bf16) (X2 : Vec F S16x128x128 .bf16) (X3 : Vec F S8x256x256 .bf16) (X6 : Vec F S8x256 .f32)
    (p : Fin 2) (g : Fin 8) : Vec F S1x1024x128 .f32 := fun j =>
  comp p (enter X1 X2 X3 X6 ⟨(j 1).val / 512, by have : (j 1).val < 1024 := (j 1).isLt; omega⟩ ((j 1).val % 512) g (j 2))

/-- What a grid point writes: its groups' outputs, group `g` in channels `16·g …`. -/
def out8 (X1 : Vec F S16x128x1024 .bf16) (X2 : Vec F S16x128x128 .bf16) (X3 X4 X5 : Vec F S8x256x256 .bf16) (X6 : Vec F S8x256 .f32) :
    Vec F S16x128x1024 .bf16 := fun y =>
  let g : Fin 8 := ⟨(y 1).val / 16, by have : (y 1).val < 128 := (y 1).isLt; omega⟩
  k0_pay86 (hblk X1 X2 X3 X6 0 g) (hblk X1 X2 X3 X6 1 g) (ublk X1 g) (mat X4 g) (mat X5 g)
    (ix3 (y 0) ⟨(y 1).val % 16, Nat.mod_lt _ (by omega)⟩ (y 2))

end Cert.Proof.Ssm
end
-- ==== Proof.Entry.lean ====
/- The table of states after both loops: chunk `n` of batch `b` holds the state that enters it. -/
module

public import proofs.«01_k».proof.Proof.Drives

@[expose] public section

set_option maxRecDepth 16384

noncomputable section

namespace Cert.Proof.Ssm

open Cert.KernelIdeal Cert.KernelIdeal.Gen
open Idealize.ShloMosaic Idealize.ShloMosaic.TcCoe

variable {F : FTy → Type} [FloatOps F]

/-- A chunk's drive read off the stored table. -/
theorem driveOf_pieces {n N : ℕ} [NeZero n] [NeZero N] (hN : N = 8 * n) (C : ℕ) (hC : 2 * C ≤ n) {κ : Kind} {sp : Space}
    (v : View sig κ sp (⟨3, ![2, N, 128]⟩ : Shape) .f32) (f : v.ty.Contents (Elt F))
    (W : Fin 2 → Fin 8 → (⟨3, ![1, n, 128]⟩ : Shape).Idx → F .f32) (b : Fin 2) (g : Fin 8) (l : Fin 128) (t : ℕ) (ht : t < C) :
    driveOf N C (v.read (Elt F) (v.writes (Elt F) f (pieces8 hN W))) b g l t
      = (W 0 g (ix3 0 (Fin.ofNat n (C * b.val + chunkAt C l t)) l), W 1 g (ix3 0 (Fin.ofNat n (C * b.val + chunkAt C l t)) l)) := by
  have hc : chunkAt C l t < C := by unfold chunkAt; split <;> omega
  have hb : C * b.val ≤ C := by have := b.isLt; calc C * b.val ≤ C * 1 := Nat.mul_le_mul_left _ (by omega)
                                                  _ = C := by omega
  have hq : C * b.val + chunkAt C l t < n := by omega
  have hrow : (Fin.ofNat N (8 * (C * b.val) + 8 * chunkAt C l t + g.val))
      = ⟨8 * (⟨C * b.val + chunkAt C l t, hq⟩ : Fin n).val + g.val, by show 8 * (C * b.val + chunkAt C l t) + g.val < N; omega⟩ := by
    apply Fin.ext
    show (8 * (C * b.val) + 8 * chunkAt C l t + g.val) % N = 8 * (C * b.val + chunkAt C l t) + g.val
    rw [Nat.mod_eq_of_lt (by omega)]; omega
  have hn : Fin.ofNat n (C * b.val + chunkAt C l t) = ⟨C * b.val + chunkAt C l t, hq⟩ :=
    Fin.ext (Nat.mod_eq_of_lt hq)
  unfold driveOf
  rw [hrow, pieces8_at hN v f W 0 g ⟨_, hq⟩ l, pieces8_at hN v f W 1 g ⟨_, hq⟩ l, hn]

section
variable (c : Dev nD) (i : grid0.Coords)
  (arg1 : Memref sig .tc .vmem S16x128x1024 .bf16) (harg1 : arg1.IsWhole) (arg2 : Memref sig .tc .vmem S16x128x128 .bf16) (harg2 : arg2.IsWhole)
  (arg3 : Memref sig .tc .vmem S8x256x256 .bf16) (harg3 : arg3.IsWhole) (arg4 : Memref sig .tc .vmem S8x256x256 .bf16) (harg4 : arg4.IsWhole)
  (arg5 : Memref sig .tc .vmem S8x256x256 .bf16) (harg5 : arg5.IsWhole) (arg6 : Memref sig .tc .vmem S8x256 .f32) (harg6 : arg6.IsWhole)
  (arg7 : Memref sig .tc .vmem S256x2048 .f32) (harg7 : arg7.IsWhole) (arg8 : Memref sig .tc .vmem S16x128x1024 .bf16) (harg8 : arg8.IsWhole)
  (arg9 : Memref sig .tc .vmem S256x2048 .bf16) (harg9 : arg9.IsWhole) (arg10 : Memref sig .tc .vmem S2x8192x128 .f32) (harg10 : arg10.IsWhole)
  (arg11 : Memref sig .tc .vmem S2x1024x128 .f32) (harg11 : arg11.IsWhole) (arg12 : Memref sig .tc .vmem S2x8192x128 .f32) (harg12 : arg12.IsWhole)
  (v189 : FVec F S1024x256 .f32) (v193 : FVec F S1x1024x128 .f32)
  (X1 : Vec F S16x128x1024 .bf16) (X2 : Vec F S16x128x128 .bf16) (X3 X4 X5 : Vec F S8x256x256 .bf16) (X6 : Vec F S8x256 .f32)
  (g8 : BufTy.Contents (Elt F) arg8.view.ty)
  (g10 : BufTy.Contents (Elt F) arg10.view.ty) (g11 : BufTy.Contents (Elt F) arg11.view.ty) (g12 : BufTy.Contents (Elt F) arg12.view.ty)

/-- The state after the context. -/
def ctxEnd : Carry F :=
  st_k0_t1 (F := F) Variants.none c none i arg1 harg1 arg2 harg2 arg3 harg3 arg4 harg4 arg5 harg5 arg6 harg6 arg7 harg7 arg8 harg8 arg9 harg9 arg10 harg10 arg11 harg11 arg12 harg12 v189 v193 (aRe X6) (aIm X6)
    (arg11.view.writes (Elt F) g11 (pieces8 (n := 128) (N := 1024) rfl (dCtx X2 X3))) (k0_pay81, k0_pay81, k0_pay81, k0_pay81) k0_t1_loop.trips

/-- The table of states the body leaves. -/
def states12 : BufTy.Contents (Elt F) arg12.view.ty :=
  tab arg10 arg12 (aRe X6) (aIm X6) k0_pay79 k0_pay80 (arg10.view.writes (Elt F) g10 (pieces8 (n := 1024) (N := 8192) rfl (dLat X1 X3)))
    (ctxEnd c i arg1 harg1 arg2 harg2 arg3 harg3 arg4 harg4 arg5 harg5 arg6 harg6 arg7 harg7 arg8 harg8 arg9 harg9 arg10 harg10 arg11 harg11 arg12 harg12 v189 v193 X2 X3 X6 g11)
    g12 k0_t2_loop.trips

theorem states12_at (p b : Fin 2) (n : Fin 512) (g : Fin 8) (l : Fin 128) :
    arg12.view.read (Elt F) (states12 c i arg1 harg1 arg2 harg2 arg3 harg3 arg4 harg4 arg5 harg5 arg6 harg6 arg7 harg7 arg8 harg8 arg9 harg9 arg10 harg10 arg11 harg11 arg12 harg12 v189 v193 X1 X2 X3 X6 g10 g11 g12)
        (ix3 p (⟨8 * (512 * b.val + n.val) + g.val, by omega⟩ : Fin 8192) l)
      = comp p (enter X1 X2 X3 X6 b n.val g l) := by
  unfold states12
  rw [tab_at]
  unfold ctxEnd
  rw [trips_ctx, st_at c i arg1 harg1 arg2 harg2 arg3 harg3 arg4 harg4 arg5 harg5 arg6 harg6 arg7 harg7 arg8 harg8 arg9 harg9 arg10 harg10 arg11 harg11 arg12 harg12 v189 v193 (aRe X6) (aIm X6) _ _ b g l 16 le_rfl]
  unfold enter
  rw [orbit_add]
  have hc := chunkAt_lt l n
  congr 1
  have e0 : part (k0_pay81 (F := F), k0_pay81, k0_pay81, k0_pay81) b g l = (k0_pay81 (ix2 g l), k0_pay81 (ix2 g l)) := by
    unfold part; split <;> rfl
  rw [e0]
  have e1 : orbit (mult (aRe X6) (aIm X6) g l) (k0_pay81 (ix2 g l), k0_pay81 (ix2 g l))
        (driveOf 1024 16 (arg11.view.read (Elt F) (arg11.view.writes (Elt F) g11 (pieces8 (n := 128) (N := 1024) rfl (dCtx X2 X3)))) b g l) 16
      = orbit (mult (aRe X6) (aIm X6) g l) (k0_pay81 (ix2 g l), k0_pay81 (ix2 g l)) (driveAll X1 X2 X3 b g l) 16 := by
    refine orbit_congr _ _ _ _ _ fun k hk => ?_
    rw [driveOf_pieces (n := 128) (N := 1024) rfl 16 (by omega) arg11.view g11 (dCtx X2 X3) b g l k hk]
    unfold driveAll; rw [if_pos hk]
  rw [e1]
  refine orbit_congr _ _ _ _ _ fun k hk => ?_
  rw [driveOf_pieces (n := 1024) (N := 8192) rfl 512 (by omega) arg10.view g10 (dLat X1 X3) b g l k (by omega)]
  unfold driveAll; rw [if_neg (by omega), Nat.add_sub_cancel_left]

/-- A load of every eighth row, at an index. -/
theorem load8_at (T : BufTy.Contents (Elt F) arg12.view.ty) (p : Fin 2) (g : Fin 8) (q : Fin 1024) (l : Fin 128) :
    View.readAt (Elt F) arg12.view (every8 (n := 1024) (N := 8192) rfl p g).toLoadRect T (ix3 0 q l : S1x1024x128.Idx)
      = arg12.view.read (Elt F) T (ix3 p (⟨8 * q.val + g.val, by omega⟩ : Fin 8192) l) :=
  congrArg (arg12.view.read (Elt F) T) (every8_at (n := 1024) (N := 8192) rfl p g q l (by omega))

/-- So a strided load of the table is the block of entering states. -/
theorem hblk_eq (p : Fin 2) (g : Fin 8) :
    View.readAt (Elt F) arg12.view (every8 (n := 1024) (N := 8192) rfl p g).toLoadRect
        (states12 c i arg1 harg1 arg2 harg2 arg3 harg3 arg4 harg4 arg5 harg5 arg6 harg6 arg7 harg7 arg8 harg8 arg9 harg9 arg10 harg10 arg11 harg11 arg12 harg12 v189 v193 X1 X2 X3 X6 g10 g11 g12)
      = hblk X1 X2 X3 X6 p g := by
  funext j
  obtain ⟨z, q, l, rfl⟩ : ∃ (z : Fin 1) (q : Fin 1024) (l : Fin 128), j = ix3 z q l := ⟨j 0, j 1, j 2, by funext a; match a with | ⟨0, _⟩ => rfl | ⟨1, _⟩ => rfl | ⟨2, _⟩ => rfl⟩
  obtain rfl : z = 0 := Subsingleton.elim _ _
  have hq := q.isLt
  have hg := g.isLt
  refine (load8_at arg12 _ p g q l).trans (Eq.trans (congrArg _ ?_) (states12_at c i arg1 harg1 arg2 harg2 arg3 harg3 arg4 harg4 arg5 harg5 arg6 harg6 arg7 harg7 arg8 harg8 arg9 harg9 arg10 harg10 arg11 harg11 arg12 harg12 v189 v193 X1 X2 X3 X6 g10 g11 g12 p ⟨q.val / 512, by omega⟩ ⟨q.val % 512, Nat.mod_lt _ (by omega)⟩ g l))
  congr 1
  exact Fin.ext (by show 8 * q.val + g.val = 8 * (512 * (q.val / 512) + q.val % 512) + g.val; omega)

end

/-- The eight stores of the output, the newest first. -/
def pieces16 (W : Fin 8 → FVec F S16x16x1024 .bf16) : List (View.Piece (Elt F) S16x128x1024 .bf16) :=
  ([7, 6, 5, 4, 3, 2, 1, 0] : List (Fin 8)).map fun g => ⟨Rect.unit (s := S16x128x1024) ![0, 16 * g.val, 0] S16x16x1024.size (ublk_inb g), W g⟩

theorem pieces16_read (v : View sig .tc .vmem S16x128x1024 .bf16) (f : v.ty.Contents (Elt F)) (W : Fin 8 → FVec F S16x16x1024 .bf16) :
    v.read (Elt F) (v.writes (Elt F) f (pieces16 W)) = fun y => W ⟨(y 1).val / 16, by have : (y 1).val < 128 := (y 1).isLt; omega⟩
      (ix3 (y 0) ⟨(y 1).val % 16, Nat.mod_lt _ (by omega)⟩ (y 2)) := by
  funext y
  have hy : (y 1).val < 128 := (y 1).isLt
  refine View.read_writes_apply_of_pieces v f (fun y : S16x128x1024.Idx => W ⟨(y 1).val / 16, by have : (y 1).val < 128 := (y 1).isLt; omega⟩
      (ix3 (y 0) ⟨(y 1).val % 16, Nat.mod_lt _ (by omega)⟩ (y 2))) _ ?_ y ?_
  · intro p hp x
    obtain ⟨g, -, rfl⟩ := List.mem_map.1 hp
    have b1 : (x 1).val < 16 := (x 1).isLt
    have e1 : ((Rect.unit (s := S16x128x1024) ![0, 16 * g.val, 0] S16x16x1024.size (ublk_inb g)).emb x 1).val = 16 * g.val + 1 * (x 1).val := rfl
    show W g x = W ⟨((Rect.unit (s := S16x128x1024) ![0, 16 * g.val, 0] S16x16x1024.size (ublk_inb g)).emb x 1).val / 16, _⟩ _
    have hg : (⟨((Rect.unit (s := S16x128x1024) ![0, 16 * g.val, 0] S16x16x1024.size (ublk_inb g)).emb x 1).val / 16, by rw [e1]; omega⟩ : Fin 8) = g :=
      Fin.ext (by show ((Rect.unit (s := S16x128x1024) ![0, 16 * g.val, 0] S16x16x1024.size (ublk_inb g)).emb x 1).val / 16 = g.val; omega)
    rw [hg]
    congr 1
    funext a
    match a with
    | ⟨0, _⟩ => exact Fin.ext (by show (x 0).val = 0 + 1 * (x 0).val; omega)
    | ⟨1, _⟩ => exact Fin.ext (by show (x 1).val = (16 * g.val + 1 * (x 1).val) % 16; omega)
    | ⟨2, _⟩ => exact Fin.ext (by show (x 2).val = 0 + 1 * (x 2).val; omega)
  · refine ⟨_, List.mem_map.2 ⟨⟨(y 1).val / 16, by omega⟩, ?_, rfl⟩, ?_⟩
    · exact allg _
    · rw [← Rect.map_emb_univ]
      refine Finset.mem_map.2 ⟨ix3 (y 0) ⟨(y 1).val % 16, Nat.mod_lt _ (by omega)⟩ (y 2), Finset.mem_univ _, ?_⟩
      funext a
      match a with
      | ⟨0, _⟩ => exact Fin.ext (by show 0 + 1 * (y 0).val = (y 0).val; omega)
      | ⟨1, _⟩ => exact Fin.ext (by show 16 * ((y 1).val / 16) + 1 * ((y 1).val % 16) = (y 1).val; omega)
      | ⟨2, _⟩ => exact Fin.ext (by show 0 + 1 * (y 2).val = (y 2).val; omega)

end Cert.Proof.Ssm
end
-- ==== Proof.Body.lean ====
/- The body at one grid point. -/
module

public import proofs.«01_k».proof.Proof.Gen.KernelIdeal.Frame
public import proofs.«01_k».proof.Proof.Entry

@[expose] public section

set_option maxRecDepth 16384

noncomputable section

namespace Cert.Proof.Ssm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (arg1 : Memref sig .tc .vmem S16x128x1024 .bf16) (harg1 : arg1.IsWhole) (arg2 : Memref sig .tc .vmem S16x128x128 .bf16) (harg2 : arg2.IsWhole)
  (arg3 : Memref sig .tc .vmem S8x256x256 .bf16) (harg3 : arg3.IsWhole) (arg4 : Memref sig .tc .vmem S8x256x256 .bf16) (harg4 : arg4.IsWhole)
  (arg5 : Memref sig .tc .vmem S8x256x256 .bf16) (harg5 : arg5.IsWhole) (arg6 : Memref sig .tc .vmem S8x256 .f32) (harg6 : arg6.IsWhole)
  (arg7 : Memref sig .tc .vmem S256x2048 .f32) (harg7 : arg7.IsWhole) (arg8 : Memref sig .tc .vmem S16x128x1024 .bf16) (harg8 : arg8.IsWhole)
  (arg9 : Memref sig .tc .vmem S256x2048 .bf16) (harg9 : arg9.IsWhole) (arg10 : Memref sig .tc .vmem S2x8192x128 .f32) (harg10 : arg10.IsWhole)
  (arg11 : Memref sig .tc .vmem S2x1024x128 .f32) (harg11 : arg11.IsWhole) (arg12 : Memref sig .tc .vmem S2x8192x128 .f32) (harg12 : arg12.IsWhole)

set_option maxHeartbeats 4000000 in
/-- The body's run: the inputs as they were, the outputs its groups' values. -/
theorem bodyRun
    (x1 : BufTy.Contents (Elt F) arg1.view.ty) (x2 : BufTy.Contents (Elt F) arg2.view.ty) (x3 : BufTy.Contents (Elt F) arg3.view.ty)
    (x4 : BufTy.Contents (Elt F) arg4.view.ty) (x5 : BufTy.Contents (Elt F) arg5.view.ty) (x6 : BufTy.Contents (Elt F) arg6.view.ty)
    (x7 : BufTy.Contents (Elt F) arg7.view.ty) (g8 : BufTy.Contents (Elt F) arg8.view.ty) (g9 : BufTy.Contents (Elt F) arg9.view.ty)
    (g10 : BufTy.Contents (Elt F) arg10.view.ty) (g11 : BufTy.Contents (Elt F) arg11.view.ty) (g12 : BufTy.Contents (Elt F) arg12.view.ty) :
    (iprop((arg1.view.loc (c : Thread nD τ) ↦[arg1.view.set]{fullShare} x1) ∗ (arg2.view.loc (c : Thread nD τ) ↦[arg2.view.set]{fullShare} x2)
        ∗ (arg3.view.loc (c : Thread nD τ) ↦[arg3.view.set]{fullShare} x3) ∗ (arg4.view.loc (c : Thread nD τ) ↦[arg4.view.set]{fullShare} x4)
        ∗ (arg5.view.loc (c : Thread nD τ) ↦[arg5.view.set]{fullShare} x5) ∗ (arg6.view.loc (c : Thread nD τ) ↦[arg6.view.set]{fullShare} x6)
        ∗ (arg7.view.loc (c : Thread nD τ) ↦[arg7.view.set]{fullShare} x7) ∗ (arg8.view.loc (c : Thread nD τ) ↦[arg8.view.set]{fullShare} g8)
        ∗ (arg9.view.loc (c : Thread nD τ) ↦[arg9.view.set]{fullShare} g9) ∗ (arg10.view.loc (c : Thread nD τ) ↦[arg10.view.set]{fullShare} g10)
        ∗ (arg11.view.loc (c : Thread nD τ) ↦[arg11.view.set]{fullShare} g11) ∗ (arg12.view.loc (c : Thread nD τ) ↦[arg12.view.set]{fullShare} g12)) : sProp 𝕄)
      ⊢ wp Idealize.ShloMosaic.frame (wpE (defs₀ (F := F)) Variants.none (c : Thread nD τ) none) Set.univ
          (cc0_ssm (F := F) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{fullShare} x1) ∗ (arg2.view.loc (c : Thread nD τ) ↦[arg2.view.set]{fullShare} x2)
        ∗ (arg3.view.loc (c : Thread nD τ) ↦[arg3.view.set]{fullShare} x3) ∗ (arg4.view.loc (c : Thread nD τ) ↦[arg4.view.set]{fullShare} x4)
        ∗ (arg5.view.loc (c : Thread nD τ) ↦[arg5.view.set]{fullShare} x5) ∗ (arg6.view.loc (c : Thread nD τ) ↦[arg6.view.set]{fullShare} x6)
        ∗ (arg7.view.loc (c : Thread nD τ) ↦[arg7.view.set]{fullShare} x7)
        ∗ (∃ f, ⌜arg8.view.read (Elt F) f = out8 (arg1.view.read (Elt F) x1) (arg2.view.read (Elt F) x2) (arg3.view.read (Elt F) x3)
              (arg4.view.read (Elt F) x4) (arg5.view.read (Elt F) x5) (arg6.view.read (Elt F) x6)⌝ ∗ (arg8.view.loc (c : Thread nD τ) ↦[arg8.view.set]{fullShare} f))
        ∗ (∃ f, ⌜arg9.view.read (Elt F) f = k0_pay25 (arg7.view.read (Elt F) x7)⌝ ∗ (arg9.view.loc (c : Thread nD τ) ↦[arg9.view.set]{fullShare} f))
        ∗ (∃ f, arg10.view.loc (c : Thread nD τ) ↦[arg10.view.set]{fullShare} f)
        ∗ (∃ f, arg11.view.loc (c : Thread nD τ) ↦[arg11.view.set]{fullShare} f)
        ∗ (∃ f, arg12.view.loc (c : Thread nD τ) ↦[arg12.view.set]{fullShare} f))) := by
  simp only [cc0_ssm_eq_skeleton]; unfold cc0_ssm_skel
  iintro ⟨H1, H2, H3, H4, H5, H6, H7, H8, H9, H10, H11, H12⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro
    have e := pieces16_read arg8.view g8 (fun g => k0_pay86
      (View.readAt (Elt F) arg12.view (every8 (n := 1024) (N := 8192) rfl 0 g).toLoadRect
        (states12 c i arg1 harg1 arg2 harg2 arg3 harg3 arg4 harg4 arg5 harg5 arg6 harg6 arg7 harg7 arg8 harg8 arg9 harg9 arg10 harg10 arg11 harg11 arg12 harg12
          (bodyRun.sl.r_7 arg1 arg3 x1 x3) (bodyRun.sl.r_8 arg1 arg3 x1 x3) (arg1.view.read (Elt F) x1) (arg2.view.read (Elt F) x2) (arg3.view.read (Elt F) x3) (arg6.view.read (Elt F) x6) g10 g11 g12))
      (View.readAt (Elt F) arg12.view (every8 (n := 1024) (N := 8192) rfl 1 g).toLoadRect
        (states12 c i arg1 harg1 arg2 harg2 arg3 harg3 arg4 harg4 arg5 harg5 arg6 harg6 arg7 harg7 arg8 harg8 arg9 harg9 arg10 harg10 arg11 harg11 arg12 harg12
          (bodyRun.sl.r_7 arg1 arg3 x1 x3) (bodyRun.sl.r_8 arg1 arg3 x1 x3) (arg1.view.read (Elt F) x1) (arg2.view.read (Elt F) x2) (arg3.view.read (Elt F) x3) (arg6.view.read (Elt F) x6) g10 g11 g12))
      (ublk (arg1.view.read (Elt F) x1) g) (mat (arg4.view.read (Elt F) x4) g) (mat (arg5.view.read (Elt F) x5) g))
    refine Eq.trans ?_ (e.trans ?_)
    · rfl
    · simp only [hblk_eq]; rfl
  isplitl [H9]
  · iexists _; isplitr; swap; · iexact H9
    ipureintro
    funext y
    have hw : ∀ z : S256x2048.Idx, (Rect.unit (s := S256x2048) ![0, 0] S256x2048.size inb_S256x2048_S256x2048_0_0).emb z = z := by
      intro z; funext a
      match a with
      | ⟨0, _⟩ => exact Fin.ext (by show 0 + 1 * (z 0).val = (z 0).val; omega)
      | ⟨1, _⟩ => exact Fin.ext (by show 0 + 1 * (z 1).val = (z 1).val; omega)
    have hr : View.readAt (Elt F) arg7.view (Rect.unit (s := S256x2048) ![0, 0] S256x2048.size inb_S256x2048_S256x2048_0_0).toLoadRect x7
        = arg7.view.read (Elt F) x7 := funext fun z => congrArg (arg7.view.read (Elt F) x7) (hw z)
    refine (View.read_writes_cons_hit arg9.view _ (Rect.unit (s := S256x2048) ![0, 0] S256x2048.size inb_S256x2048_S256x2048_0_0) _ [] y y (hw y)).trans ?_
    exact congrFun (congrArg k0_pay25 hr) y
  isplitl [H10]; · iexists _; iexact H10
  isplitl [H11]; · iexists _; iexact H11
  iexists _; iexact H12

end
end Cert.Proof.Ssm
end
-- ==== Proof.KRun.lean ====
/- The launch: what each window's array holds after the run, over any values. -/
module

public import proofs.«01_k».proof.Proof.Body
public import Idealize.ShloMosaic.Lib.Claim

@[expose] public section

set_option maxRecDepth 16384

noncomputable section

namespace Cert.Proof.Ssm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: each input's buffer keeps its block, each output's gets its point's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 (iblk m c 0 t) (iblk m c 1 t) (iblk m c 2 t) (iblk m c 3 t) (iblk m c 4 t) (iblk m c 5 t)
    | ⟨8, _⟩ => k0_pay25 (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out8 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = k0_pay25 (iblk m c 6 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A whole buffer, held by the elements its memref covers. -/
theorem pts_whole (b : Ref sig .tc) (c : Dev nD) (f : Buf (Elt F) ((c : Thread nD τ).loc b)) :
    (((Memref.whole b).view.loc (c : Thread nD τ) ↦[(Memref.whole b).view.set]{fullShare} f : sProp 𝕄))
      = ((c : Thread nD τ).loc b ↦{fullShare} f) := by
  show (((c : Thread nD τ).loc b ↦[(View.whole b).set]{fullShare} f : sProp 𝕄)) = _
  rw [View.set_whole]

/-- The three scratch buffers, each held whole at some contents. -/
def scratch (c : Dev nD) : sProp 𝕄 :=
  iprop(((∃ f, (c : Thread nD τ).loc cc0_scratch0 ↦{fullShare} f) ∗ (∃ f, (c : Thread nD τ).loc cc0_scratch1 ↦{fullShare} f) ∗ (∃ f, (c : Thread nD τ).loc cc0_scratch2 ↦{fullShare} f)))

/-- The body run on buffers that hold the values `X1 … X7`, the scratch at anything. -/
theorem bodyOwns (c : Dev nD) (i : grid0.Coords) (a1 : Memref sig .tc .vmem S16x128x1024 .bf16) (h1 : a1.IsWhole) (a2 : Memref sig .tc .vmem S16x128x128 .bf16) (h2 : a2.IsWhole) (a3 : Memref sig .tc .vmem S8x256x256 .bf16) (h3 : a3.IsWhole) (a4 : Memref sig .tc .vmem S8x256x256 .bf16) (h4 : a4.IsWhole) (a5 : Memref sig .tc .vmem S8x256x256 .bf16) (h5 : a5.IsWhole) (a6 : Memref sig .tc .vmem S8x256 .f32) (h6 : a6.IsWhole) (a7 : Memref sig .tc .vmem S256x2048 .f32) (h7 : a7.IsWhole) (a8 : Memref sig .tc .vmem S16x128x1024 .bf16) (h8 : a8.IsWhole) (a9 : Memref sig .tc .vmem S256x2048 .bf16) (h9 : a9.IsWhole)
    (X1 : FVec F S16x128x1024 .bf16) (X2 : FVec F S16x128x128 .bf16) (X3 X4 X5 : FVec F S8x256x256 .bf16) (X6 : FVec F S8x256 .f32) (X7 : FVec F S256x2048 .f32)
    (Y8 : FVec F S16x128x1024 .bf16) (Y9 : FVec F S256x2048 .bf16) :
    (iprop(scratch (F := F) c ∗ owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare Y8 ∗ owns (c : Thread nD τ) a9 fullShare Y9) : sProp 𝕄)
      ⊢ wp Idealize.ShloMosaic.frame (wpE (defs₀ (F := F)) Variants.none (c : Thread nD τ) none) Set.univ
          (cc0_ssm (F := F) i a1 h1 a2 h2 a3 h3 a4 h4 a5 h5 a6 h6 a7 h7 a8 h8 a9 h9 (Memref.whole cc0_scratch0) (Memref.isWhole_whole _) (Memref.whole cc0_scratch1) (Memref.isWhole_whole _) (Memref.whole cc0_scratch2) (Memref.isWhole_whole _))
          (fun _ => iprop(scratch (F := F) c ∗ owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare (out8 X1 X2 X3 X4 X5 X6) ∗ owns (c : Thread nD τ) a9 fullShare (k0_pay25 X7))) := by
  unfold owns
  iintro ⟨HS, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, ⟨%f9, -, H9⟩⟩
  unfold scratch
  icases HS with ⟨⟨%g10, H10⟩, ⟨%g11, H11⟩, ⟨%g12, H12⟩⟩
  subst e1 e2 e3 e4 e5 e6 e7
  iapply (wp_wand_r Idealize.ShloMosaic.frame (wpE (defs₀ (F := F)) Variants.none (c : Thread nD τ) none) Set.univ)
  isplitl [H1 H2 H3 H4 H5 H6 H7 H8 H9 H10 H11 H12]
  · iapply (bodyRun (F := F) c i a1 h1 a2 h2 a3 h3 a4 h4 a5 h5 a6 h6 a7 h7 a8 h8 a9 h9
      (Memref.whole cc0_scratch0) (Memref.isWhole_whole _) (Memref.whole cc0_scratch1) (Memref.isWhole_whole _) (Memref.whole cc0_scratch2) (Memref.isWhole_whole _)
      f1 f2 f3 f4 f5 f6 f7 f8 f9 g10 g11 g12)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    rw [pts_whole, pts_whole, pts_whole]
    isplitl [H10]; · iexact H10
    isplitl [H11]; · iexact H11
    iexact H12
  iintro %a ⟨H1, H2, H3, H4, H5, H6, H7, ⟨%f8', %e8, H8⟩, ⟨%f9', %e9, H9⟩, ⟨%q10, H10⟩, ⟨%q11, H11⟩, ⟨%q12, H12⟩⟩
  isplitl [H10 H11 H12]
  · isplitl [H10]; · iexists q10; iapply (BIBase.Entails.of_eq (pts_whole cc0_scratch0 c q10)) $$ H10
    isplitl [H11]; · iexists q11; iapply (BIBase.Entails.of_eq (pts_whole cc0_scratch1 c q11)) $$ H11
    iexists q12; iapply (BIBase.Entails.of_eq (pts_whole cc0_scratch2 c q12)) $$ H12
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8'; isplitr; · ipureintro; exact e8
                  iexact H8
  iexists f9'; isplitr; · ipureintro; exact e9
  iexact H9

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    show (dats m 0 c).Φ t.castSucc = Pipeline.ΦA spec0 c from rfl]
  unfold Pipeline.ΦA
  rw [scopedRest0_eq, ← scratch]
  generalize iblk m c 0 t = X1
  generalize iblk m c 1 t = X2
  generalize iblk m c 2 t = X3
  generalize iblk m c 3 t = X4
  generalize iblk m c 4 t = X5
  generalize iblk m c 5 t = X6
  generalize iblk m c 6 t = X7
  iintro ⟨⟨HS, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  generalize (dats m 0 c).before 7 t d7 = Y7
  generalize (dats m 0 c).before 8 t d8 = Y8
  iapply (wp_wand_r Idealize.ShloMosaic.frame (wpE (defs₀ (F := F)) Variants.none c none) Set.univ)
  isplitl [HS H0 H1 H2 H3 H4 H5 H6 H7 H8]
  · iapply (bodyOwns (F := F) c (grid0.coords t) (st0_0 t) (hstage0_0 _) (st0_1 t) (hstage0_1 _) (st0_2 t) (hstage0_2 _) (st0_3 t) (hstage0_3 _)
      (st0_4 t) (hstage0_4 _) (st0_5 t) (hstage0_5 _) (st0_6 t) (hstage0_6 _) (st0_7 t) (hstage0_7 _) (st0_8 t) (hstage0_8 _)
      X1 X2 X3 X4 X5 X6 X7 Y7 Y8)
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨HS, H⟩
  isplitl [HS Hp]
  · isplitl [HS]; · iexact HS
    iexact Hp
  isplitl [Ho]; · iexact Ho
  iexact H

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unfolding plain definitions in a metavariable's type
set_option backward.isDefEq.respectTransparency.types false in
/-- The launch, its counters at zero at the end. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and the counters at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Proof.Ssm

end
-- ==== Proof.RefRun.lean ====
/- The reference's run: its loop is `Step.step` applied 528 times to `Step.init`, and each result is the generated
   expression of the last state and the arguments. -/
module

public import proofs.«01_k».proof.Proof.Gen.ReferenceIdeal.Run
public import proofs.«01_k».proof.Proof.Gen.ReferenceIdeal.Step

@[expose] public section

set_option maxRecDepth 16384

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v84 R_main_v85)

variable {F : FTy → Type} [FloatOps F]

/-- What the loop's buffers hold before trip `j`: the state, and the trip's number at the counter. -/
structure Carries (V : Valuation τ sig (Elt F)) (s : State F) (j : ℕ) : Prop where
  re : V (Proc.devRef .tc main_v48_5) = s.main_v48_5
  im : V (Proc.devRef .tc main_v48_6) = s.main_v48_6
  res : V (Proc.devRef .tc main_v48_7) = s.main_v48_7
  ims : V (Proc.devRef .tc main_v48_8) = s.main_v48_8
  dre : V (Proc.devRef .tc main_v48_0) = s.main_v48_0
  dim : V (Proc.devRef .tc main_v48_1) = s.main_v48_1
  are : V (Proc.devRef .tc main_v48_2) = s.main_v48_2
  aim : V (Proc.devRef .tc main_v48_3) = s.main_v48_3
  num : V (Proc.devRef .tc main_v48_4) = constantI S_ 32 (BitVec.ofNat 32 j)

variable {V : Valuation τ sig (Elt F)} {s : State F} {j : ℕ}

theorem next_re (h : Carries V s j) : step_main_v48_5 V = (step j s).main_v48_5 := by
  unfold step_main_v48_5 step
  rw [h.re, h.im, h.dre, h.are, h.aim, h.num]; rfl

theorem next_im (h : Carries V s j) : step_main_v48_6 V = (step j s).main_v48_6 := by
  unfold step_main_v48_6 step
  rw [h.re, h.im, h.dim, h.are, h.aim, h.num]; rfl

theorem next_res (h : Carries V s j) : step_main_v48_7 V = (step j s).main_v48_7 := by
  unfold step_main_v48_7 step
  rw [h.res, h.re, h.num]; rfl

theorem next_ims (h : Carries V s j) : step_main_v48_8 V = (step j s).main_v48_8 := by
  unfold step_main_v48_8 step
  rw [h.ims, h.im, h.num]; rfl

theorem next_num (h : Carries V s j) : step_main_v48_4 V = constantI S_ 32 (BitVec.ofNat 32 (j + 1)) := by
  unfold step_main_v48_4
  rw [h.num]
  funext i
  show BitVec.ofNat 32 j + 1#32 = BitVec.ofNat 32 (j + 1)
  simp only [BitVec.ofNat_add]

/-- A trip carries the next state. -/
theorem carries_step (h : Carries V s j) : Carries (STEP V) (step j s) (j + 1) :=
  { re := (STEP_main_v48_5 V).trans (next_re h)
    im := (STEP_main_v48_6 V).trans (next_im h)
    res := (STEP_main_v48_7 V).trans (next_res h)
    ims := (STEP_main_v48_8 V).trans (next_ims h)
    dre := (STEP_main_v48_0 V).trans h.dre
    dim := (STEP_main_v48_1 V).trans h.dim
    are := (STEP_main_v48_2 V).trans h.are
    aim := (STEP_main_v48_3 V).trans h.aim
    num := (STEP_main_v48_4 V).trans (next_num h) }

variable (m : (ℓ : Loc nD τ sig) → Buf (Elt F) ℓ) (c : Dev nD)

/-- An argument's contents at the start, on core `c`. -/
abbrev arg (x : Ref sig .tc) : Buf (Elt F) ((c.tc : Thread nD τ).loc x) := m ((c.tc : Thread nD τ).loc x)

/-- The states the trips go through. -/
def states : ℕ → State F
  | 0 => init (m ((c.tc : Thread nD τ).loc main_arg0)) (m ((c.tc : Thread nD τ).loc main_arg1))
      (m ((c.tc : Thread nD τ).loc main_arg2)) (m ((c.tc : Thread nD τ).loc main_arg5))
  | n + 1 => step n (states n)

set_option maxRecDepth 65536 in
set_option maxHeartbeats 500000 in
theorem carries_entry : Carries (entryContents preI m c) (states m c 0) 0 := by
  constructor <;> (simp only [entryContents, afterL_cons, afterL_nil]; after_reads_simp) <;> rfl

theorem carries_iter : ∀ k, Carries (STEP^[k] (entryContents preI m c)) (states m c k) k
  | 0 => carries_entry m c
  | k + 1 => by
    rw [Function.iterate_succ_apply']
    exact carries_step (carries_iter k)

set_option maxRecDepth 8192 in
theorem out_y (h : Carries V s j) (x0 : (⟨S16x1024x1024, .bf16⟩ : BufTy).Contents (Elt F))
    (h0 : V (Proc.devRef .tc main_arg0) = x0) (x3 : (⟨S64x256x256, .bf16⟩ : BufTy).Contents (Elt F))
    (h3 : V (Proc.devRef .tc main_arg3) = x3) (x4 : (⟨S64x256x256, .bf16⟩ : BufTy).Contents (Elt F))
    (h4 : V (Proc.devRef .tc main_arg4) = x4) : out_main_v84 V = R_main_v84 s x0 x3 x4 := by
  unfold out_main_v84 R_main_v84
  rw [h.res, h.ims, h0, h3, h4]
  try rfl

set_option maxRecDepth 8192 in
theorem out_w (s : State F) (x6 : (⟨S2048x2048, .f32⟩ : BufTy).Contents (Elt F))
    (h6 : V (Proc.devRef .tc main_arg6) = x6) : out_main_v85 V = R_main_v85 s x6 := by
  unfold out_main_v85 R_main_v85
  rw [h6]
  try rfl

/-- Every execution of the reference ends with the two results made from state 528, and its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v84) = R_main_v84 (states m c 528) (m ((c.tc : Thread nD τ).loc main_arg0))
          (m ((c.tc : Thread nD τ).loc main_arg3)) (m ((c.tc : Thread nD τ).loc main_arg4))
      ∧ r.2.mem ((c.tc : Thread nD τ).loc main_v85) = R_main_v85 (states m c 528) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := carries_iter m c 528
    ⟨(h c).1.trans (out_y hk _ (iter_main_arg0 m c 528) _ (iter_main_arg3 m c 528) _ (iter_main_arg4 m c 528)),
      (h c).2.1.trans (out_w _ _ (iter_main_arg6 m c 528)), (h c).2.2⟩) (Value.run m ρ)

end Cert.Proof.RefRun

end
-- ==== Proof.Frames.lean ====
/- The two programs' frames, from the runs. -/
module

public import proofs.«01_k».proof.Proof.KRun
public import proofs.«01_k».proof.Proof.Gen.Kernel
public import proofs.«01_k».proof.Proof.RefRun
public import proofs.«01_k».proof.Proof.Gen.KernelIdeal
public import proofs.«01_k».proof.Proof.Gen.ReferenceIdeal
public import proofs.«01_k».proof.Defs

@[expose] public section

set_option maxRecDepth 16384

noncomputable section

namespace Cert.Proof.Frames

open Idealize.ShloMosaic Idealize.ShloMosaic.TcCoe Idealize.SL.Sem

/-- The compiled program's kernel table is the one of the program over ideal values: they are one text. -/
theorem tables {F : FTy → Type} [FloatOps F] : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl
  | ⟨n + 1, h⟩, _ => exact absurd h (Nat.not_lt.2 (Nat.le_add_left _ _))

/-- So the run over any values serves the compiled program too. -/
theorem kernel : Cert.quiescent_Kernel := fun m ρ _ => by
  unfold Cert.Kernel.defs
  rw [tables]
  exact Cert.Proof.Ssm.frames (F := Bits) m ρ

theorem kernelIdeal : Cert.quiescent_KernelIdeal := fun m ρ _ => Cert.Proof.Ssm.frames (F := Ideal) m ρ

/-- The reference has no semaphore, so its counters are all zero. -/
theorem referenceIdeal : Cert.quiescent_ReferenceIdeal := fun m ρ _ =>
  (θ_run Cert.ReferenceIdeal.defs _ _).mono (fun _ h => ⟨fun c => (h c).2.2, by
    funext g; rcases g with ⟨_, i | i⟩ <;> exact i.elim0⟩) (Cert.Proof.RefRun.run (F := Ideal) m ρ)

end Cert.Proof.Frames

end
-- ==== Proof.Spec.lean ====
/- The S5 branch at the ideal values, entry by entry: what both the kernel and the reference compute. -/
module

public import proofs.«01_k».proof.Proof.Orbit
public import Idealize.ShloMosaic.PureOps.Ideal.Laws

@[expose] public section

set_option maxRecDepth 16384

noncomputable section

namespace Cert.Proof.Ssm

open Cert.KernelIdeal
open Idealize.ShloMosaic

/-- Entry `s` of group `G`'s drive at chunk `n`: the operator's row `s` against the chunk's 256 samples, sample `r` in row
    `r / 16`, channel `16·G + r % 16` of the input `U`. -/
def driveOfChunk {W : ℕ} (U : FVec Ideal (⟨3, ![16, 1024, W]⟩ : Shape) .bf16) (P : FVec Ideal S64x256x256 .bf16) (G : Fin 64) (s : Fin 256) (n : Fin W) : EReal :=
  ∑ x : Fin 256, U (ix3 ⟨x.val / 16, by omega⟩ ⟨G.val * 16 + x.val % 16, by omega⟩ n) * P (ix3 G s x)

/-- The complex drive of lane `l` at chunk `n`: real part in entry `l`, imaginary part in entry `128 + l`. -/
def drivePair {W : ℕ} (U : FVec Ideal (⟨3, ![16, 1024, W]⟩ : Shape) .bf16) (P : FVec Ideal S64x256x256 .bf16) (G : Fin 64) (l : Fin 128) (n : Fin W) : Z Ideal :=
  (driveOfChunk U P G ⟨l.val, by omega⟩ n, driveOfChunk U P G ⟨128 + l.val, by omega⟩ n)

/-- The drive of lane `l` at time step `t` of batch `b`: sixteen context chunks, then the 512 latent chunks; the first 64
    lanes take them forward, the others backward. -/
def driveS (U : FVec Ideal S16x1024x1024 .bf16) (C : FVec Ideal S16x1024x128 .bf16) (P : FVec Ideal S64x256x256 .bf16)
    (b : Fin 2) (G : Fin 64) (l : Fin 128) (t : ℕ) : Z Ideal :=
  if t < 16 then drivePair (W := 128) C P G l (Fin.ofNat 128 (16 * b.val + chunkAt 16 l t))
  else drivePair (W := 1024) U P G l (Fin.ofNat 1024 (512 * b.val + chunkAt 512 l (t - 16)))

/-- The state before step `t`, from zero. -/
def stateS (U : FVec Ideal S16x1024x1024 .bf16) (C : FVec Ideal S16x1024x128 .bf16) (P : FVec Ideal S64x256x256 .bf16)
    (A : FVec Ideal S64x256 .f32) (b : Fin 2) (G : Fin 64) (l : Fin 128) (t : ℕ) : Z Ideal :=
  orbit (A (ix2 G ⟨l.val, by omega⟩), A (ix2 G ⟨128 + l.val, by omega⟩)) ((0 : EReal), (0 : EReal)) (driveS U C P b G l) t

/-- The state entering chunk `k` (of both batches, `512` each) of the latents. -/
def enterS (U : FVec Ideal S16x1024x1024 .bf16) (C : FVec Ideal S16x1024x128 .bf16) (P : FVec Ideal S64x256x256 .bf16)
    (A : FVec Ideal S64x256 .f32) (G : Fin 64) (k : Fin 1024) (l : Fin 128) : Z Ideal :=
  stateS U C P A ⟨k.val / 512, by omega⟩ G l (16 + chunkAt 512 l (k.val % 512))

/-- Output `o` of group `G` at chunk `k`: the chunk's samples through `M`, the entering states through `Q`. -/
def yS (U : FVec Ideal S16x1024x1024 .bf16) (M Q : FVec Ideal S64x256x256 .bf16) (h : Fin 128 → Z Ideal)
    (G : Fin 64) (o : Fin 256) (k : Fin 1024) : EReal :=
  (∑ x : Fin 256, U (ix3 ⟨x.val / 16, by omega⟩ ⟨G.val * 16 + x.val % 16, by omega⟩ k) * M (ix3 G o x))
    + ((∑ x : Fin 128, (h x).1 * Q (ix3 G o ⟨x.val, by omega⟩)) + ∑ x : Fin 128, (h x).2 * Q (ix3 G o ⟨128 + x.val, by omega⟩))

/-- The GELU, by the error function. -/
def geluS (y : EReal) : EReal :=
  Ideal.ofBits FTy.f32 0x3F000000#32 * y * (1 + Ideal.erf (y * Ideal.ofBits FTy.f32 0x3F3504F3#32))

/-- The same by the complementary error function. -/
theorem geluS_eq (y : EReal) :
    Ideal.ofBits FTy.f32 0x3F000000#32 * y * Ideal.erfc (-y * Ideal.ofBits FTy.f32 0x3F3504F3#32) = geluS y := by
  rw [geluS, EReal.neg_mul, Ideal.erfc_neg]

/-- The branch's output: row `p`, channel `ch`, chunk `k`. -/
def outS (U : FVec Ideal S16x1024x1024 .bf16) (C : FVec Ideal S16x1024x128 .bf16) (P M Q : FVec Ideal S64x256x256 .bf16)
    (A : FVec Ideal S64x256 .f32) : FVec Ideal S16x1024x1024 .bf16 := fun j =>
  let G : Fin 64 := ⟨(j 1).val / 16, by have : (j 1).val < 1024 := (j 1).isLt; omega⟩
  geluS (yS U M Q (enterS U C P A G (j 2)) G
    ⟨(j 0).val * 16 + (j 1).val % 16, by have : (j 0).val < 16 := (j 0).isLt; omega⟩ (j 2))

end Cert.Proof.Ssm

end
-- ==== Proof.KVal.lean ====
/- What a grid point writes, at the ideal values: its groups' entries of the S5 branch's output. -/
module

public import proofs.«01_k».proof.Proof.Drives
public import proofs.«01_k».proof.Proof.Spec
public import Idealize.ShloMosaic.Lib.Pointwise

@[expose] public section
set_option maxRecDepth 16384

noncomputable section

namespace Cert.Proof.Ssm
open Cert.KernelIdeal Cert.KernelIdeal.Gen
open Idealize.ShloMosaic Idealize.ShloMosaic.TcCoe

theorem ublk_at {F : FTy → Type} (X : Vec F S16x128x1024 .bf16) (g : Fin 8) (p c : Fin 16) (n : Fin 1024) :
    ublk X g (ix3 p c n) = X (ix3 p ⟨16 * g.val + c.val, by omega⟩ n) := by
  refine congrArg X (funext fun a => ?_)
  match a with
  | ⟨0, _⟩ => exact Fin.ext (by show 0 + 1 * p.val = p.val; omega)
  | ⟨1, _⟩ => exact Fin.ext (by show 16 * g.val + 1 * c.val = 16 * g.val + c.val; omega)
  | ⟨2, _⟩ => exact Fin.ext (by show 0 + 1 * n.val = n.val; omega)
theorem cblk_at {F : FTy → Type} (X : Vec F S16x128x128 .bf16) (g : Fin 8) (p c : Fin 16) (n : Fin 128) :
    cblk X g (ix3 p c n) = X (ix3 p ⟨16 * g.val + c.val, by omega⟩ n) := by
  refine congrArg X (funext fun a => ?_)
  match a with
  | ⟨0, _⟩ => exact Fin.ext (by show 0 + 1 * p.val = p.val; omega)
  | ⟨1, _⟩ => exact Fin.ext (by show 16 * g.val + 1 * c.val = 16 * g.val + c.val; omega)
  | ⟨2, _⟩ => exact Fin.ext (by show 0 + 1 * n.val = n.val; omega)
theorem mat_at {F : FTy → Type} (X : Vec F S8x256x256 .bf16) (g : Fin 8) (s r : Fin 256) :
    mat X g (ix3 0 s r) = X (ix3 g s r) := by
  refine congrArg X (funext fun a => ?_)
  match a with
  | ⟨0, _⟩ => exact Fin.ext (by show g.val + 1 * 0 = g.val; omega)
  | ⟨1, _⟩ => exact Fin.ext (by show 0 + 1 * s.val = s.val; omega)
  | ⟨2, _⟩ => exact Fin.ext (by show 0 + 1 * r.val = r.val; omega)
theorem aRe_at {F : FTy → Type} (X : Vec F S8x256 .f32) (g : Fin 8) (l : Fin 128) : aRe X (ix2 g l) = X (ix2 g ⟨l.val, by omega⟩) := by
  refine congrArg X (funext fun a => ?_)
  match a with
  | ⟨0, _⟩ => exact Fin.ext (by show 0 + 1 * g.val = g.val; omega)
  | ⟨1, _⟩ => exact Fin.ext (by show 0 + 1 * l.val = l.val; omega)
theorem aIm_at {F : FTy → Type} (X : Vec F S8x256 .f32) (g : Fin 8) (l : Fin 128) : aIm X (ix2 g l) = X (ix2 g ⟨128 + l.val, by omega⟩) := by
  refine congrArg X (funext fun a => ?_)
  match a with
  | ⟨0, _⟩ => exact Fin.ext (by show 0 + 1 * g.val = g.val; omega)
  | ⟨1, _⟩ => exact Fin.ext (by show 128 + 1 * l.val = 128 + l.val; omega)

/-! ## The payloads' entries -/

theorem lat_re (u : Vec Ideal S16x16x1024 .bf16) (p : Vec Ideal S1x256x256 .bf16) (n : Fin 1024) (l : Fin 128) :
    k0_pay27 (F := Ideal) u p (ix3 0 n l)
      = ∑ x : Fin 256, u (ix3 ⟨x.val / 16, by omega⟩ ⟨x.val % 16, by omega⟩ n) * p (ix3 0 ⟨l.val, by omega⟩ x) := by
  pointwise [k0_pay27, k0_pay26]
theorem lat_im (u : Vec Ideal S16x16x1024 .bf16) (p : Vec Ideal S1x256x256 .bf16) (n : Fin 1024) (l : Fin 128) :
    k0_pay28 (F := Ideal) u p (ix3 0 n l)
      = ∑ x : Fin 256, u (ix3 ⟨x.val / 16, by omega⟩ ⟨x.val % 16, by omega⟩ n) * p (ix3 0 ⟨128 + l.val, by omega⟩ x) := by
  pointwise [k0_pay28, k0_pay26]
theorem ctx_re (u : Vec Ideal S16x16x128 .bf16) (p : Vec Ideal S1x256x256 .bf16) (n : Fin 128) (l : Fin 128) :
    k0_pay30 (F := Ideal) u p (ix3 0 n l)
      = ∑ x : Fin 256, u (ix3 ⟨x.val / 16, by omega⟩ ⟨x.val % 16, by omega⟩ n) * p (ix3 0 ⟨l.val, by omega⟩ x) := by
  pointwise [k0_pay30, k0_pay29]
theorem ctx_im (u : Vec Ideal S16x16x128 .bf16) (p : Vec Ideal S1x256x256 .bf16) (n : Fin 128) (l : Fin 128) :
    k0_pay32 (k0_pay31 (F := Ideal) u p) (ix3 0 n l)
      = ∑ x : Fin 256, u (ix3 ⟨x.val / 16, by omega⟩ ⟨x.val % 16, by omega⟩ n) * p (ix3 0 ⟨128 + l.val, by omega⟩ x) := by
  pointwise [k0_pay32, k0_pay31, k0_pay29]
theorem zero_at (g : Fin 8) (l : Fin 128) : k0_pay81 (F := Ideal) (ix2 g l) = (0 : EReal) := by
  pointwise [k0_pay81]
theorem gelu_at (hre him : Vec Ideal S1x1024x128 .f32) (u : Vec Ideal S16x16x1024 .bf16) (m q : Vec Ideal S1x256x256 .bf16) (p c : Fin 16) (k : Fin 1024) :
    k0_pay86 (F := Ideal) hre him u m q (ix3 p c k)
      = geluS ((∑ x : Fin 256, u (ix3 ⟨x.val / 16, by omega⟩ ⟨x.val % 16, by omega⟩ k) * m (ix3 0 ⟨p.val * 16 + c.val, by omega⟩ x))
          + ((∑ x : Fin 128, hre (ix3 0 k x) * q (ix3 0 ⟨p.val * 16 + c.val, by omega⟩ ⟨x.val, by omega⟩))
            + ∑ x : Fin 128, him (ix3 0 k x) * q (ix3 0 ⟨p.val * 16 + c.val, by omega⟩ ⟨128 + x.val, by omega⟩))) := by
  generalize hz : geluS _ = z
  pointwise [k0_pay86]
  rw [← hz]
  rfl
theorem copy_at (u : Vec Ideal S256x2048 .f32) : k0_pay25 (F := Ideal) u = u := rfl

/-! ## A grid point's blocks against the whole arrays -/

section
variable (t : Fin 8) (U : FVec Ideal S16x1024x1024 .bf16) (C : FVec Ideal S16x1024x128 .bf16) (P M Q : FVec Ideal S64x256x256 .bf16) (A : FVec Ideal S64x256 .f32)
  {X1 : Vec Ideal S16x128x1024 .bf16} {X2 : Vec Ideal S16x128x128 .bf16} {X3 X4 X5 : Vec Ideal S8x256x256 .bf16} {X6 : Vec Ideal S8x256 .f32}

/-- Group `g` of grid point `t`. -/
def grp (t g : Fin 8) : Fin 64 := ⟨8 * t.val + g.val, by omega⟩

/-- Channel `c` of grid point `t`'s block. -/
def chan (t : Fin 8) (c : Fin 128) : Fin 1024 := ⟨128 * t.val + c.val, by omega⟩

variable (h1 : ∀ (p : Fin 16) (c : Fin 128) (n : Fin 1024), X1 (ix3 p c n) = U (ix3 p (chan t c) n))
  (h2 : ∀ (p : Fin 16) (c n : Fin 128), X2 (ix3 p c n) = C (ix3 p (chan t c) n))
  (h3 : ∀ (g : Fin 8) (s r : Fin 256), X3 (ix3 g s r) = P (ix3 (grp t g) s r))
  (h4 : ∀ (g : Fin 8) (s r : Fin 256), X4 (ix3 g s r) = M (ix3 (grp t g) s r))
  (h5 : ∀ (g : Fin 8) (s r : Fin 256), X5 (ix3 g s r) = Q (ix3 (grp t g) s r))
  (h6 : ∀ (g : Fin 8) (s : Fin 256), X6 (ix2 g s) = A (ix2 (grp t g) s))

include h1 in
theorem ublk_arr (g : Fin 8) (x : Fin 256) (n : Fin 1024) (q1 q2 q3) :
    ublk X1 g (ix3 ⟨x.val / 16, q1⟩ ⟨x.val % 16, q2⟩ n) = U (ix3 ⟨x.val / 16, q1⟩ ⟨(grp t g).val * 16 + x.val % 16, q3⟩ n) := by
  rw [ublk_at, h1]
  exact congrArg (fun c => U (ix3 _ c n)) (Fin.ext (by show 128 * t.val + (16 * g.val + x.val % 16) = (8 * t.val + g.val) * 16 + x.val % 16; omega))
include h2 in
theorem cblk_arr (g : Fin 8) (x : Fin 256) (n : Fin 128) (q1 q2 q3) :
    cblk X2 g (ix3 ⟨x.val / 16, q1⟩ ⟨x.val % 16, q2⟩ n) = C (ix3 ⟨x.val / 16, q1⟩ ⟨(grp t g).val * 16 + x.val % 16, q3⟩ n) := by
  rw [cblk_at, h2]
  exact congrArg (fun c => C (ix3 _ c n)) (Fin.ext (by show 128 * t.val + (16 * g.val + x.val % 16) = (8 * t.val + g.val) * 16 + x.val % 16; omega))

include h1 h3 in
theorem dLat_re (g : Fin 8) (n : Fin 1024) (l : Fin 128) :
    dLat X1 X3 0 g (ix3 0 n l) = driveOfChunk (W := 1024) U P (grp t g) ⟨l.val, by omega⟩ n :=
  (lat_re (ublk X1 g) (mat X3 g) n l).trans (Finset.sum_congr rfl fun x _ => by rw [ublk_arr t U h1, mat_at, h3])
include h1 h3 in
theorem dLat_im (g : Fin 8) (n : Fin 1024) (l : Fin 128) :
    dLat X1 X3 1 g (ix3 0 n l) = driveOfChunk (W := 1024) U P (grp t g) ⟨128 + l.val, by omega⟩ n :=
  (lat_im (ublk X1 g) (mat X3 g) n l).trans (Finset.sum_congr rfl fun x _ => by rw [ublk_arr t U h1, mat_at, h3])
include h2 h3 in
theorem dCtx_re (g : Fin 8) (n : Fin 128) (l : Fin 128) :
    dCtx X2 X3 0 g (ix3 0 n l) = driveOfChunk (W := 128) C P (grp t g) ⟨l.val, by omega⟩ n :=
  (ctx_re (cblk X2 g) (mat X3 g) n l).trans (Finset.sum_congr rfl fun x _ => by rw [cblk_arr t C h2, mat_at, h3])
include h2 h3 in
theorem dCtx_im (g : Fin 8) (n : Fin 128) (l : Fin 128) :
    dCtx X2 X3 1 g (ix3 0 n l) = driveOfChunk (W := 128) C P (grp t g) ⟨128 + l.val, by omega⟩ n :=
  (ctx_im (cblk X2 g) (mat X3 g) n l).trans (Finset.sum_congr rfl fun x _ => by rw [cblk_arr t C h2, mat_at, h3])

include h1 h2 h3 in
theorem driveAll_eq (b : Fin 2) (g : Fin 8) (l : Fin 128) (k : ℕ) :
    driveAll X1 X2 X3 b g l k = driveS U C P b (grp t g) l k := by
  rw [driveAll, driveS, drivePair, drivePair, dLat_re t U P h1 h3, dLat_im t U P h1 h3, dCtx_re t C P h2 h3, dCtx_im t C P h2 h3]

include h1 h2 h3 h6 in
theorem enter_eq (b : Fin 2) (n : ℕ) (g : Fin 8) (l : Fin 128) :
    enter X1 X2 X3 X6 b n g l = stateS U C P A b (grp t g) l (16 + chunkAt 512 l n) := by
  rw [enter, stateS, zero_at, mult, aRe_at, aIm_at, h6, h6]
  exact orbit_congr _ _ _ _ _ fun k _ => driveAll_eq t U C P h1 h2 h3 b g l k

include h1 h2 h3 h4 h5 h6 in
/-- What the point writes is its channels of the branch's output. -/
theorem out8_at (p : Fin 16) (c : Fin 128) (k : Fin 1024) :
    out8 X1 X2 X3 X4 X5 X6 (ix3 p c k) = outS U C P M Q A (ix3 p (chan t c) k) := by
  have hG : (⟨(128 * t.val + c.val) / 16, by omega⟩ : Fin 64) = grp t ⟨c.val / 16, by omega⟩ := Fin.ext (by show (128 * t.val + c.val) / 16 = 8 * t.val + c.val / 16; omega)
  have ho : (⟨p.val * 16 + (128 * t.val + c.val) % 16, by omega⟩ : Fin 256) = ⟨p.val * 16 + c.val % 16, by omega⟩ := Fin.ext (by show p.val * 16 + (128 * t.val + c.val) % 16 = p.val * 16 + c.val % 16; omega)
  show _ = geluS (yS U M Q (enterS U C P A ⟨(128 * t.val + c.val) / 16, by omega⟩ k) ⟨(128 * t.val + c.val) / 16, by omega⟩
    ⟨p.val * 16 + (128 * t.val + c.val) % 16, by omega⟩ k)
  rw [hG, ho]
  refine (gelu_at (hblk X1 X2 X3 X6 0 ⟨c.val / 16, by omega⟩) (hblk X1 X2 X3 X6 1 ⟨c.val / 16, by omega⟩) (ublk X1 ⟨c.val / 16, by omega⟩)
    (mat X4 ⟨c.val / 16, by omega⟩) (mat X5 ⟨c.val / 16, by omega⟩) p ⟨c.val % 16, by omega⟩ k).trans (congrArg geluS ?_)
  have e : ∀ (q : Fin 2) (x : Fin 128), hblk X1 X2 X3 X6 q ⟨c.val / 16, by omega⟩ (ix3 0 k x) = comp q (enterS U C P A (grp t ⟨c.val / 16, by omega⟩) k x) :=
    fun q x => congrArg (comp q) (enter_eq t U C P A h1 h2 h3 h6 _ _ _ x)
  rw [yS]
  refine congrArg₂ (· + ·) (Finset.sum_congr rfl fun x _ => ?_) (congrArg₂ (· + ·) (Finset.sum_congr rfl fun x _ => ?_) (Finset.sum_congr rfl fun x _ => ?_))
  · rw [ublk_arr t U h1, mat_at, h4]
  · rw [e, mat_at, h5]; rfl
  · rw [e, mat_at, h5]; rfl

end

end Cert.Proof.Ssm

end
-- ==== Proof.KFinal.lean ====
/- The launch's two result arrays at the ideal values, each as one function of the argument arrays. -/
module

public import proofs.«01_k».proof.Proof.KRun
public import proofs.«01_k».proof.Proof.KVal
public import Idealize.ShloMosaic.Lib.Pipeline.ValueKit.Geometry

@[expose] public section

set_option maxRecDepth 16384

noncomputable section

namespace Cert.Proof.Ssm

open Cert.KernelIdeal Cert.KernelIdeal.Gen
open Idealize.ShloMosaic Idealize.ShloMosaic.TcCoe
open Idealize.SL.Sem

/-! ## The windows' block indices -/

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, t.val, 0] := (by decide +kernel : ∀ t : Fin grid0.N, _)
theorem idx8 : ∀ t : Fin cfg0.N, win0_8.index t = ![t.val, 0] := (by decide +kernel : ∀ t : Fin grid0.N, _)

/-- A grid point's number. -/
def pt (t : Fin cfg0.N) : Fin 8 := ⟨t.val, by have h := t.isLt; have := N_0; show t.val < 8; exact this ▸ h⟩

variable (m : (ℓ : Loc nD τ sig) → Buf (Elt Ideal) ℓ) (ρ : Dev nD → PrngReg) (c : Dev nD) (t : Fin cfg0.N)

/-! ## The input blocks at coordinates -/

theorem blk0 (p : Fin 16) (k : Fin 128) (n : Fin 1024) :
    iblk m c 0 t (ix3 p k n : S16x128x1024.Idx) = m ((c.tc : Thread nD τ).loc main_arg0) (ix3 p (chan (pt t) k) n) := by
  blk_simp [iblk, idx0]
  refine congrArg (m ((c.tc : Thread nD τ).loc main_arg0)) ?_
  blk_ext [idx0]
  all_goals simp only [pt, grp, chan]; omega

theorem blk1 (p : Fin 16) (k : Fin 128) (n : Fin 128) :
    iblk m c 1 t (ix3 p k n : S16x128x128.Idx) = m ((c.tc : Thread nD τ).loc main_arg1) (ix3 p (chan (pt t) k) n) := by
  blk_simp [iblk, idx1]
  refine congrArg (m ((c.tc : Thread nD τ).loc main_arg1)) ?_
  blk_ext [idx1]
  all_goals simp only [pt, grp, chan]; omega

theorem blk2 (g : Fin 8) (s r : Fin 256) :
    iblk m c 2 t (ix3 g s r : S8x256x256.Idx) = m ((c.tc : Thread nD τ).loc main_arg2) (ix3 (grp (pt t) g) s r) := by
  blk_simp [iblk, idx2]
  refine congrArg (m ((c.tc : Thread nD τ).loc main_arg2)) ?_
  blk_ext [idx2]
  all_goals simp only [pt, grp, chan]; omega

theorem blk3 (g : Fin 8) (s r : Fin 256) :
    iblk m c 3 t (ix3 g s r : S8x256x256.Idx) = m ((c.tc : Thread nD τ).loc main_arg3) (ix3 (grp (pt t) g) s r) := by
  blk_simp [iblk, idx3]
  refine congrArg (m ((c.tc : Thread nD τ).loc main_arg3)) ?_
  blk_ext [idx3]
  all_goals simp only [pt, grp, chan]; omega

theorem blk4 (g : Fin 8) (s r : Fin 256) :
    iblk m c 4 t (ix3 g s r : S8x256x256.Idx) = m ((c.tc : Thread nD τ).loc main_arg4) (ix3 (grp (pt t) g) s r) := by
  blk_simp [iblk, idx4]
  refine congrArg (m ((c.tc : Thread nD τ).loc main_arg4)) ?_
  blk_ext [idx4]
  all_goals simp only [pt, grp, chan]; omega

theorem blk5 (g : Fin 8) (s : Fin 256) :
    iblk m c 5 t (ix2 g s : S8x256.Idx) = m ((c.tc : Thread nD τ).loc main_arg5) (ix2 (grp (pt t) g) s) := by
  blk_simp [iblk, idx5]
  refine congrArg (m ((c.tc : Thread nD τ).loc main_arg5)) ?_
  blk_ext [idx5]
  all_goals simp only [pt, grp, chan]; omega

/-- The position in the array of a result block's element. -/
theorem emb7 (p : Fin 16) (k : Fin 128) (n : Fin 1024) :
    (win0_7.blk t).view.emb (ix3 p k n : S16x128x1024.Idx) = ix3 p (chan (pt t) k) n := by
  blk_ext [idx7]
  all_goals simp only [pt, chan]; omega

/-! ## The two result arrays -/

/-- The first result is the specified one of the launch's six operands. -/
theorem final7 : (dats m 0 c).arrAt 7 cfg0.N = outS (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  refine (dats m 0 c).arrAt_eq_of_covers 7 _ (by decide +kernel) fun t hf y => ?_
  blk_simp
  rw [after0_7]
  obtain ⟨p, k, n, rfl⟩ : ∃ (p : Fin 16) (k : Fin 128) (n : Fin 1024), y = (ix3 p k n : S16x128x1024.Idx) :=
    ⟨y 0, y 1, y 2, by funext a; fin_cases a <;> rfl⟩
  rw [emb7 t p k n]
  exact out8_at (pt t) _ _ _ _ _ _ (blk0 m c t) (blk1 m c t) (blk2 m c t) (blk3 m c t) (blk4 m c t) (blk5 m c t) p k n

/-- The second result is a copy of the seventh operand. -/
theorem final8 : (dats m 0 c).arrAt 8 cfg0.N = m ((c.tc : Thread nD τ).loc main_arg6) := by
  refine (dats m 0 c).arrAt_eq_of_covers 8 _ (by decide +kernel) fun t hf y => ?_
  blk_simp
  rw [after0_8, copy_at]
  blk_simp [iblk]
  refine congrArg (m ((c.tc : Thread nD τ).loc main_arg6)) ?_
  blk_ext [idx6, idx8]

end Cert.Proof.Ssm

end
-- ==== Proof.RefVal.lean ====
/- The reference at the ideal values: its recurrence's states, the states it keeps, and its two results entry by entry. -/
module

public import proofs.«01_k».proof.Proof.RefRun
public import proofs.«01_k».proof.Proof.Spec

@[expose] public section

set_option maxRecDepth 16384

noncomputable section

namespace Cert.Proof.RefVal

open Idealize.ShloMosaic Cert.ReferenceIdeal Cert.ReferenceIdeal.Gen Cert.ReferenceIdeal.Step
open Cert.Proof.Ssm (Z turn orbit chunkAt driveOfChunk drivePair driveS stateS enterS yS geluS geluS_eq outS)

/-! ## Reversal in time -/

/-- An array with its third axis read from the end. -/
def fromEnd {α : Type} {a b c d : ℕ} (X : (⟨4, ![a, b, c, d]⟩ : Shape).Idx → α) : (⟨4, ![a, b, c, d]⟩ : Shape).Idx → α :=
  fun j => X (ix4 (j 0) (j 1) (Fin.rev (n := c) (j 2)) (j 3))
theorem fromEnd_at {α : Type} {a b c d : ℕ} (X : (⟨4, ![a, b, c, d]⟩ : Shape).Idx → α) (i : Fin a) (j : Fin b) (k : Fin c) (l : Fin d) :
    fromEnd X (ix4 i j k l) = X (ix4 i j ⟨c - (k.val + 1), by omega⟩ l) := rfl
theorem reverse16 {α : Type} (X : S64x2x16x128.Idx → α) : Host.reverse [2] X = fromEnd X := by
  funext j; refine congrArg X (funext fun a => ?_)
  match a with | ⟨0, _⟩ => rfl | ⟨1, _⟩ => rfl | ⟨2, _⟩ => rfl | ⟨3, _⟩ => rfl
theorem reverse512 {α : Type} (X : S64x2x512x128.Idx → α) : Host.reverse [2] X = fromEnd X := by
  funext j; refine congrArg X (funext fun a => ?_)
  match a with | ⟨0, _⟩ => rfl | ⟨1, _⟩ => rfl | ⟨2, _⟩ => rfl | ⟨3, _⟩ => rfl

section
variable (U : FVec Ideal S16x1024x1024 .bf16) (C : FVec Ideal S16x1024x128 .bf16) (P M Q : FVec Ideal S64x256x256 .bf16) (A : FVec Ideal S64x256 .f32)

/-! ## The drives -/

theorem latents_at (G : Fin 64) (k : Fin 1024) (s : Fin 256) :
    A_main_v3 (F := Ideal) U C P A (ix3 G k s) = driveOfChunk (W := 1024) U P G s k := by
  pointwise [A_main_v3, A_main_v2, A_main_v1, A_main_v0]
  rfl

theorem contexts_at (G : Fin 64) (k : Fin 32) (s : Fin 256) :
    A_main_v8 (F := Ideal) U C P A (ix3 G k s) = driveOfChunk (W := 128) C P G s ⟨k.val, by omega⟩ := by
  pointwise [A_main_v8, A_main_v7, A_main_v6, A_main_v5, A_main_v4]
  rfl

theorem mult_re_at (G : Fin 64) (l : Fin 128) : A_main_v10 (F := Ideal) U C P A (ix3 G 0 l) = A (ix2 G ⟨l.val, by omega⟩) := by
  pointwise [A_main_v10, A_main_v9]
theorem mult_im_at (G : Fin 64) (l : Fin 128) : A_main_v12 (F := Ideal) U C P A (ix3 G 0 l) = A (ix2 G ⟨128 + l.val, by omega⟩) := by
  pointwise [A_main_v12, A_main_v11]

theorem lane_lt : ∀ l : Fin 128, IntOp.cmpi .slt (BitVec.ofNat 32 l.val) 64#32 = if l.val < 64 then 1#1 else 0#1 := by decide +kernel

/-- The lane mask picks the forward entry for the first 64 lanes. -/
theorem lane_select {α : Type} (l : Fin 128) (x y : α) :
    Scalar.select (IntOp.cmpi .slt (BitVec.ofNat 32 l.val) 64#32) x y = if l.val < 64 then x else y := by
  rw [lane_lt]; by_cases hl : l.val < 64 <;> simp [hl, Scalar.select]

/-- A table of contexts and one of latents, read at time step `t` the way lane `l` runs. -/
theorem in_time {fc : Fin 128 → EReal} {fl : Fin 1024 → EReal} (t : Fin 528) (b : Fin 2) (l : Fin 128) :
    (if h : t.val < 16 then
        if l.val < 64 then fc ⟨b.val * 16 + t.val, by omega⟩ else fc ⟨b.val * 16 + (16 - (t.val + 1)), by omega⟩
      else
        if l.val < 64 then fl ⟨b.val * 512 + (t.val - 16), by omega⟩ else fl ⟨b.val * 512 + (512 - (t.val - 16 + 1)), by omega⟩)
      = if t.val < 16 then fc (Fin.ofNat 128 (16 * b.val + chunkAt 16 l t.val))
        else fl (Fin.ofNat 1024 (512 * b.val + chunkAt 512 l (t.val - 16))) := by
  by_cases ht : t.val < 16
  · rw [dif_pos ht, if_pos ht, chunkAt]
    by_cases hl : l.val < 64
    · rw [if_pos hl, if_pos hl]; exact congrArg fc (Fin.ext (by rw [Fin.val_ofNat]; show b.val * 16 + t.val = _; omega))
    · rw [if_neg hl, if_neg hl]; exact congrArg fc (Fin.ext (by rw [Fin.val_ofNat]; show b.val * 16 + (16 - (t.val + 1)) = _; omega))
  · rw [dif_neg ht, if_neg ht, chunkAt]
    by_cases hl : l.val < 64
    · rw [if_pos hl, if_pos hl]; exact congrArg fl (Fin.ext (by rw [Fin.val_ofNat]; show b.val * 512 + (t.val - 16) = _; omega))
    · rw [if_neg hl, if_neg hl]; exact congrArg fl (Fin.ext (by rw [Fin.val_ofNat]; show b.val * 512 + (512 - (t.val - 16 + 1)) = _; omega))

theorem drive_fst (b : Fin 2) (G : Fin 64) (l : Fin 128) (t : ℕ) : (driveS U C P b G l t).1
    = if t < 16 then driveOfChunk (W := 128) C P G ⟨l.val, by omega⟩ (Fin.ofNat 128 (16 * b.val + chunkAt 16 l t))
      else driveOfChunk (W := 1024) U P G ⟨l.val, by omega⟩ (Fin.ofNat 1024 (512 * b.val + chunkAt 512 l (t - 16))) := by
  rw [driveS]; exact apply_ite Prod.fst _ _ _
theorem drive_snd (b : Fin 2) (G : Fin 64) (l : Fin 128) (t : ℕ) : (driveS U C P b G l t).2
    = if t < 16 then driveOfChunk (W := 128) C P G ⟨128 + l.val, by omega⟩ (Fin.ofNat 128 (16 * b.val + chunkAt 16 l t))
      else driveOfChunk (W := 1024) U P G ⟨128 + l.val, by omega⟩ (Fin.ofNat 1024 (512 * b.val + chunkAt 512 l (t - 16))) := by
  rw [driveS]; exact apply_ite Prod.snd _ _ _

theorem drive_re_at (t : Fin 528) (G : Fin 64) (b : Fin 2) (l : Fin 128) :
    A_main_v29 (F := Ideal) U C P A (ix4 t G b l) = (driveS U C P b G l t.val).1 := by
  rw [A_main_v29, A_main_v28, A_main_v27, A_main_v26, A_main_v20, A_main_v19, reverse512, reverse16]
  pointwise [fromEnd_at, A_main_v22, A_main_v21, A_main_v15, A_main_v14,
    K_main_call1_v0, K_main_call3_v0, K_main_v18, K_main_v25, K_main_v24, K_main_v23, K_main_v16, K_main_v17, K_main_c, K_main_c_0]
  simp only [lane_select, contexts_at, latents_at]
  rw [drive_fst]
  exact in_time (fc := driveOfChunk (W := 128) C P G ⟨l.val, by omega⟩) (fl := driveOfChunk (W := 1024) U P G ⟨l.val, by omega⟩) t b l

theorem drive_im_at (t : Fin 528) (G : Fin 64) (b : Fin 2) (l : Fin 128) :
    A_main_v45 (F := Ideal) U C P A (ix4 t G b l) = (driveS U C P b G l t.val).2 := by
  rw [A_main_v45, A_main_v44, A_main_v43, A_main_v42, A_main_v36, A_main_v35, reverse512, reverse16]
  pointwise [fromEnd_at, A_main_v38, A_main_v37, A_main_v31, A_main_v30,
    K_main_call5_v0, K_main_call7_v0, K_main_v34, K_main_v41, K_main_v40, K_main_v39, K_main_v32, K_main_v33, K_main_c_1, K_main_c_2]
  simp only [lane_select, contexts_at, latents_at]
  rw [drive_snd]
  exact in_time (fc := driveOfChunk (W := 128) C P G ⟨128 + l.val, by omega⟩) (fl := driveOfChunk (W := 1024) U P G ⟨128 + l.val, by omega⟩) t b l

/-! ## One trip -/

/-- Where a trip's one-step slice begins: at the trip's number, and at the axis's beginning elsewhere. -/
theorem start0 (j : ℕ) (hj : j < 528) (ht : S1x64x2x128.rank = S528x64x2x128.rank) :
    Host.clampedStart S528x64x2x128 S1x64x2x128 ht (fun k => BitVec.toInt ((![constantI S_ 32 (BitVec.ofNat 32 j), constantI S_ 32 0#32, constantI S_ 32 0#32, constantI S_ 32 0#32] : Fin 4 → IVec S_ 32) k (Shape.Idx.first h_S_))) 0 = j := by
  refine Host.clampedStart_of_le ht _ _ _ ?_ (by show j + 1 ≤ 528; omega)
  show (BitVec.ofNat 32 j).toInt = (j : ℤ)
  have e : (BitVec.ofNat 32 j).toNat = j := by rw [BitVec.toNat_ofNat]; omega
  rw [BitVec.toInt_eq_toNat_of_lt (by rw [e]; omega), e]
theorem start1 (j : ℕ) (ht : S1x64x2x128.rank = S528x64x2x128.rank) :
    Host.clampedStart S528x64x2x128 S1x64x2x128 ht (fun k => BitVec.toInt ((![constantI S_ 32 (BitVec.ofNat 32 j), constantI S_ 32 0#32, constantI S_ 32 0#32, constantI S_ 32 0#32] : Fin 4 → IVec S_ 32) k (Shape.Idx.first h_S_))) 1 = 0 :=
  Host.clampedStart_of_le ht _ _ _ rfl (le_refl _)
theorem start2 (j : ℕ) (ht : S1x64x2x128.rank = S528x64x2x128.rank) :
    Host.clampedStart S528x64x2x128 S1x64x2x128 ht (fun k => BitVec.toInt ((![constantI S_ 32 (BitVec.ofNat 32 j), constantI S_ 32 0#32, constantI S_ 32 0#32, constantI S_ 32 0#32] : Fin 4 → IVec S_ 32) k (Shape.Idx.first h_S_))) 2 = 0 :=
  Host.clampedStart_of_le ht _ _ _ rfl (le_refl _)
theorem start3 (j : ℕ) (ht : S1x64x2x128.rank = S528x64x2x128.rank) :
    Host.clampedStart S528x64x2x128 S1x64x2x128 ht (fun k => BitVec.toInt ((![constantI S_ 32 (BitVec.ofNat 32 j), constantI S_ 32 0#32, constantI S_ 32 0#32, constantI S_ 32 0#32] : Fin 4 → IVec S_ 32) k (Shape.Idx.first h_S_))) 3 = 0 :=
  Host.clampedStart_of_le ht _ _ _ rfl (le_refl _)

variable (j : ℕ) (hj : j < 528) (s : State Ideal) (G : Fin 64) (b : Fin 2) (l : Fin 128)
include hj

theorem next_re_at : b15 j s (ix3 G b l)
    = s.main_v48_2 (ix3 G 0 l) * s.main_v48_5 (ix3 G b l) - s.main_v48_3 (ix3 G 0 l) * s.main_v48_6 (ix3 G b l) + s.main_v48_0 (ix4 ⟨j, hj⟩ G b l) := by
  pointwise [b15, b14, b13, b12, b11, b10, b4, b3, b0, b1, b2]
  simp only [start0 j hj, start1, start2, start3, Nat.zero_add, Fin.eta]

theorem next_im_at : b21 j s (ix3 G b l)
    = s.main_v48_2 (ix3 G 0 l) * s.main_v48_6 (ix3 G b l) + s.main_v48_3 (ix3 G 0 l) * s.main_v48_5 (ix3 G b l) + s.main_v48_1 (ix4 ⟨j, hj⟩ G b l) := by
  pointwise [b21, b20, b19, b18, b17, b16, b9, b8, b5, b6, b7]
  simp only [start0 j hj, start1, start2, start3, Nat.zero_add, Fin.eta]

theorem kept_re_at (t : Fin 528) : b26 j s (ix4 t G b l) = if t.val = j then s.main_v48_5 (ix3 G b l) else s.main_v48_7 (ix4 t G b l) := by
  pointwise [b26, b22, b23, b24, b25]
  simp only [start0 j hj, start1, start2, start3, Nat.sub_zero, Fin.eta, Nat.zero_le, and_true]
  by_cases h : t.val = j
  · rw [dif_pos (by omega), if_pos h]
  · rw [dif_neg (by omega), if_neg h]

theorem kept_im_at (t : Fin 528) : b31 j s (ix4 t G b l) = if t.val = j then s.main_v48_6 (ix3 G b l) else s.main_v48_8 (ix4 t G b l) := by
  pointwise [b31, b27, b28, b29, b30]
  simp only [start0 j hj, start1, start2, start3, Nat.sub_zero, Fin.eta, Nat.zero_le, and_true]
  by_cases h : t.val = j
  · rw [dif_pos (by omega), if_pos h]
  · rw [dif_neg (by omega), if_neg h]

end

/-! ## The states -/

section
variable (U : FVec Ideal S16x1024x1024 .bf16) (C : FVec Ideal S16x1024x128 .bf16) (P M Q : FVec Ideal S64x256x256 .bf16) (A : FVec Ideal S64x256 .f32)

/-- What holds before trip `j`: the state is the recurrence's, the rows below `j` keep the states before their steps. -/
structure Holds (s : State Ideal) (j : ℕ) : Prop where
  d0 : s.main_v48_0 = A_main_v29 (F := Ideal) U C P A
  d1 : s.main_v48_1 = A_main_v45 (F := Ideal) U C P A
  a0 : s.main_v48_2 = A_main_v10 (F := Ideal) U C P A
  a1 : s.main_v48_3 = A_main_v12 (F := Ideal) U C P A
  re : ∀ G b l, s.main_v48_5 (ix3 G b l) = (stateS U C P A b G l j).1
  im : ∀ G b l, s.main_v48_6 (ix3 G b l) = (stateS U C P A b G l j).2
  res : ∀ (t : Fin 528) G b l, t.val < j → s.main_v48_7 (ix4 t G b l) = (stateS U C P A b G l t.val).1
  ims : ∀ (t : Fin 528) G b l, t.val < j → s.main_v48_8 (ix4 t G b l) = (stateS U C P A b G l t.val).2

theorem holds_init : Holds U C P A (init U C P A) 0 where
  d0 := rfl
  d1 := rfl
  a0 := rfl
  a1 := rfl
  re G b l := by
    show K_main_v13 (F := Ideal) (ix3 G b l) = 0
    pointwise [K_main_v13, K_main_cst]
  im G b l := by
    show K_main_v13 (F := Ideal) (ix3 G b l) = 0
    pointwise [K_main_v13, K_main_cst]
  res t G b l h := absurd h (Nat.not_lt_zero _)
  ims t G b l h := absurd h (Nat.not_lt_zero _)

theorem holds_step (s : State Ideal) (j : ℕ) (hj : j < 528) (h : Holds U C P A s j) : Holds U C P A (step j s) (j + 1) where
  d0 := h.d0
  d1 := h.d1
  a0 := h.a0
  a1 := h.a1
  re G b l := by
    rw [step_main_v48_5, next_re_at j hj, h.d0, h.a0, h.a1, h.re, h.im, drive_re_at, mult_re_at, mult_im_at]; rfl
  im G b l := by
    rw [step_main_v48_6, next_im_at j hj, h.d1, h.a0, h.a1, h.re, h.im, drive_im_at, mult_re_at, mult_im_at]; rfl
  res t G b l ht := by
    rw [step_main_v48_7, kept_re_at j hj]
    by_cases e : t.val = j
    · rw [if_pos e, h.re, e]
    · rw [if_neg e, h.res t G b l (by omega)]
  ims t G b l ht := by
    rw [step_main_v48_8, kept_im_at j hj]
    by_cases e : t.val = j
    · rw [if_pos e, h.im, e]
    · rw [if_neg e, h.ims t G b l (by omega)]

/-! ## The results -/

theorem copy_at (s : State Ideal) (w : FVec Ideal S2048x2048 .f32) : R_main_v85 s w = w := rfl

end

end Cert.Proof.RefVal

end
-- ==== Proof.RefOut.lean ====
/- The reference's first result, entry by entry: the kept states read back in the order of the chunks, the two products,
   the GELU. -/
module

public import proofs.«01_k».proof.Proof.RefVal

@[expose] public section

set_option maxRecDepth 16384

noncomputable section

namespace Cert.Proof.RefVal

open Idealize.ShloMosaic Cert.ReferenceIdeal Cert.ReferenceIdeal.Gen Cert.ReferenceIdeal.Step
open Cert.Proof.Ssm (Z turn orbit chunkAt driveOfChunk drivePair driveS stateS enterS yS geluS geluS_eq outS)

variable (U : FVec Ideal S16x1024x1024 .bf16) (C : FVec Ideal S16x1024x128 .bf16) (P M Q : FVec Ideal S64x256x256 .bf16) (A : FVec Ideal S64x256 .f32)

theorem row_re {s : State Ideal} (h : Holds U C P A s 528) (n : ℕ) (hn : n < 528) (G : Fin 64) (b : Fin 2) (l : Fin 128) :
    s.main_v48_7 (ix4 ⟨n, hn⟩ G b l) = (stateS U C P A b G l n).1 := h.res ⟨n, hn⟩ G b l hn
theorem row_im {s : State Ideal} (h : Holds U C P A s 528) (n : ℕ) (hn : n < 528) (G : Fin 64) (b : Fin 2) (l : Fin 128) :
    s.main_v48_8 (ix4 ⟨n, hn⟩ G b l) = (stateS U C P A b G l n).2 := h.ims ⟨n, hn⟩ G b l hn

/-- A lane's step of chunk `k` of the latents. -/
theorem step_fwd (n : ℕ) (x : Fin 128) (hx : x.val < 64) : 16 + chunkAt 512 x n = 16 + n := by rw [chunkAt, if_pos hx]
theorem step_bwd (n : ℕ) (x : Fin 128) (hx : ¬ x.val < 64) : 16 + chunkAt 512 x n = 16 + (512 - (n + 1)) := by
  rw [chunkAt, if_neg hx]; omega

/-- A kept state, read back in the order of the chunks: forward lanes at their step, backward lanes from the end. -/
theorem back_re {s : State Ideal} (h : Holds U C P A s 528) (G : Fin 64) (k : Fin 1024) (x : Fin 128) (h1 h2 h3) :
    (if x.val < 64 then s.main_v48_7 (ix4 ⟨16 + k.val % 512, h1⟩ G ⟨k.val / 512, h3⟩ x)
      else s.main_v48_7 (ix4 ⟨16 + (512 - (k.val % 512 + 1)), h2⟩ G ⟨k.val / 512, h3⟩ x)) = (enterS U C P A G k x).1 := by
  rw [row_re U C P A h, row_re U C P A h, enterS]
  by_cases hx : x.val < 64
  · rw [if_pos hx, step_fwd _ x hx]
  · rw [if_neg hx, step_bwd _ x hx]
theorem back_im {s : State Ideal} (h : Holds U C P A s 528) (G : Fin 64) (k : Fin 1024) (x : Fin 128) (h1 h2 h3) :
    (if x.val < 64 then s.main_v48_8 (ix4 ⟨16 + k.val % 512, h1⟩ G ⟨k.val / 512, h3⟩ x)
      else s.main_v48_8 (ix4 ⟨16 + (512 - (k.val % 512 + 1)), h2⟩ G ⟨k.val / 512, h3⟩ x)) = (enterS U C P A G k x).2 := by
  rw [row_im U C P A h, row_im U C P A h, enterS]
  by_cases hx : x.val < 64
  · rw [if_pos hx, step_fwd _ x hx]
  · rw [if_neg hx, step_bwd _ x hx]

theorem out_at {s : State Ideal} (h : Holds U C P A s 528) (p : Fin 16) (ch k : Fin 1024) : R_main_v84 s U M Q (ix3 p ch k)
    = geluS (yS U M Q (enterS U C P A ⟨ch.val / 16, by omega⟩ k) ⟨ch.val / 16, by omega⟩ ⟨p.val * 16 + ch.val % 16, by omega⟩ k) := by
  generalize hz : geluS _ = z
  rw [R_main_v84, reverse512, reverse512]
  pointwise [fromEnd_at]
  have e1 := fun x => back_re U C P A h ⟨ch.val / 16, by omega⟩ k x (by omega) (by omega) (by omega)
  have e2 := fun x => back_im U C P A h ⟨ch.val / 16, by omega⟩ k x (by omega) (by omega) (by omega)
  simp only [lane_select, e1, e2]
  rw [← hz, ← geluS_eq]
  unfold yS
  rfl

/-- The reference's first result. -/
theorem out_eq {s : State Ideal} (h : Holds U C P A s 528) : R_main_v84 s U M Q = outS U C P M Q A := by
  funext y
  idx_vars y
  exact out_at U C P M Q A h _ _ _

end Cert.Proof.RefVal

end
-- ==== Proof.Value.lean ====
/- The value claim: over the reals the launch and the reference end with the same two results. -/
module

public import proofs.«01_k».proof.Proof.KFinal
public import proofs.«01_k».proof.Proof.RefOut
public import proofs.«01_k».proof.Proof.RefRun
public import proofs.«01_k».proof.Proof.Gen.KernelIdeal
public import proofs.«01_k».proof.Proof.Gen.ReferenceIdeal
public import proofs.«01_k».proof.Defs

@[expose] public section

set_option maxRecDepth 16384

noncomputable section

namespace Cert.Proof.Value

open Idealize.ShloMosaic Idealize.ShloMosaic.TcCoe Idealize.SL.Sem
open Cert.Proof.Ssm (outS)

/-! ## The reference -/

section
open Cert.ReferenceIdeal

/-- Before every trip the loop's state is the recurrence's states so far. -/
theorem holds (m : (ℓ : Loc nD τ sig) → Buf (Elt Ideal) ℓ) (c : Dev nD) : ∀ n : ℕ, n ≤ 528 →
    RefVal.Holds (m ((c.tc : Thread nD τ).loc main_arg0)) (m ((c.tc : Thread nD τ).loc main_arg1)) (m ((c.tc : Thread nD τ).loc main_arg2))
      (m ((c.tc : Thread nD τ).loc main_arg5)) (RefRun.states m c n) n
  | 0, _ => RefVal.holds_init _ _ _ _
  | n + 1, h => RefVal.holds_step _ _ _ _ _ n h (holds m c n (Nat.le_of_succ_le h))

end

/-! ## The kernel -/

section
open Cert.KernelIdeal Cert.KernelIdeal.Gen

/-- Every execution of the launch ends with the specified outputs, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = outS (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_v0_1) = m ((c.tc : Thread nD τ).loc main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1.1 c).1 7).trans (Ssm.final7 m c), ((h.1.1 c).1 8).trans (Ssm.final8 m c), h.2.1 c⟩)
    (θ_run_and (Ssm.launched m ρ) (Ssm.frames m ρ))

end

/-! ## The claim -/

theorem algebraic : Cert.algebraic_KernelIdeal_ReferenceIdeal := fun m g m' g' _ hm => by
  refine ⟨fun c => outS (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)),
    fun c => m ((c.tc : Thread _ _).loc Cert.KernelIdeal.main_arg6), run m g, ?_⟩
  refine (θ_run Cert.ReferenceIdeal.defs _ _).mono (fun r h c => ?_) (RefRun.run (F := Ideal) m' g')
  obtain ⟨h0, h1, h2, h3, h4, h5, h6⟩ := hm c
  refine ⟨(h c).1.trans ?_, (h c).2.1.trans ((RefVal.copy_at _ _).trans h6), (h c).2.2⟩
  refine (RefVal.out_eq _ _ _ _ _ _ (holds m' c 528 le_rfl)).trans ?_
  rw [h0, h1, h2, h3, h4, h5]

end Cert.Proof.Value

end
-- ==== Proof.GateSpec.lean ====
/- The gated mixing block's mathematics at the ideal values: a modulated layer norm, the projections, the gates, and the
   mixing of 128 consecutive rows. -/
module

public import proofs.«01_k».proof.Proof.Spec
public import Idealize.ShloMosaic.Lib.Pointwise

@[expose] public section
set_option maxRecDepth 16384

noncomputable section

namespace Cert.Proof.Gate
open Idealize.ShloMosaic
open Cert.Proof.Ssm (geluS geluS_eq)

/-- The mean of a row, with its length as the literal the programs divide by. -/
def meanS {n : Nat} (d : EReal) (x : Fin n → EReal) : EReal := Ideal.div (∑ k, x k) d

/-- A row normalised: its mean taken off, times the reciprocal root of its variance plus the constant. -/
def normS {n : Nat} (d : EReal) (x : Fin n → EReal) (k : Fin n) : EReal :=
  (x k - meanS d x) * Ideal.rsqrt (meanS d (fun j => (x j - meanS d x) * (x j - meanS d x)) + Ideal.ofBits FTy.f32 0x358637BD#32)

/-- A row normalised, scaled by one plus the scale and shifted. -/
def modS (x sc sh : Fin 2048 → EReal) (k : Fin 2048) : EReal :=
  normS (Ideal.ofBits FTy.f32 0x45000000#32) x k * (1 + sc k) + sh k

/-- `z` times its logistic. -/
def siluS (z : EReal) : EReal := z * Ideal.div 1 (1 + Ideal.exp (0 - z))

/-- The same, with the negation spelt as one. -/
theorem siluS_neg (z : EReal) : z * Ideal.div 1 (1 + Ideal.exp (-z)) = siluS z := by rw [siluS, zero_sub]

/-- A row times the packed projection. -/
def projS (h : Fin 2048 → EReal) (w : (⟨2, ![2048, 3072]⟩ : Shape).Idx → EReal) (n : Fin 3072) : EReal := ∑ k, h k * w (ix2 k n)

/-- A row times the second projection, then its own gate. -/
def sideS (h : Fin 2048 → EReal) (w : (⟨2, ![2048, 1024]⟩ : Shape).Idx → EReal) (n : Fin 1024) : EReal := siluS (∑ k, h k * w (ix2 k n))

/-- The gate of a projected row: its first third's GELU times its last third's own gate. -/
def gateS (p : Fin 3072 → EReal) (n : Fin 1024) : EReal := geluS (p ⟨n.val, by omega⟩) * siluS (p ⟨2048 + n.val, by omega⟩)

/-- The mixed operand of a projected row: its middle third's GELU, normalised, scaled and shifted. -/
def valS (p : Fin 3072 → EReal) (g b : (⟨2, ![1, 1024]⟩ : Shape).Idx → EReal) (n : Fin 1024) : EReal :=
  normS (Ideal.ofBits FTy.f32 0x44800000#32) (fun j : Fin 1024 => geluS (p ⟨1024 + j.val, by omega⟩)) n * g (ix2 0 n) + b (ix2 0 n)

/-- Head `d`'s column `n`. -/
def headCol (d : Fin 8) (n : Fin 128) : Fin 1024 := ⟨128 * d.val + n.val, by omega⟩

/-- The head of a column. -/
def headOf (n : Fin 1024) : Fin 8 := ⟨n.val / 128, by omega⟩

/-- Row `p` of a chunk, mixed over the chunk's rows and gated. -/
def mixS (rows : Fin 128 → Fin 2048 → EReal) (wA : (⟨2, ![2048, 3072]⟩ : Shape).Idx → EReal) (g b : (⟨2, ![1, 1024]⟩ : Shape).Idx → EReal)
    (ws : (⟨3, ![8, 128, 128]⟩ : Shape).Idx → EReal) (bs : (⟨2, ![128, 1024]⟩ : Shape).Idx → EReal) (p : Fin 128) (n : Fin 1024) : EReal :=
  gateS (projS (rows p) wA) n * ((∑ q, ws (ix3 (headOf n) p q) * valS (projS (rows q) wA) g b n) + bs (ix2 p n))

/-! ## The four result arrays -/

/-- A row of the input, modulated by its batch's scale and shift. -/
def rowA (X : (⟨3, ![2, 8192, 2048]⟩ : Shape).Idx → EReal) (Mo : (⟨3, ![8, 1, 6144]⟩ : Shape).Idx → EReal) (b : Fin 2) (l : Fin 8192) : Fin 2048 → EReal :=
  modS (fun j => X (ix3 b l j)) (fun j => Mo (ix3 ⟨b.val, by omega⟩ 0 ⟨2048 + j.val, by omega⟩)) (fun j => Mo (ix3 ⟨b.val, by omega⟩ 0 ⟨j.val, by omega⟩))

/-- Row `q` of the chunk that row `l` lies in. -/
def mateA (l : Fin 8192) (q : Fin 128) : Fin 8192 := ⟨128 * (l.val / 128) + q.val, by omega⟩

/-- A row's place in its chunk. -/
def placeA (l : Fin 8192) : Fin 128 := ⟨l.val % 128, by omega⟩

theorem mateA_place (l : Fin 8192) : mateA l (placeA l) = l := Fin.ext (by show 128 * (l.val / 128) + l.val % 128 = l.val; omega)

/-- The gated and mixed rows. -/
def outY (X : (⟨3, ![2, 8192, 2048]⟩ : Shape).Idx → EReal) (Mo : (⟨3, ![8, 1, 6144]⟩ : Shape).Idx → EReal) (wA : (⟨2, ![2048, 3072]⟩ : Shape).Idx → EReal)
    (g b : (⟨2, ![1, 1024]⟩ : Shape).Idx → EReal) (ws : (⟨3, ![8, 128, 128]⟩ : Shape).Idx → EReal) (bs : (⟨2, ![128, 1024]⟩ : Shape).Idx → EReal)
    (y : (⟨3, ![2, 8192, 1024]⟩ : Shape).Idx) : EReal :=
  mixS (fun q => rowA X Mo (y 0) (mateA (y 1) q)) wA g b ws bs (placeA (y 1)) (y 2)

/-- The second projection's own gate. -/
def outZ (X : (⟨3, ![2, 8192, 2048]⟩ : Shape).Idx → EReal) (Mo : (⟨3, ![8, 1, 6144]⟩ : Shape).Idx → EReal) (wZ : (⟨2, ![2048, 1024]⟩ : Shape).Idx → EReal)
    (y : (⟨3, ![2, 8192, 1024]⟩ : Shape).Idx) : EReal := sideS (rowA X Mo (y 0) (y 1)) wZ (y 2)

/-- The modulated rows. -/
def outH (X : (⟨3, ![2, 8192, 2048]⟩ : Shape).Idx → EReal) (Mo : (⟨3, ![8, 1, 6144]⟩ : Shape).Idx → EReal)
    (y : (⟨3, ![2, 8192, 2048]⟩ : Shape).Idx) : EReal := rowA X Mo (y 0) (y 1) (y 2)

/-- Column `n` of the fourth group of 1024. -/
def col4 (n : Fin 1024) : Fin 5120 := ⟨3072 + n.val, by omega⟩

/-- The fourth group of 1024 columns of the packed weights. -/
def outW (W : (⟨2, ![2048, 5120]⟩ : Shape).Idx → EReal) (y : (⟨2, ![2048, 1024]⟩ : Shape).Idx) : EReal := W (ix2 (y 0) (col4 (y 1)))

end Cert.Proof.Gate

end
-- ==== Proof.GateVal.lean ====
/- What a grid point of the gated mixing launch writes, at the ideal values. -/
module

public import proofs.«01_k».proof.Proof.GateSpec
public import proofs.«01_k».proof.Proof.Gen.Kernel2Ideal.Frame
public import Idealize.ShloMosaic.Lib.Pointwise
public import Idealize.ShloMosaic.Lib.Pipeline.ReadBack

@[expose] public section
set_option maxRecDepth 16384

noncomputable section

namespace Cert.Proof.Gate
open Cert.Kernel2Ideal Cert.Kernel2Ideal.Gen
open Idealize.ShloMosaic Idealize.ShloMosaic.TcCoe
open Cert.Proof.Ssm (geluS)

/-! ## The payloads' entries -/

theorem row_at (x : Vec Ideal S1x256x2048 .f32) (sc sh : Vec Ideal S1x1x2048 .f32) (r : Fin 256) (k : Fin 2048) :
    k0_pay3 (F := Ideal) x sc sh (ix2 r k) = modS (fun j => x (ix3 0 r j)) (fun j => sc (ix3 0 0 j)) (fun j => sh (ix3 0 0 j)) k := by
  generalize hz : modS _ _ _ _ = z
  pointwise [k0_pay3]
  rw [← hz]
  rfl
theorem row_at' (x : Vec Ideal S1x256x2048 .f32) (sc sh : Vec Ideal S1x1x2048 .f32) (r : Fin 256) (k : Fin 2048) :
    k0_pay35 (F := Ideal) (k0_pay34 (F := Ideal) x) sc sh (ix2 r k) = modS (fun j => x (ix3 0 r j)) (fun j => sc (ix3 0 0 j)) (fun j => sh (ix3 0 0 j)) k := by
  generalize hz : modS _ _ _ _ = z
  pointwise [k0_pay35, k0_pay34]
  rw [← hz]
  rfl
theorem keep_at (x : Vec Ideal S1x256x2048 .f32) (sc sh : Vec Ideal S1x1x2048 .f32) (r : Fin 256) (k : Fin 2048) :
    k0_pay4 (F := Ideal) x sc sh (ix3 0 r k) = k0_pay3 (F := Ideal) x sc sh (ix2 r k) := by
  pointwise [k0_pay4]
theorem keep_at' (x : FVec Ideal S256x2048 .f32) (sc sh : Vec Ideal S1x1x2048 .f32) (r : Fin 256) (k : Fin 2048) :
    k0_pay36 (F := Ideal) x sc sh (ix3 0 r k) = k0_pay35 (F := Ideal) x sc sh (ix2 r k) := by
  pointwise [k0_pay36]
theorem proj_at (h : FVec Ideal S256x2048 .bf16) (w : Vec Ideal S2048x3072 .bf16) (r : Fin 256) (n : Fin 3072) :
    k0_pay5 (F := Ideal) h w (ix2 r n) = projS (fun k => h (ix2 r k)) w n := by
  generalize hz : projS _ _ _ = z
  pointwise [k0_pay5]
  rw [← hz]
  rfl
theorem proj_at' (x : FVec Ideal S256x2048 .f32) (sc sh : Vec Ideal S1x1x2048 .f32) (w : Vec Ideal S2048x3072 .bf16) (r : Fin 256) (n : Fin 3072) :
    k0_pay37 (F := Ideal) x sc sh w (ix2 r n) = projS (fun k => k0_pay35 (F := Ideal) x sc sh (ix2 r k)) w n := by
  generalize hz : projS _ _ _ = z
  pointwise [k0_pay37]
  rw [← hz]
  rfl
theorem side_at (h : FVec Ideal S256x2048 .bf16) (w : Vec Ideal S2048x1024 .bf16) (r : Fin 256) (n : Fin 1024) :
    k0_pay9 (F := Ideal) h w (ix3 0 r n) = sideS (fun k => h (ix2 r k)) w n := by
  generalize hz : sideS _ _ _ = z
  pointwise [k0_pay9]
  rw [← hz]
  rfl
theorem side_at' (x : FVec Ideal S256x2048 .f32) (sc sh : Vec Ideal S1x1x2048 .f32) (w : Vec Ideal S2048x1024 .bf16) (r : Fin 256) (n : Fin 1024) :
    k0_pay40 (F := Ideal) (k0_pay38 (F := Ideal) x sc sh w) (ix3 0 r n) = sideS (fun k => k0_pay35 (F := Ideal) x sc sh (ix2 r k)) w n := by
  generalize hz : sideS _ _ _ = z
  pointwise [k0_pay40, k0_pay38]
  rw [← hz]
  rfl
theorem gate_at (h : FVec Ideal S256x2048 .bf16) (w : Vec Ideal S2048x3072 .bf16) (r : Fin 256) (n : Fin 1024) :
    k0_pay11 (F := Ideal) (k0_pay6 (F := Ideal) h w) (k0_pay8 (F := Ideal) h w) (k0_pay10 (F := Ideal) h w) (Scalar.ofBits .f32 0x3F800000#32) (ix2 r n)
      = gateS (fun j => k0_pay5 (F := Ideal) h w (ix2 r j)) n := by
  generalize hz : gateS _ _ = z
  pointwise [k0_pay11, k0_pay6, k0_pay8, k0_pay10]
  rw [← hz]
  rfl
theorem gate_at' (x : FVec Ideal S256x2048 .f32) (sc sh : Vec Ideal S1x1x2048 .f32) (w : Vec Ideal S2048x3072 .bf16) (r : Fin 256) (n : Fin 1024) :
    k0_pay41 (F := Ideal) (k0_pay37 (F := Ideal) x sc sh w) (k0_pay39 (F := Ideal) x sc sh w) (ix2 r n)
      = gateS (fun j => k0_pay37 (F := Ideal) x sc sh w (ix2 r j)) n := by
  generalize hz : gateS _ _ = z
  pointwise [k0_pay41, k0_pay39]
  rw [← hz]
  rfl
theorem val_at (h : FVec Ideal S256x2048 .bf16) (w : Vec Ideal S2048x3072 .bf16) (g b : Vec Ideal S1x1024 .f32) (r : Fin 256) (n : Fin 1024) :
    k0_pay12 (F := Ideal) (k0_pay7 (F := Ideal) h w) g b (ix2 r n) = valS (fun j => k0_pay5 (F := Ideal) h w (ix2 r j)) g b n := by
  generalize hz : valS _ _ _ _ = z
  pointwise [k0_pay12, k0_pay7]
  rw [← hz]
  rfl
theorem val_at' (p : FVec Ideal S256x3072 .f32) (g b : Vec Ideal S1x1024 .f32) (r : Fin 256) (n : Fin 1024) :
    k0_pay44 (F := Ideal) (k0_pay42 (F := Ideal) p) (k0_pay43 (F := Ideal) p) (Scalar.ofBits .f32 0x358637BD#32) g b (ix2 r n) = valS (fun j => p (ix2 r j)) g b n := by
  generalize hz : valS _ _ _ _ = z
  pointwise [k0_pay44, k0_pay43, k0_pay42]
  rw [← hz]
  rfl
theorem copy_at (u : Vec Ideal S64x1024 .f32) : k0_pay2 (F := Ideal) u = u := rfl

/-! ## The mixing payloads -/

/-- Row `p` of chunk `e` of a half. -/
def halfRow (e : Fin 2) (p : Fin 128) : Fin 256 := ⟨128 * e.val + p.val, by omega⟩

/-- One mixing payload's entry: the gate times the mixed rows plus the bias, at chunk `e` of the half and head `d`. -/
def mixV (g : FVec Ideal S256x1024 .f32) (v : FVec Ideal S256x1024 .bf16) (w : Vec Ideal S1x128x128 .f32) (b : Vec Ideal S128x128 .f32)
    (e : Fin 2) (d : Fin 8) (p n : Fin 128) : EReal :=
  g (ix2 (halfRow e p) (headCol d n)) * ((∑ q : Fin 128, w (ix3 0 p q) * v (ix2 (halfRow e q) (headCol d n))) + b (ix2 p n))

section
variable (g : FVec Ideal S256x1024 .f32) (v : FVec Ideal S256x1024 .bf16) (w : Vec Ideal S1x128x128 .f32) (b : Vec Ideal S128x128 .f32) (p n : Fin 128)

theorem mix1_at :
    k0_pay1 (F := Ideal) g v w b (ix3 0 p n) = mixV g v w b 1 7 p n := by
  pointwise [k0_pay1, mixV, halfRow, headCol]
theorem mix64_at :
    k0_pay64 (F := Ideal) g v w b (ix3 0 p n) = mixV g v w b 1 6 p n := by
  pointwise [k0_pay64, mixV, halfRow, headCol]
theorem mix63_at :
    k0_pay63 (F := Ideal) g v w b (ix3 0 p n) = mixV g v w b 1 5 p n := by
  pointwise [k0_pay63, mixV, halfRow, headCol]
theorem mix62_at :
    k0_pay62 (F := Ideal) g (k0_pay60 (F := Ideal) w) (k0_pay61 (F := Ideal) v) (constant S128x128 .f32 0x00000000#32) b (ix3 0 p n) = mixV g v w b 1 4 p n := by
  pointwise [k0_pay62, k0_pay60, k0_pay61, mixV, halfRow, headCol]
theorem mix59_at :
    k0_pay59 (F := Ideal) g v w b (ix3 0 p n) = mixV g v w b 1 3 p n := by
  pointwise [k0_pay59, mixV, halfRow, headCol]
theorem mix58_at :
    k0_pay58 (F := Ideal) g v w b (ix3 0 p n) = mixV g v w b 1 2 p n := by
  pointwise [k0_pay58, mixV, halfRow, headCol]
theorem mix57_at :
    k0_pay57 (F := Ideal) (k0_pay56 (F := Ideal) g v w b) (ix3 0 p n) = mixV g v w b 1 1 p n := by
  pointwise [k0_pay57, k0_pay56, mixV, halfRow, headCol]
theorem mix55_at :
    k0_pay55 (F := Ideal) g v w b (ix3 0 p n) = mixV g v w b 1 0 p n := by
  pointwise [k0_pay55, mixV, halfRow, headCol]
theorem mix54_at :
    k0_pay54 (F := Ideal) g v w b (ix3 0 p n) = mixV g v w b 0 7 p n := by
  pointwise [k0_pay54, mixV, halfRow, headCol]
theorem mix53_at :
    k0_pay53 (F := Ideal) g v w b (ix3 0 p n) = mixV g v w b 0 6 p n := by
  pointwise [k0_pay53, mixV, halfRow, headCol]
theorem mix52_at :
    k0_pay52 (F := Ideal) g v w b (ix3 0 p n) = mixV g v w b 0 5 p n := by
  pointwise [k0_pay52, mixV, halfRow, headCol]
theorem mix51_at :
    k0_pay51 (F := Ideal) g (k0_pay50 (F := Ideal) v w) b (ix3 0 p n) = mixV g v w b 0 4 p n := by
  pointwise [k0_pay51, k0_pay50, mixV, halfRow, headCol]
theorem mix49_at :
    k0_pay49 (F := Ideal) g v w b (ix3 0 p n) = mixV g v w b 0 3 p n := by
  pointwise [k0_pay49, mixV, halfRow, headCol]
theorem mix48_at :
    k0_pay48 (F := Ideal) g v w b (ix3 0 p n) = mixV g v w b 0 2 p n := by
  pointwise [k0_pay48, mixV, halfRow, headCol]
theorem mix47_at (v391 : FVec Ideal S256x1024 .f32) (v396 : FVec Ideal S256x1 .f32) (cst : Ideal .f32) (v402 v405 : Vec Ideal S1x1024 .f32) :
    k0_pay47 (F := Ideal) (k0_pay46 (F := Ideal) g v391 v396 cst v402 v405 w b) (ix3 0 p n) = mixV g (k0_pay44 (F := Ideal) v391 v396 cst v402 v405) w b 0 1 p n := by
  pointwise [k0_pay47, k0_pay46, mixV, halfRow, headCol]
theorem mix45_at (v391 : FVec Ideal S256x1024 .f32) (v396 : FVec Ideal S256x1 .f32) (cst : Ideal .f32) (v402 v405 : Vec Ideal S1x1024 .f32) :
    k0_pay45 (F := Ideal) g v391 v396 cst v402 v405 w b (ix3 0 p n) = mixV g (k0_pay44 (F := Ideal) v391 v396 cst v402 v405) w b 0 0 p n := by
  pointwise [k0_pay45, mixV, halfRow, headCol]
theorem mix33_at :
    k0_pay33 (F := Ideal) g v w b (ix3 0 p n) = mixV g v w b 1 7 p n := by
  pointwise [k0_pay33, mixV, halfRow, headCol]
theorem mix32_at :
    k0_pay32 (F := Ideal) g v w b (ix3 0 p n) = mixV g v w b 1 6 p n := by
  pointwise [k0_pay32, mixV, halfRow, headCol]
theorem mix31_at :
    k0_pay31 (F := Ideal) g v w b (ix3 0 p n) = mixV g v w b 1 5 p n := by
  pointwise [k0_pay31, mixV, halfRow, headCol]
theorem mix30_at :
    k0_pay30 (F := Ideal) g v w b (ix3 0 p n) = mixV g v w b 1 4 p n := by
  pointwise [k0_pay30, mixV, halfRow, headCol]
theorem mix29_at :
    k0_pay29 (F := Ideal) g (k0_pay27 (F := Ideal) w) (k0_pay28 (F := Ideal) v) (constant S128x128 .f32 0x00000000#32) b (ix3 0 p n) = mixV g v w b 1 3 p n := by
  pointwise [k0_pay29, k0_pay27, k0_pay28, mixV, halfRow, headCol]
theorem mix26_at :
    k0_pay26 (F := Ideal) g v w b (ix3 0 p n) = mixV g v w b 1 2 p n := by
  pointwise [k0_pay26, mixV, halfRow, headCol]
theorem mix25_at :
    k0_pay25 (F := Ideal) g v w b (ix3 0 p n) = mixV g v w b 1 1 p n := by
  pointwise [k0_pay25, mixV, halfRow, headCol]
theorem mix24_at :
    k0_pay24 (F := Ideal) (k0_pay23 (F := Ideal) g v w b) (ix3 0 p n) = mixV g v w b 1 0 p n := by
  pointwise [k0_pay24, k0_pay23, mixV, halfRow, headCol]
theorem mix22_at :
    k0_pay22 (F := Ideal) g v w b (ix3 0 p n) = mixV g v w b 0 7 p n := by
  pointwise [k0_pay22, mixV, halfRow, headCol]
theorem mix21_at :
    k0_pay21 (F := Ideal) g v w b (ix3 0 p n) = mixV g v w b 0 6 p n := by
  pointwise [k0_pay21, mixV, halfRow, headCol]
theorem mix20_at :
    k0_pay20 (F := Ideal) g v w b (ix3 0 p n) = mixV g v w b 0 5 p n := by
  pointwise [k0_pay20, mixV, halfRow, headCol]
theorem mix19_at :
    k0_pay19 (F := Ideal) g v w b (ix3 0 p n) = mixV g v w b 0 4 p n := by
  pointwise [k0_pay19, mixV, halfRow, headCol]
theorem mix18_at :
    k0_pay18 (F := Ideal) g (k0_pay17 (F := Ideal) v w) b (ix3 0 p n) = mixV g v w b 0 3 p n := by
  pointwise [k0_pay18, k0_pay17, mixV, halfRow, headCol]
theorem mix16_at :
    k0_pay16 (F := Ideal) g v w b (ix3 0 p n) = mixV g v w b 0 2 p n := by
  pointwise [k0_pay16, mixV, halfRow, headCol]
theorem mix15_at :
    k0_pay15 (F := Ideal) g v w b (ix3 0 p n) = mixV g v w b 0 1 p n := by
  pointwise [k0_pay15, mixV, halfRow, headCol]
theorem mix14_at (v47 v56 v57 v72 : FVec Ideal S256x1024 .f32) (cst : Ideal .f32) (v95 v98 : Vec Ideal S1x1024 .f32) :
    k0_pay14 (F := Ideal) (k0_pay13 (F := Ideal) v47 v56 v57 v72 cst v95 v98 w b) (ix3 0 p n) = mixV (k0_pay11 (F := Ideal) v47 v57 v72 cst) (k0_pay12 (F := Ideal) v56 v95 v98) w b 0 0 p n := by
  pointwise [k0_pay14, k0_pay13, mixV, halfRow, headCol]
end

/-! ## A block's rows -/

section
variable (x0 : Vec Ideal S1x512x2048 .f32) (x1 x2 : Vec Ideal S1x1x2048 .f32) (x3 : Vec Ideal S2048x3072 .bf16) (x4 : Vec Ideal S2048x1024 .bf16)
  (x5 x6 : Vec Ideal S1x1024 .f32) (x7 : Vec Ideal S8x128x128 .f32) (x8 : Vec Ideal S128x1024 .f32) (x9 : Vec Ideal S64x1024 .f32)

/-- Row `r` of half `s` of a block. -/
def blkRow (s : Fin 2) (r : Fin 256) : Fin 512 := ⟨256 * s.val + r.val, by omega⟩

/-- Row `q` of the chunk that row `r` of a block lies in. -/
def mate (r : Fin 512) (q : Fin 128) : Fin 512 := ⟨128 * (r.val / 128) + q.val, by omega⟩

/-- A row's place in its chunk. -/
def inChunk (r : Fin 512) : Fin 128 := ⟨r.val % 128, by omega⟩

/-- A block's row, modulated. -/
def rowB (r : Fin 512) : Fin 2048 → EReal := modS (fun j => x0 (ix3 0 r j)) (fun j => x2 (ix3 0 0 j)) (fun j => x1 (ix3 0 0 j))

theorem ld_x0 (r : Fin 256) (j : Fin 2048) : View.ld x0 r0_1 (ix3 0 r j : S1x256x2048.Idx) = x0 (ix3 0 (blkRow 0 r) j) := by
  refine congrArg x0 (funext fun a => ?_)
  match a with
  | ⟨0, _⟩ => exact Fin.ext (by show 0 + 1 * 0 = 0; omega)
  | ⟨1, _⟩ => exact Fin.ext (by show 0 + 1 * r.val = 256 * 0 + r.val; omega)
  | ⟨2, _⟩ => exact Fin.ext (by show 0 + 1 * j.val = j.val; omega)
theorem ld_x0' (r : Fin 256) (j : Fin 2048) : View.ld x0 r0_39 (ix3 0 r j : S1x256x2048.Idx) = x0 (ix3 0 (blkRow 1 r) j) := by
  refine congrArg x0 (funext fun a => ?_)
  match a with
  | ⟨0, _⟩ => exact Fin.ext (by show 0 + 1 * 0 = 0; omega)
  | ⟨1, _⟩ => exact Fin.ext (by show 256 + 1 * r.val = 256 * 1 + r.val; omega)
  | ⟨2, _⟩ => exact Fin.ext (by show 0 + 1 * j.val = j.val; omega)
theorem zero2 : (![0, 0] : Fin 2 → Nat) = fun _ => 0 := by funext a; fin_cases a <;> rfl
theorem zero3 : (![0, 0, 0] : Fin 3 → Nat) = fun _ => 0 := by funext a; fin_cases a <;> rfl
theorem ld_x2 : View.ld x2 r0_2 = x2 := View.ld_unit_zero zero3 _ x2
theorem ld_x3 : View.ld x3 r0_3 = x3 := View.ld_unit_zero zero2 _ x3
theorem ld_x4 : View.ld x4 r0_4 = x4 := View.ld_unit_zero zero2 _ x4
theorem ld_x5 : View.ld x5 r0_6 = x5 := View.ld_unit_zero zero2 _ x5

theorem h65 (r : Fin 256) (k : Fin 2048) : k0_pay65 (F := Ideal) x0 x1 x2 x3 x4 x5 x6 x7 x8 x9 (ix2 r k) = rowB x0 x1 x2 (blkRow 0 r) k := by
  refine (row_at (View.ld x0 r0_1) (View.ld x2 r0_2) (View.ld x1 r0_2) r k).trans ?_
  rw [ld_x2 x2, ld_x2 x1, funext fun j => ld_x0 x0 r j]
  rfl
theorem h72 (r : Fin 256) (k : Fin 2048) : k0_pay35 (F := Ideal) (k0_pay72 (F := Ideal) x0 x1 x2 x3 x4 x5 x6 x7 x8 x9) (View.ld x2 r0_2) (View.ld x1 r0_2) (ix2 r k) = rowB x0 x1 x2 (blkRow 1 r) k := by
  refine (row_at' (View.ld x0 r0_39) (View.ld x2 r0_2) (View.ld x1 r0_2) r k).trans ?_
  rw [ld_x2 x2, ld_x2 x1, funext fun j => ld_x0' x0 r j]
  rfl
theorem p65 (r : Fin 256) : (fun n => k0_pay5 (F := Ideal) (k0_pay65 (F := Ideal) x0 x1 x2 x3 x4 x5 x6 x7 x8 x9) (View.ld x3 r0_3) (ix2 r n)) = projS (rowB x0 x1 x2 (blkRow 0 r)) x3 := by
  funext n
  rw [proj_at, ld_x3, funext fun k => h65 x0 x1 x2 x3 x4 x5 x6 x7 x8 x9 r k]
theorem p73 (r : Fin 256) : (fun n => k0_pay73 (F := Ideal) x0 x1 x2 x3 x4 x5 x6 x7 x8 x9 (ix2 r n)) = projS (rowB x0 x1 x2 (blkRow 1 r)) x3 := by
  funext n
  unfold k0_pay73
  rw [proj_at', ld_x3, funext fun k => h72 x0 x1 x2 x3 x4 x5 x6 x7 x8 x9 r k]
theorem g70 (r : Fin 256) (n : Fin 1024) : k0_pay70 (F := Ideal) x0 x1 x2 x3 x4 x5 x6 x7 x8 x9 (ix2 r n) = gateS (projS (rowB x0 x1 x2 (blkRow 0 r)) x3) n := by
  refine (gate_at (k0_pay65 (F := Ideal) x0 x1 x2 x3 x4 x5 x6 x7 x8 x9) (View.ld x3 r0_3) r n).trans ?_
  rw [p65]
theorem g74 (r : Fin 256) (n : Fin 1024) : k0_pay74 (F := Ideal) x0 x1 x2 x3 x4 x5 x6 x7 x8 x9 (ix2 r n) = gateS (projS (rowB x0 x1 x2 (blkRow 1 r)) x3) n := by
  refine (gate_at' (k0_pay72 (F := Ideal) x0 x1 x2 x3 x4 x5 x6 x7 x8 x9) (View.ld x2 r0_2) (View.ld x1 r0_2) (View.ld x3 r0_3) r n).trans ?_
  exact congrArg (gateS · n) (p73 x0 x1 x2 x3 x4 x5 x6 x7 x8 x9 r)
theorem v71 (r : Fin 256) (n : Fin 1024) : k0_pay71 (F := Ideal) x0 x1 x2 x3 x4 x5 x6 x7 x8 x9 (ix2 r n) = valS (projS (rowB x0 x1 x2 (blkRow 0 r)) x3) x5 x6 n := by
  refine (val_at (k0_pay65 (F := Ideal) x0 x1 x2 x3 x4 x5 x6 x7 x8 x9) (View.ld x3 r0_3) (View.ld x5 r0_6) (View.ld x6 r0_6) r n).trans ?_
  rw [p65, ld_x5 x5, ld_x5 x6]
theorem v77 (r : Fin 256) (n : Fin 1024) : k0_pay77 (F := Ideal) x0 x1 x2 x3 x4 x5 x6 x7 x8 x9 (ix2 r n) = valS (projS (rowB x0 x1 x2 (blkRow 1 r)) x3) x5 x6 n := by
  refine (val_at' (k0_pay73 (F := Ideal) x0 x1 x2 x3 x4 x5 x6 x7 x8 x9) (View.ld x5 r0_6) (View.ld x6 r0_6) r n).trans ?_
  rw [p73, ld_x5 x5, ld_x5 x6]

/-! ## What the body leaves in each output block -/

/-- The gated block. -/
def blkY (y : S1x512x1024.Idx) : EReal := mixS (fun q => rowB x0 x1 x2 (mate (y 1) q)) x3 x5 x6 x7 x8 (inChunk (y 1)) (y 2)

/-- One mixing piece is a piece of the gated block. -/
theorem mixV_eq (s e : Fin 2) (d : Fin 8) (p n : Fin 128) (g : FVec Ideal S256x1024 .f32) (v : FVec Ideal S256x1024 .bf16)
    (w : Vec Ideal S1x128x128 .f32) (b : Vec Ideal S128x128 .f32)
    (hg : ∀ r n, g (ix2 r n) = gateS (projS (rowB x0 x1 x2 (blkRow s r)) x3) n)
    (hv : ∀ r n, v (ix2 r n) = valS (projS (rowB x0 x1 x2 (blkRow s r)) x3) x5 x6 n)
    (hw : ∀ p q, w (ix3 0 p q) = x7 (ix3 d p q)) (hb : ∀ p n, b (ix2 p n) = x8 (ix2 p (headCol d n))) :
    mixV g v w b e d p n = blkY x0 x1 x2 x3 x5 x6 x7 x8 (ix3 0 (blkRow s (halfRow e p)) (headCol d n)) := by
  have e1 : inChunk (blkRow s (halfRow e p)) = p := Fin.ext (by show (256 * s.val + (128 * e.val + p.val)) % 128 = p.val; omega)
  have e2 : ∀ q, mate (blkRow s (halfRow e p)) q = blkRow s (halfRow e q) := fun q =>
    Fin.ext (by show 128 * ((256 * s.val + (128 * e.val + p.val)) / 128) + q.val = 256 * s.val + (128 * e.val + q.val); omega)
  have e3 : headOf (headCol d n) = d := Fin.ext (by show (128 * d.val + n.val) / 128 = d.val; omega)
  unfold mixV
  show _ = mixS (fun q => rowB x0 x1 x2 (mate (blkRow s (halfRow e p)) q)) x3 x5 x6 x7 x8 (inChunk (blkRow s (halfRow e p))) (headCol d n)
  unfold mixS
  simp only [hg, hb, e1, e3, e2]
  refine congrArg (fun z => _ * (z + _)) (Finset.sum_congr rfl fun q _ => ?_)
  rw [hw, hv]

theorem ld_w0 (p q : Fin 128) : View.ld x7 r0_7 (ix3 0 p q : S1x128x128.Idx) = x7 (ix3 0 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b0 (p n : Fin 128) : View.ld x8 r0_8 (ix2 p n : S128x128.Idx) = x8 (ix2 p (headCol 0 n)) := by
  refine congrArg x8 (funext fun a => ?_)
  match a with
  | ⟨0, _⟩ => exact Fin.ext (by show 0 + 1 * p.val = p.val; omega)
  | ⟨1, _⟩ => exact Fin.ext (by show 0 + 1 * n.val = 128 * 0 + n.val; omega)
theorem ld_w1 (p q : Fin 128) : View.ld x7 r0_10 (ix3 0 p q : S1x128x128.Idx) = x7 (ix3 1 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b1 (p n : Fin 128) : View.ld x8 r0_11 (ix2 p n : S128x128.Idx) = x8 (ix2 p (headCol 1 n)) := by
  refine congrArg x8 (funext fun a => ?_)
  match a with
  | ⟨0, _⟩ => exact Fin.ext (by show 0 + 1 * p.val = p.val; omega)
  | ⟨1, _⟩ => exact Fin.ext (by show 128 + 1 * n.val = 128 * 1 + n.val; omega)
theorem ld_w2 (p q : Fin 128) : View.ld x7 r0_13 (ix3 0 p q : S1x128x128.Idx) = x7 (ix3 2 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b2 (p n : Fin 128) : View.ld x8 r0_14 (ix2 p n : S128x128.Idx) = x8 (ix2 p (headCol 2 n)) := by
  refine congrArg x8 (funext fun a => ?_)
  match a with
  | ⟨0, _⟩ => exact Fin.ext (by show 0 + 1 * p.val = p.val; omega)
  | ⟨1, _⟩ => exact Fin.ext (by show 256 + 1 * n.val = 128 * 2 + n.val; omega)
theorem ld_w3 (p q : Fin 128) : View.ld x7 r0_16 (ix3 0 p q : S1x128x128.Idx) = x7 (ix3 3 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b3 (p n : Fin 128) : View.ld x8 r0_17 (ix2 p n : S128x128.Idx) = x8 (ix2 p (headCol 3 n)) := by
  refine congrArg x8 (funext fun a => ?_)
  match a with
  | ⟨0, _⟩ => exact Fin.ext (by show 0 + 1 * p.val = p.val; omega)
  | ⟨1, _⟩ => exact Fin.ext (by show 384 + 1 * n.val = 128 * 3 + n.val; omega)
theorem ld_w4 (p q : Fin 128) : View.ld x7 r0_19 (ix3 0 p q : S1x128x128.Idx) = x7 (ix3 4 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b4 (p n : Fin 128) : View.ld x8 r0_20 (ix2 p n : S128x128.Idx) = x8 (ix2 p (headCol 4 n)) := by
  refine congrArg x8 (funext fun a => ?_)
  match a with
  | ⟨0, _⟩ => exact Fin.ext (by show 0 + 1 * p.val = p.val; omega)
  | ⟨1, _⟩ => exact Fin.ext (by show 512 + 1 * n.val = 128 * 4 + n.val; omega)
theorem ld_w5 (p q : Fin 128) : View.ld x7 r0_22 (ix3 0 p q : S1x128x128.Idx) = x7 (ix3 5 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b5 (p n : Fin 128) : View.ld x8 r0_23 (ix2 p n : S128x128.Idx) = x8 (ix2 p (headCol 5 n)) := by
  refine congrArg x8 (funext fun a => ?_)
  match a with
  | ⟨0, _⟩ => exact Fin.ext (by show 0 + 1 * p.val = p.val; omega)
  | ⟨1, _⟩ => exact Fin.ext (by show 640 + 1 * n.val = 128 * 5 + n.val; omega)
theorem ld_w6 (p q : Fin 128) : View.ld x7 r0_25 (ix3 0 p q : S1x128x128.Idx) = x7 (ix3 6 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b6 (p n : Fin 128) : View.ld x8 r0_26 (ix2 p n : S128x128.Idx) = x8 (ix2 p (headCol 6 n)) := by
  refine congrArg x8 (funext fun a => ?_)
  match a with
  | ⟨0, _⟩ => exact Fin.ext (by show 0 + 1 * p.val = p.val; omega)
  | ⟨1, _⟩ => exact Fin.ext (by show 768 + 1 * n.val = 128 * 6 + n.val; omega)
theorem ld_w7 (p q : Fin 128) : View.ld x7 r0_28 (ix3 0 p q : S1x128x128.Idx) = x7 (ix3 7 p q) := by
  refine congrArg x7 (funext fun a => ?_)
  match a with
  | ⟨0, _⟩ => rfl
  | ⟨1, _⟩ => exact Fin.ext (by show 0 + 1 * p.val = p.val; omega)
  | ⟨2, _⟩ => exact Fin.ext (by show 0 + 1 * q.val = q.val; omega)
theorem ld_b7 (p n : Fin 128) : View.ld x8 r0_29 (ix2 p n : S128x128.Idx) = x8 (ix2 p (headCol 7 n)) := by
  refine congrArg x8 (funext fun a => ?_)
  match a with
  | ⟨0, _⟩ => exact Fin.ext (by show 0 + 1 * p.val = p.val; omega)
  | ⟨1, _⟩ => exact Fin.ext (by show 896 + 1 * n.val = 128 * 7 + n.val; omega)

theorem idx_cases (x : S1x128x128.Idx) : ∃ p n : Fin 128, x = ix3 0 p n :=
  ⟨x 1, x 2, by funext a; match a with | ⟨0, _⟩ => exact Fin.ext (by have h : (x 0).val < 1 := (x 0).isLt; show (x 0).val = 0; omega) | ⟨1, _⟩ => rfl | ⟨2, _⟩ => rfl⟩

theorem piece56 (x : S1x128x128.Idx) :
    (k0_pay1 (k0_pay74 x0 x1 x2 x3 x4 x5 x6 x7 x8 x9) (k0_pay77 x0 x1 x2 x3 x4 x5 x6 x7 x8 x9) (View.ld x7 r0_28) (View.ld x8 r0_29) : FVec Ideal S1x128x128 .bf16) x = blkY x0 x1 x2 x3 x5 x6 x7 x8 (r0_56.emb x) := by
  obtain ⟨p, n, rfl⟩ := idx_cases x
  rw [show r0_56.emb (ix3 0 p n : S1x128x128.Idx) = (ix3 0 (blkRow 1 (halfRow 1 p)) (headCol 7 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 896 + 1 * n.val = 128 * 7 + n.val; omega)]
  refine Eq.trans ?_ (mixV_eq x0 x1 x2 x3 x5 x6 x7 x8 1 1 7 p n (k0_pay74 x0 x1 x2 x3 x4 x5 x6 x7 x8 x9) (k0_pay77 x0 x1 x2 x3 x4 x5 x6 x7 x8 x9) (View.ld x7 r0_28) (View.ld x8 r0_29)
    (g74 x0 x1 x2 x3 x4 x5 x6 x7 x8 x9) (v77 x0 x1 x2 x3 x4 x5 x6 x7 x8 x9) (ld_w7 x7) (ld_b7 x8))
  exact mix1_at _ _ _ _ p n
theorem piece55 (x : S1x128x128.Idx) :
    (k0_pay64 (k0_pay74 x0 x1 x2 x3 x4 x5 x6 x7 x8 x9) (k0_pay77 x0 x1 x2 x3 x4 x5 x6 x7 x8 x9) (View.ld x7 r0_25) (View.ld x8 r0_26) : FVec Ideal S1x128x128 .bf16) x = blkY x0 x1 x2 x3 x5 x6 x7 x8 (r0_55.emb x) := by
  obtain ⟨p, n, rfl⟩ := idx_cases x
  rw [show r0_55.emb (ix3 0 p n : S1x128x128.Idx) = (ix3 0 (blkRow 1 (halfRow 1 p)) (headCol 6 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 768 + 1 * n.val = 128 * 6 + n.val; omega)]
  refine Eq.trans ?_ (mixV_eq x0 x1 x2 x3 x5 x6 x7 x8 1 1 6 p n (k0_pay74 x0 x1 x2 x3 x4 x5 x6 x7 x8 x9) (k0_pay77 x0 x1 x2 x3 x4 x5 x6 x7 x8 x9) (View.ld x7 r0_25) (View.ld x8 r0_26)
    (g74 x0 x1 x2 x3 x4 x5 x6 x7 x8 x9) (v77 x0 x1 x2 x3 x4 x5 x6 x7 x8 x9) (ld_w6 x7) (ld_b6 x8))
  exact mix64_at _ _ _ _ p n
theorem piece54 (x : S1x128x128.Idx) :
    (k0_pay63 (k0_pay74 x0 x1 x2 x3 x4 x5 x6 x7 x8 x9) (k0_pay77 x0 x1 x2 x3 x4 x5 x6 x7 x8 x9) (View.ld x7 r0_22) (View.ld x8 r0_23) : FVec Ideal S1x128x128 .bf16) x = blkY x0 x1 x2 x3 x5 x6 x7 x8 (r0_54.emb x) := by
  obtain ⟨p, n, rfl⟩ := idx_cases x
  rw [show r0_54.emb (ix3 0 p n : S1x128x128.Idx) = (ix3 0 (blkRow 1 (halfRow 1 p)) (headCol 5 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 640 + 1 * n.val = 128 * 5 + n.val; omega)]
  refine Eq.trans ?_ (mixV_eq x0 x1 x2 x3 x5 x6 x7 x8 1 1 5 p n (k0_pay74 x0 x1 x2 x3 x4 x5 x6 x7 x8 x9) (k0_pay77 x0 x1 x2 x3 x4 x5 x6 x7 x8 x9) (View.ld x7 r0_22) (View.ld x8 r0_23)
    (g74 x0 x1 x2 x3 x4 x5 x6 x7 x8 x9) (v77 x0 x1 x2 x3 x4 x5 x6 x7 x8 x9) (ld_w5 x7) (ld_b5 x8))
  exact mix63_at _ _ _ _ p n
theorem piece53 (x : S1x128x128.Idx) :
    (k0_pay62 (k0_pay74 x0 x1 x2 x3 x4 x5 x6 x7 x8 x9) (k0_pay60 (View.ld x7 r0_19)) (k0_pay61 (k0_pay77 x0 x1 x2 x3 x4 x5 x6 x7 x8 x9)) (constant S128x128 .f32 0x00000000#32) (View.ld x8 r0_20) : FVec Ideal S1x128x128 .bf16) x = blkY x0 x1 x2 x3 x5 x6 x7 x8 (r0_53.emb x) := by
  obtain ⟨p, n, rfl⟩ := idx_cases x
  rw [show r0_53.emb (ix3 0 p n : S1x128x128.Idx) = (ix3 0 (blkRow 1 (halfRow 1 p)) (headCol 4 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 512 + 1 * n.val = 128 * 4 + n.val; omega)]
  refine Eq.trans ?_ (mixV_eq x0 x1 x2 x3 x5 x6 x7 x8 1 1 4 p n (k0_pay74 x0 x1 x2 x3 x4 x5 x6 x7 x8 x9) (k0_pay77 x0 x1 x2 x3 x4 x5 x6 x7 x8 x9) (View.ld x7 r0_19) (View.ld x8 r0_20)
    (g74 x0 x1 x2 x3 x4 x5 x6 x7 x8 x9) (v77 x0 x1 x2 x3 x4 x5 x6 x7 x8 x9) (ld_w4 x7) (ld_b4 x8))
  exact mix62_at _ _ _ _ p n
theorem piece52 (x : S1x128x128.Idx) :
    (k0_pay59 (k0_pay74 x0 x1 x2 x3 x4 x5 x6 x7 x8 x9) (k0_pay77 x0 x1 x2 x3 x4 x5 x6 x7 x8 x9) (View.ld x7 r0_16) (View.ld x8 r0_17) : FVec Ideal S1x128x128 .bf16) x = blkY x0 x1 x2 x3 x5 x6 x7 x8 (r0_52.emb x) := by
  obtain ⟨p, n, rfl⟩ := idx_cases x
  rw [show r0_52.emb (ix3 0 p n : S1x128x128.Idx) = (ix3 0 (blkRow 1 (halfRow 1 p)) (headCol 3 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 384 + 1 * n.val = 128 * 3 + n.val; omega)]
  refine Eq.trans ?_ (mixV_eq x0 x1 x2 x3 x5 x6 x7 x8 1 1 3 p n (k0_pay74 x0 x1 x2 x3 x4 x5 x6 x7 x8 x9) (k0_pay77 x0 x1 x2 x3 x4 x5 x6 x7 x8 x9) (View.ld x7 r0_16) (View.ld x8 r0_17)
    (g74 x0 x1 x2 x3 x4 x5 x6 x7 x8 x9) (v77 x0 x1 x2 x3 x4 x5 x6 x7 x8 x9) (ld_w3 x7) (ld_b3 x8))
  exact mix59_at _ _ _ _ p n
theorem piece51 (x : S1x128x128.Idx) :
    (k0_pay58 (k0_pay74 x0 x1 x2 x3 x4 x5 x6 x7 x8 x9) (k0_pay77 x0 x1 x2 x3 x4 x5 x6 x7 x8 x9) (View.ld x7 r0_13) (View.ld x8 r0_14) : FVec Ideal S1x128x128 .bf16) x = blkY x0 x1 x2 x3 x5 x6 x7 x8 (r0_51.emb x) := by
  obtain ⟨p, n, rfl⟩ := idx_cases x
  rw [show r0_51.emb (ix3 0 p n : S1x128x128.Idx) = (ix3 0 (blkRow 1 (halfRow 1 p)) (headCol 2 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 256 + 1 * n.val = 128 * 2 + n.val; omega)]
  refine Eq.trans ?_ (mixV_eq x0 x1 x2 x3 x5 x6 x7 x8 1 1 2 p n (k0_pay74 x0 x1 x2 x3 x4 x5 x6 x7 x8 x9) (k0_pay77 x0 x1 x2 x3 x4 x5 x6 x7 x8 x9) (View.ld x7 r0_13) (View.ld x8 r0_14)
    (g74 x0 x1 x2 x3 x4 x5 x6 x7 x8 x9) (v77 x0 x1 x2 x3 x4 x5 x6 x7 x8 x9) (ld_w2 x7) (ld_b2 x8))
  exact mix58_at _ _ _ _ p n
theorem piece50 (x : S1x128x128.Idx) :
    (k0_pay57 (k0_pay56 (k0_pay74 x0 x1 x2 x3 x4 x5 x6 x7 x8 x9) (k0_pay77 x0 x1 x2 x3 x4 x5 x6 x7 x8 x9) (View.ld x7 r0_10) (View.ld x8 r0_11)) : FVec Ideal S1x128x128 .bf16) x = blkY x0 x1 x2 x3 x5 x6 x7 x8 (r0_50.emb x) := by
  obtain ⟨p, n, rfl⟩ := idx_cases x
  rw [show r0_50.emb (ix3 0 p n : S1x128x128.Idx) = (ix3 0 (blkRow 1 (halfRow 1 p)) (headCol 1 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 128 + 1 * n.val = 128 * 1 + n.val; omega)]
  refine Eq.trans ?_ (mixV_eq x0 x1 x2 x3 x5 x6 x7 x8 1 1 1 p n (k0_pay74 x0 x1 x2 x3 x4 x5 x6 x7 x8 x9) (k0_pay77 x0 x1 x2 x3 x4 x5 x6 x7 x8 x9) (View.ld x7 r0_10) (View.ld x8 r0_11)
    (g74 x0 x1 x2 x3 x4 x5 x6 x7 x8 x9) (v77 x0 x1 x2 x3 x4 x5 x6 x7 x8 x9) (ld_w1 x7) (ld_b1 x8))
  exact mix57_at _ _ _ _ p n
theorem piece49 (x : S1x128x128.Idx) :
    (k0_pay55 (k0_pay74 x0 x1 x2 x3 x4 x5 x6 x7 x8 x9) (k0_pay77 x0 x1 x2 x3 x4 x5 x6 x7 x8 x9) (View.ld x7 r0_7) (View.ld x8 r0_8) : FVec Ideal S1x128x128 .bf16) x = blkY x0 x1 x2 x3 x5 x6 x7 x8 (r0_49.emb x) := by
  obtain ⟨p, n, rfl⟩ := idx_cases x
  rw [show r0_49.emb (ix3 0 p n : S1x128x128.Idx) = (ix3 0 (blkRow 1 (halfRow 1 p)) (headCol 0 n) : S1x512x1024.Idx) from funext fun a => by
    match a with
    | ⟨0, _⟩ => rfl
    | ⟨1, _⟩ => exact Fin.ext (by show 384 + 1 * p.val = 256 * 1 + (128 * 1 + p.val); omega)
    | ⟨2, _⟩ => exact Fin.ext (by show 0 + 1 * n.val = 128 * 0 + n.val; omega)]
  refine Eq.trans ?_ (mixV_eq x0 x1 x2 x3 x5 x6 x7 x8 1 1 0 p n (k0_pay74 x0 x1 x2 x3 x4 x5 x6 x7 x8 x9) (k0_pay77 x0 x1 x2 x3 x4 x5 x6 x7 x8 x9) (View.ld x7 r0_7) (View.ld x8 r0_8)
    (g74 x0 x1 x2 x3 x4 x5 x6 x7 x8 x9) (v77 x0 x1 x2 x3 x4 x5 x6 x7 x8 x9) (ld_w0 x7) (ld_b0 x8))
  exact mix55_at _ _ _ _ p n
theorem piece48 (x : S1x128x128.Idx) :
    (k0_pay54 (k0_pay74 x0 x1 x2 x3 x4 x5 x6 x7 x8 x9) (k0_pay77 x0 x1 x2 x3 x4 x5 x6 x7 x8 x9) (View.ld x7 r0_28) (View.ld x8 r0_29) : FVec Ideal S1x128x128 .bf16) x = blkY x0 x1 x2 x3 x5 x6 x7 x8 (r0_48.emb x) := by
  obtain ⟨p, n, rfl⟩ := idx_cases x
  rw [show r0_48.emb (ix3 0 p n : S1x128x128.Idx) = (ix3 0 (blkRow 1 (halfRow 0 p)) (headCol 7 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 896 + 1 * n.val = 128 * 7 + n.val; omega)]
  refine Eq.trans ?_ (mixV_eq x0 x1 x2 x3 x5 x6 x7 x8 1 0 7 p n (k0_pay74 x0 x1 x2 x3 x4 x5 x6 x7 x8 x9) (k0_pay77 x0 x1 x2 x3 x4 x5 x6 x7 x8 x9) (View.ld x7 r0_28) (View.ld x8 r0_29)
    (g74 x0 x1 x2 x3 x4 x5 x6 x7 x8 x9) (v77 x0 x1 x2 x3 x4 x5 x6 x7 x8 x9) (ld_w7 x7) (ld_b7 x8))
  exact mix54_at _ _ _ _ p n
theorem piece47 (x : S1x128x128.Idx) :
    (k0_pay53 (k0_pay74 x0 x1 x2 x3 x4 x5 x6 x7 x8 x9) (k0_pay77 x0 x1 x2 x3 x4 x5 x6 x7 x8 x9) (View.ld x7 r0_25) (View.ld x8 r0_26) : FVec Ideal S1x128x128 .bf16) x = blkY x0 x1 x2 x3 x5 x6 x7 x8 (r0_47.emb x) := by
  obtain ⟨p, n, rfl⟩ := idx_cases x
  rw [show r0_47.emb (ix3 0 p n : S1x128x128.Idx) = (ix3 0 (blkRow 1 (halfRow 0 p)) (headCol 6 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 768 + 1 * n.val = 128 * 6 + n.val; omega)]
  refine Eq.trans ?_ (mixV_eq x0 x1 x2 x3 x5 x6 x7 x8 1 0 6 p n (k0_pay74 x0 x1 x2 x3 x4 x5 x6 x7 x8 x9) (k0_pay77 x0 x1 x2 x3 x4 x5 x6 x7 x8 x9) (View.ld x7 r0_25) (View.ld x8 r0_26)
    (g74 x0 x1 x2 x3 x4 x5 x6 x7 x8 x9) (v77 x0 x1 x2 x3 x4 x5 x6 x7 x8 x9) (ld_w6 x7) (ld_b6 x8))
  exact mix53_at _ _ _ _ p n
theorem piece46 (x : S1x128x128.Idx) :
    (k0_pay52 (k0_pay74 x0 x1 x2 x3 x4 x5 x6 x7 x8 x9) (k0_pay77 x0 x1 x2 x3 x4 x5 x6 x7 x8 x9) (View.ld x7 r0_22) (View.ld x8 r0_23) : FVec Ideal S1x128x128 .bf16) x = blkY x0 x1 x2 x3 x5 x6 x7 x8 (r0_46.emb x) := by
  obtain ⟨p, n, rfl⟩ := idx_cases x
  rw [show r0_46.emb (ix3 0 p n : S1x128x128.Idx) = (ix3 0 (blkRow 1 (halfRow 0 p)) (headCol 5 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 640 + 1 * n.val = 128 * 5 + n.val; omega)]
  refine Eq.trans ?_ (mixV_eq x0 x1 x2 x3 x5 x6 x7 x8 1 0 5 p n (k0_pay74 x0 x1 x2 x3 x4 x5 x6 x7 x8 x9) (k0_pay77 x0 x1 x2 x3 x4 x5 x6 x7 x8 x9) (View.ld x7 r0_22) (View.ld x8 r0_23)
    (g74 x0 x1 x2 x3 x4 x5 x6 x7 x8 x9) (v77 x0 x1 x2 x3 x4 x5 x6 x7 x8 x9) (ld_w5 x7) (ld_b5 x8))
  exact mix52_at _ _ _ _ p n
theorem piece45 (x : S1x128x128.Idx) :
    (k0_pay51 (k0_pay74 x0 x1 x2 x3 x4 x5 x6 x7 x8 x9) (k0_pay50 (k0_pay77 x0 x1 x2 x3 x4 x5 x6 x7 x8 x9) (View.ld x7 r0_19)) (View.ld x8 r0_20) : FVec Ideal S1x128x128 .bf16) x = blkY x0 x1 x2 x3 x5 x6 x7 x8 (r0_45.emb x) := by
  obtain ⟨p, n, rfl⟩ := idx_cases x
  rw [show r0_45.emb (ix3 0 p n : S1x128x128.Idx) = (ix3 0 (blkRow 1 (halfRow 0 p)) (headCol 4 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 512 + 1 * n.val = 128 * 4 + n.val; omega)]
  refine Eq.trans ?_ (mixV_eq x0 x1 x2 x3 x5 x6 x7 x8 1 0 4 p n (k0_pay74 x0 x1 x2 x3 x4 x5 x6 x7 x8 x9) (k0_pay77 x0 x1 x2 x3 x4 x5 x6 x7 x8 x9) (View.ld x7 r0_19) (View.ld x8 r0_20)
    (g74 x0 x1 x2 x3 x4 x5 x6 x7 x8 x9) (v77 x0 x1 x2 x3 x4 x5 x6 x7 x8 x9) (ld_w4 x7) (ld_b4 x8))
  exact mix51_at _ _ _ _ p n
theorem piece44 (x : S1x128x128.Idx) :
    (k0_pay49 (k0_pay74 x0 x1 x2 x3 x4 x5 x6 x7 x8 x9) (k0_pay77 x0 x1 x2 x3 x4 x5 x6 x7 x8 x9) (View.ld x7 r0_16) (View.ld x8 r0_17) : FVec Ideal S1x128x128 .bf16) x = blkY x0 x1 x2 x3 x5 x6 x7 x8 (r0_44.emb x) := by
  obtain ⟨p, n, rfl⟩ := idx_cases x
  rw [show r0_44.emb (ix3 0 p n : S1x128x128.Idx) = (ix3 0 (blkRow 1 (halfRow 0 p)) (headCol 3 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 384 + 1 * n.val = 128 * 3 + n.val; omega)]
  refine Eq.trans ?_ (mixV_eq x0 x1 x2 x3 x5 x6 x7 x8 1 0 3 p n (k0_pay74 x0 x1 x2 x3 x4 x5 x6 x7 x8 x9) (k0_pay77 x0 x1 x2 x3 x4 x5 x6 x7 x8 x9) (View.ld x7 r0_16) (View.ld x8 r0_17)
    (g74 x0 x1 x2 x3 x4 x5 x6 x7 x8 x9) (v77 x0 x1 x2 x3 x4 x5 x6 x7 x8 x9) (ld_w3 x7) (ld_b3 x8))
  exact mix49_at _ _ _ _ p n
theorem piece43 (x : S1x128x128.Idx) :
    (k0_pay48 (k0_pay74 x0 x1 x2 x3 x4 x5 x6 x7 x8 x9) (k0_pay77 x0 x1 x2 x3 x4 x5 x6 x7 x8 x9) (View.ld x7 r0_13) (View.ld x8 r0_14) : FVec Ideal S1x128x128 .bf16) x = blkY x0 x1 x2 x3 x5 x6 x7 x8 (r0_43.emb x) := by
  obtain ⟨p, n, rfl⟩ := idx_cases x
  rw [show r0_43.emb (ix3 0 p n : S1x128x128.Idx) = (ix3 0 (blkRow 1 (halfRow 0 p)) (headCol 2 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 256 + 1 * n.val = 128 * 2 + n.val; omega)]
  refine Eq.trans ?_ (mixV_eq x0 x1 x2 x3 x5 x6 x7 x8 1 0 2 p n (k0_pay74 x0 x1 x2 x3 x4 x5 x6 x7 x8 x9) (k0_pay77 x0 x1 x2 x3 x4 x5 x6 x7 x8 x9) (View.ld x7 r0_13) (View.ld x8 r0_14)
    (g74 x0 x1 x2 x3 x4 x5 x6 x7 x8 x9) (v77 x0 x1 x2 x3 x4 x5 x6 x7 x8 x9) (ld_w2 x7) (ld_b2 x8))
  exact mix48_at _ _ _ _ p n
theorem piece42 (x : S1x128x128.Idx) :
    (k0_pay47 (k0_pay46 (k0_pay74 x0 x1 x2 x3 x4 x5 x6 x7 x8 x9) (k0_pay75 x0 x1 x2 x3 x4 x5 x6 x7 x8 x9) (k0_pay76 x0 x1 x2 x3 x4 x5 x6 x7 x8 x9) (Scalar.ofBits .f32 0x358637BD#32) (View.ld x5 r0_6) (View.ld x6 r0_6) (View.ld x7 r0_10) (View.ld x8 r0_11)) : FVec Ideal S1x128x128 .bf16) x = blkY x0 x1 x2 x3 x5 x6 x7 x8 (r0_42.emb x) := by
  obtain ⟨p, n, rfl⟩ := idx_cases x
  rw [show r0_42.emb (ix3 0 p n : S1x128x128.Idx) = (ix3 0 (blkRow 1 (halfRow 0 p)) (headCol 1 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 128 + 1 * n.val = 128 * 1 + n.val; omega)]
  refine Eq.trans ?_ (mixV_eq x0 x1 x2 x3 x5 x6 x7 x8 1 0 1 p n (k0_pay74 x0 x1 x2 x3 x4 x5 x6 x7 x8 x9) (k0_pay77 x0 x1 x2 x3 x4 x5 x6 x7 x8 x9) (View.ld x7 r0_10) (View.ld x8 r0_11)
    (g74 x0 x1 x2 x3 x4 x5 x6 x7 x8 x9) (v77 x0 x1 x2 x3 x4 x5 x6 x7 x8 x9) (ld_w1 x7) (ld_b1 x8))
  exact mix47_at _ _ _ p n _ _ _ _ _
theorem piece41 (x : S1x128x128.Idx) :
    (k0_pay45 (k0_pay74 x0 x1 x2 x3 x4 x5 x6 x7 x8 x9) (k0_pay75 x0 x1 x2 x3 x4 x5 x6 x7 x8 x9) (k0_pay76 x0 x1 x2 x3 x4 x5 x6 x7 x8 x9) (Scalar.ofBits .f32 0x358637BD#32) (View.ld x5 r0_6) (View.ld x6 r0_6) (View.ld x7 r0_7) (View.ld x8 r0_8) : FVec Ideal S1x128x128 .bf16) x = blkY x0 x1 x2 x3 x5 x6 x7 x8 (r0_41.emb x) := by
  obtain ⟨p, n, rfl⟩ := idx_cases x
  rw [show r0_41.emb (ix3 0 p n : S1x128x128.Idx) = (ix3 0 (blkRow 1 (halfRow 0 p)) (headCol 0 n) : S1x512x1024.Idx) from funext fun a => by
    match a with
    | ⟨0, _⟩ => rfl
    | ⟨1, _⟩ => exact Fin.ext (by show 256 + 1 * p.val = 256 * 1 + (128 * 0 + p.val); omega)
    | ⟨2, _⟩ => exact Fin.ext (by show 0 + 1 * n.val = 128 * 0 + n.val; omega)]
  refine Eq.trans ?_ (mixV_eq x0 x1 x2 x3 x5 x6 x7 x8 1 0 0 p n (k0_pay74 x0 x1 x2 x3 x4 x5 x6 x7 x8 x9) (k0_pay77 x0 x1 x2 x3 x4 x5 x6 x7 x8 x9) (View.ld x7 r0_7) (View.ld x8 r0_8)
    (g74 x0 x1 x2 x3 x4 x5 x6 x7 x8 x9) (v77 x0 x1 x2 x3 x4 x5 x6 x7 x8 x9) (ld_w0 x7) (ld_b0 x8))
  exact mix45_at _ _ _ p n _ _ _ _ _
theorem piece38 (x : S1x128x128.Idx) :
    (k0_pay33 (k0_pay70 x0 x1 x2 x3 x4 x5 x6 x7 x8 x9) (k0_pay71 x0 x1 x2 x3 x4 x5 x6 x7 x8 x9) (View.ld x7 r0_28) (View.ld x8 r0_29) : FVec Ideal S1x128x128 .bf16) x = blkY x0 x1 x2 x3 x5 x6 x7 x8 (r0_38.emb x) := by
  obtain ⟨p, n, rfl⟩ := idx_cases x
  rw [show r0_38.emb (ix3 0 p n : S1x128x128.Idx) = (ix3 0 (blkRow 0 (halfRow 1 p)) (headCol 7 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 896 + 1 * n.val = 128 * 7 + n.val; omega)]
  refine Eq.trans ?_ (mixV_eq x0 x1 x2 x3 x5 x6 x7 x8 0 1 7 p n (k0_pay70 x0 x1 x2 x3 x4 x5 x6 x7 x8 x9) (k0_pay71 x0 x1 x2 x3 x4 x5 x6 x7 x8 x9) (View.ld x7 r0_28) (View.ld x8 r0_29)
    (g70 x0 x1 x2 x3 x4 x5 x6 x7 x8 x9) (v71 x0 x1 x2 x3 x4 x5 x6 x7 x8 x9) (ld_w7 x7) (ld_b7 x8))
  exact mix33_at _ _ _ _ p n
theorem piece37 (x : S1x128x128.Idx) :
    (k0_pay32 (k0_pay70 x0 x1 x2 x3 x4 x5 x6 x7 x8 x9) (k0_pay71 x0 x1 x2 x3 x4 x5 x6 x7 x8 x9) (View.ld x7 r0_25) (View.ld x8 r0_26) : FVec Ideal S1x128x128 .bf16) x = blkY x0 x1 x2 x3 x5 x6 x7 x8 (r0_37.emb x) := by
  obtain ⟨p, n, rfl⟩ := idx_cases x
  rw [show r0_37.emb (ix3 0 p n : S1x128x128.Idx) = (ix3 0 (blkRow 0 (halfRow 1 p)) (headCol 6 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 768 + 1 * n.val = 128 * 6 + n.val; omega)]
  refine Eq.trans ?_ (mixV_eq x0 x1 x2 x3 x5 x6 x7 x8 0 1 6 p n (k0_pay70 x0 x1 x2 x3 x4 x5 x6 x7 x8 x9) (k0_pay71 x0 x1 x2 x3 x4 x5 x6 x7 x8 x9) (View.ld x7 r0_25) (View.ld x8 r0_26)
    (g70 x0 x1 x2 x3 x4 x5 x6 x7 x8 x9) (v71 x0 x1 x2 x3 x4 x5 x6 x7 x8 x9) (ld_w6 x7) (ld_b6 x8))
  exact mix32_at _ _ _ _ p n
theorem piece36 (x : S1x128x128.Idx) :
    (k0_pay31 (k0_pay70 x0 x1 x2 x3 x4 x5 x6 x7 x8 x9) (k0_pay71 x0 x1 x2 x3 x4 x5 x6 x7 x8 x9) (View.ld x7 r0_22) (View.ld x8 r0_23) : FVec Ideal S1x128x128 .bf16) x = blkY x0 x1 x2 x3 x5 x6 x7 x8 (r0_36.emb x) := by
  obtain ⟨p, n, rfl⟩ := idx_cases x
  rw [show r0_36.emb (ix3 0 p n : S1x128x128.Idx) = (ix3 0 (blkRow 0 (halfRow 1 p)) (headCol 5 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 640 + 1 * n.val = 128 * 5 + n.val; omega)]
  refine Eq.trans ?_ (mixV_eq x0 x1 x2 x3 x5 x6 x7 x8 0 1 5 p n (k0_pay70 x0 x1 x2 x3 x4 x5 x6 x7 x8 x9) (k0_pay71 x0 x1 x2 x3 x4 x5 x6 x7 x8 x9) (View.ld x7 r0_22) (View.ld x8 r0_23)
    (g70 x0 x1 x2 x3 x4 x5 x6 x7 x8 x9) (v71 x0 x1 x2 x3 x4 x5 x6 x7 x8 x9) (ld_w5 x7) (ld_b5 x8))
  exact mix31_at _ _ _ _ p n
theorem piece35 (x : S1x128x128.Idx) :
    (k0_pay30 (k0_pay70 x0 x1 x2 x3 x4 x5 x6 x7 x8 x9) (k0_pay71 x0 x1 x2 x3 x4 x5 x6 x7 x8 x9) (View.ld x7 r0_19) (View.ld x8 r0_20) : FVec Ideal S1x128x128 .bf16) x = blkY x0 x1 x2 x3 x5 x6 x7 x8 (r0_35.emb x) := by
  obtain ⟨p, n, rfl⟩ := idx_cases x
  rw [show r0_35.emb (ix3 0 p n : S1x128x128.Idx) = (ix3 0 (blkRow 0 (halfRow 1 p)) (headCol 4 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 512 + 1 * n.val = 128 * 4 + n.val; omega)]
  refine Eq.trans ?_ (mixV_eq x0 x1 x2 x3 x5 x6 x7 x8 0 1 4 p n (k0_pay70 x0 x1 x2 x3 x4 x5 x6 x7 x8 x9) (k0_pay71 x0 x1 x2 x3 x4 x5 x6 x7 x8 x9) (View.ld x7 r0_19) (View.ld x8 r0_20)
    (g70 x0 x1 x2 x3 x4 x5 x6 x7 x8 x9) (v71 x0 x1 x2 x3 x4 x5 x6 x7 x8 x9) (ld_w4 x7) (ld_b4 x8))
  exact mix30_at _ _ _ _ p n
theorem piece34 (x : S1x128x128.Idx) :
    (k0_pay29 (k0_pay70 x0 x1 x2 x3 x4 x5 x6 x7 x8 x9) (k0_pay27 (View.ld x7 r0_16)) (k0_pay28 (k0_pay71 x0 x1 x2 x3 x4 x5 x6 x7 x8 x9)) (constant S128x128 .f32 0x00000000#32) (View.ld x8 r0_17) : FVec Ideal S1x128x128 .bf16) x = blkY x0 x1 x2 x3 x5 x6 x7 x8 (r0_34.emb x) := by
  obtain ⟨p, n, rfl⟩ := idx_cases x
  rw [show r0_34.emb (ix3 0 p n : S1x128x128.Idx) = (ix3 0 (blkRow 0 (halfRow 1 p)) (headCol 3 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 384 + 1 * n.val = 128 * 3 + n.val; omega)]
  refine Eq.trans ?_ (mixV_eq x0 x1 x2 x3 x5 x6 x7 x8 0 1 3 p n (k0_pay70 x0 x1 x2 x3 x4 x5 x6 x7 x8 x9) (k0_pay71 x0 x1 x2 x3 x4 x5 x6 x7 x8 x9) (View.ld x7 r0_16) (View.ld x8 r0_17)
    (g70 x0 x1 x2 x3 x4 x5 x6 x7 x8 x9) (v71 x0 x1 x2 x3 x4 x5 x6 x7 x8 x9) (ld_w3 x7) (ld_b3 x8))
  exact mix29_at _ _ _ _ p n
theorem piece33 (x : S1x128x128.Idx) :
    (k0_pay26 (k0_pay70 x0 x1 x2 x3 x4 x5 x6 x7 x8 x9) (k0_pay71 x0 x1 x2 x3 x4 x5 x6 x7 x8 x9) (View.ld x7 r0_13) (View.ld x8 r0_14) : FVec Ideal S1x128x128 .bf16) x = blkY x0 x1 x2 x3 x5 x6 x7 x8 (r0_33.emb x) := by
  obtain ⟨p, n, rfl⟩ := idx_cases x
  rw [show r0_33.emb (ix3 0 p n : S1x128x128.Idx) = (ix3 0 (blkRow 0 (halfRow 1 p)) (headCol 2 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 256 + 1 * n.val = 128 * 2 + n.val; omega)]
  refine Eq.trans ?_ (mixV_eq x0 x1 x2 x3 x5 x6 x7 x8 0 1 2 p n (k0_pay70 x0 x1 x2 x3 x4 x5 x6 x7 x8 x9) (k0_pay71 x0 x1 x2 x3 x4 x5 x6 x7 x8 x9) (View.ld x7 r0_13) (View.ld x8 r0_14)
    (g70 x0 x1 x2 x3 x4 x5 x6 x7 x8 x9) (v71 x0 x1 x2 x3 x4 x5 x6 x7 x8 x9) (ld_w2 x7) (ld_b2 x8))
  exact mix26_at _ _ _ _ p n
theorem piece32 (x : S1x128x128.Idx) :
    (k0_pay25 (k0_pay70 x0 x1 x2 x3 x4 x5 x6 x7 x8 x9) (k0_pay71 x0 x1 x2 x3 x4 x5 x6 x7 x8 x9) (View.ld x7 r0_10) (View.ld x8 r0_11) : FVec Ideal S1x128x128 .bf16) x = blkY x0 x1 x2 x3 x5 x6 x7 x8 (r0_32.emb x) := by
  obtain ⟨p, n, rfl⟩ := idx_cases x
  rw [show r0_32.emb (ix3 0 p n : S1x128x128.Idx) = (ix3 0 (blkRow 0 (halfRow 1 p)) (headCol 1 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 128 + 1 * n.val = 128 * 1 + n.val; omega)]
  refine Eq.trans ?_ (mixV_eq x0 x1 x2 x3 x5 x6 x7 x8 0 1 1 p n (k0_pay70 x0 x1 x2 x3 x4 x5 x6 x7 x8 x9) (k0_pay71 x0 x1 x2 x3 x4 x5 x6 x7 x8 x9) (View.ld x7 r0_10) (View.ld x8 r0_11)
    (g70 x0 x1 x2 x3 x4 x5 x6 x7 x8 x9) (v71 x0 x1 x2 x3 x4 x5 x6 x7 x8 x9) (ld_w1 x7) (ld_b1 x8))
  exact mix25_at _ _ _ _ p n
theorem piece31 (x : S1x128x128.Idx) :
    (k0_pay24 (k0_pay23 (k0_pay70 x0 x1 x2 x3 x4 x5 x6 x7 x8 x9) (k0_pay71 x0 x1 x2 x3 x4 x5 x6 x7 x8 x9) (View.ld x7 r0_7) (View.ld x8 r0_8)) : FVec Ideal S1x128x128 .bf16) x = blkY x0 x1 x2 x3 x5 x6 x7 x8 (r0_31.emb x) := by
  obtain ⟨p, n, rfl⟩ := idx_cases x
  rw [show r0_31.emb (ix3 0 p n : S1x128x128.Idx) = (ix3 0 (blkRow 0 (halfRow 1 p)) (headCol 0 n) : S1x512x1024.Idx) from funext fun a => by
    match a with
    | ⟨0, _⟩ => rfl
    | ⟨1, _⟩ => exact Fin.ext (by show 128 + 1 * p.val = 256 * 0 + (128 * 1 + p.val); omega)
    | ⟨2, _⟩ => exact Fin.ext (by show 0 + 1 * n.val = 128 * 0 + n.val; omega)]
  refine Eq.trans ?_ (mixV_eq x0 x1 x2 x3 x5 x6 x7 x8 0 1 0 p n (k0_pay70 x0 x1 x2 x3 x4 x5 x6 x7 x8 x9) (k0_pay71 x0 x1 x2 x3 x4 x5 x6 x7 x8 x9) (View.ld x7 r0_7) (View.ld x8 r0_8)
    (g70 x0 x1 x2 x3 x4 x5 x6 x7 x8 x9) (v71 x0 x1 x2 x3 x4 x5 x6 x7 x8 x9) (ld_w0 x7) (ld_b0 x8))
  exact mix24_at _ _ _ _ p n
theorem piece30 (x : S1x128x128.Idx) :
    (k0_pay22 (k0_pay70 x0 x1 x2 x3 x4 x5 x6 x7 x8 x9) (k0_pay71 x0 x1 x2 x3 x4 x5 x6 x7 x8 x9) (View.ld x7 r0_28) (View.ld x8 r0_29) : FVec Ideal S1x128x128 .bf16) x = blkY x0 x1 x2 x3 x5 x6 x7 x8 (r0_30.emb x) := by
  obtain ⟨p, n, rfl⟩ := idx_cases x
  rw [show r0_30.emb (ix3 0 p n : S1x128x128.Idx) = (ix3 0 (blkRow 0 (halfRow 0 p)) (headCol 7 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 896 + 1 * n.val = 128 * 7 + n.val; omega)]
  refine Eq.trans ?_ (mixV_eq x0 x1 x2 x3 x5 x6 x7 x8 0 0 7 p n (k0_pay70 x0 x1 x2 x3 x4 x5 x6 x7 x8 x9) (k0_pay71 x0 x1 x2 x3 x4 x5 x6 x7 x8 x9) (View.ld x7 r0_28) (View.ld x8 r0_29)
    (g70 x0 x1 x2 x3 x4 x5 x6 x7 x8 x9) (v71 x0 x1 x2 x3 x4 x5 x6 x7 x8 x9) (ld_w7 x7) (ld_b7 x8))
  exact mix22_at _ _ _ _ p n
theorem piece27 (x : S1x128x128.Idx) :
    (k0_pay21 (k0_pay70 x0 x1 x2 x3 x4 x5 x6 x7 x8 x9) (k0_pay71 x0 x1 x2 x3 x4 x5 x6 x7 x8 x9) (View.ld x7 r0_25) (View.ld x8 r0_26) : FVec Ideal S1x128x128 .bf16) x = blkY x0 x1 x2 x3 x5 x6 x7 x8 (r0_27.emb x) := by
  obtain ⟨p, n, rfl⟩ := idx_cases x
  rw [show r0_27.emb (ix3 0 p n : S1x128x128.Idx) = (ix3 0 (blkRow 0 (halfRow 0 p)) (headCol 6 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 768 + 1 * n.val = 128 * 6 + n.val; omega)]
  refine Eq.trans ?_ (mixV_eq x0 x1 x2 x3 x5 x6 x7 x8 0 0 6 p n (k0_pay70 x0 x1 x2 x3 x4 x5 x6 x7 x8 x9) (k0_pay71 x0 x1 x2 x3 x4 x5 x6 x7 x8 x9) (View.ld x7 r0_25) (View.ld x8 r0_26)
    (g70 x0 x1 x2 x3 x4 x5 x6 x7 x8 x9) (v71 x0 x1 x2 x3 x4 x5 x6 x7 x8 x9) (ld_w6 x7) (ld_b6 x8))
  exact mix21_at _ _ _ _ p n
theorem piece24 (x : S1x128x128.Idx) :
    (k0_pay20 (k0_pay70 x0 x1 x2 x3 x4 x5 x6 x7 x8 x9) (k0_pay71 x0 x1 x2 x3 x4 x5 x6 x7 x8 x9) (View.ld x7 r0_22) (View.ld x8 r0_23) : FVec Ideal S1x128x128 .bf16) x = blkY x0 x1 x2 x3 x5 x6 x7 x8 (r0_24.emb x) := by
  obtain ⟨p, n, rfl⟩ := idx_cases x
  rw [show r0_24.emb (ix3 0 p n : S1x128x128.Idx) = (ix3 0 (blkRow 0 (halfRow 0 p)) (headCol 5 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 640 + 1 * n.val = 128 * 5 + n.val; omega)]
  refine Eq.trans ?_ (mixV_eq x0 x1 x2 x3 x5 x6 x7 x8 0 0 5 p n (k0_pay70 x0 x1 x2 x3 x4 x5 x6 x7 x8 x9) (k0_pay71 x0 x1 x2 x3 x4 x5 x6 x7 x8 x9) (View.ld x7 r0_22) (View.ld x8 r0_23)
    (g70 x0 x1 x2 x3 x4 x5 x6 x7 x8 x9) (v71 x0 x1 x2 x3 x4 x5 x6 x7 x8 x9) (ld_w5 x7) (ld_b5 x8))
  exact mix20_at _ _ _ _ p n
theorem piece21 (x : S1x128x128.Idx) :
    (k0_pay19 (k0_pay70 x0 x1 x2 x3 x4 x5 x6 x7 x8 x9) (k0_pay71 x0 x1 x2 x3 x4 x5 x6 x7 x8 x9) (View.ld x7 r0_19) (View.ld x8 r0_20) : FVec Ideal S1x128x128 .bf16) x = blkY x0 x1 x2 x3 x5 x6 x7 x8 (r0_21.emb x) := by
  obtain ⟨p, n, rfl⟩ := idx_cases x
  rw [show r0_21.emb (ix3 0 p n : S1x128x128.Idx) = (ix3 0 (blkRow 0 (halfRow 0 p)) (headCol 4 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 512 + 1 * n.val = 128 * 4 + n.val; omega)]
  refine Eq.trans ?_ (mixV_eq x0 x1 x2 x3 x5 x6 x7 x8 0 0 4 p n (k0_pay70 x0 x1 x2 x3 x4 x5 x6 x7 x8 x9) (k0_pay71 x0 x1 x2 x3 x4 x5 x6 x7 x8 x9) (View.ld x7 r0_19) (View.ld x8 r0_20)
    (g70 x0 x1 x2 x3 x4 x5 x6 x7 x8 x9) (v71 x0 x1 x2 x3 x4 x5 x6 x7 x8 x9) (ld_w4 x7) (ld_b4 x8))
  exact mix19_at _ _ _ _ p n
theorem piece18 (x : S1x128x128.Idx) :
    (k0_pay18 (k0_pay70 x0 x1 x2 x3 x4 x5 x6 x7 x8 x9) (k0_pay17 (k0_pay71 x0 x1 x2 x3 x4 x5 x6 x7 x8 x9) (View.ld x7 r0_16)) (View.ld x8 r0_17) : FVec Ideal S1x128x128 .bf16) x = blkY x0 x1 x2 x3 x5 x6 x7 x8 (r0_18.emb x) := by
  obtain ⟨p, n, rfl⟩ := idx_cases x
  rw [show r0_18.emb (ix3 0 p n : S1x128x128.Idx) = (ix3 0 (blkRow 0 (halfRow 0 p)) (headCol 3 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 384 + 1 * n.val = 128 * 3 + n.val; omega)]
  refine Eq.trans ?_ (mixV_eq x0 x1 x2 x3 x5 x6 x7 x8 0 0 3 p n (k0_pay70 x0 x1 x2 x3 x4 x5 x6 x7 x8 x9) (k0_pay71 x0 x1 x2 x3 x4 x5 x6 x7 x8 x9) (View.ld x7 r0_16) (View.ld x8 r0_17)
    (g70 x0 x1 x2 x3 x4 x5 x6 x7 x8 x9) (v71 x0 x1 x2 x3 x4 x5 x6 x7 x8 x9) (ld_w3 x7) (ld_b3 x8))
  exact mix18_at _ _ _ _ p n
theorem piece15 (x : S1x128x128.Idx) :
    (k0_pay16 (k0_pay70 x0 x1 x2 x3 x4 x5 x6 x7 x8 x9) (k0_pay71 x0 x1 x2 x3 x4 x5 x6 x7 x8 x9) (View.ld x7 r0_13) (View.ld x8 r0_14) : FVec Ideal S1x128x128 .bf16) x = blkY x0 x1 x2 x3 x5 x6 x7 x8 (r0_15.emb x) := by
  obtain ⟨p, n, rfl⟩ := idx_cases x
  rw [show r0_15.emb (ix3 0 p n : S1x128x128.Idx) = (ix3 0 (blkRow 0 (halfRow 0 p)) (headCol 2 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 256 + 1 * n.val = 128 * 2 + n.val; omega)]
  refine Eq.trans ?_ (mixV_eq x0 x1 x2 x3 x5 x6 x7 x8 0 0 2 p n (k0_pay70 x0 x1 x2 x3 x4 x5 x6 x7 x8 x9) (k0_pay71 x0 x1 x2 x3 x4 x5 x6 x7 x8 x9) (View.ld x7 r0_13) (View.ld x8 r0_14)
    (g70 x0 x1 x2 x3 x4 x5 x6 x7 x8 x9) (v71 x0 x1 x2 x3 x4 x5 x6 x7 x8 x9) (ld_w2 x7) (ld_b2 x8))
  exact mix16_at _ _ _ _ p n
theorem piece12 (x : S1x128x128.Idx) :
    (k0_pay15 (k0_pay70 x0 x1 x2 x3 x4 x5 x6 x7 x8 x9) (k0_pay71 x0 x1 x2 x3 x4 x5 x6 x7 x8 x9) (View.ld x7 r0_10) (View.ld x8 r0_11) : FVec Ideal S1x128x128 .bf16) x = blkY x0 x1 x2 x3 x5 x6 x7 x8 (r0_12.emb x) := by
  obtain ⟨p, n, rfl⟩ := idx_cases x
  rw [show r0_12.emb (ix3 0 p n : S1x128x128.Idx) = (ix3 0 (blkRow 0 (halfRow 0 p)) (headCol 1 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 128 + 1 * n.val = 128 * 1 + n.val; omega)]
  refine Eq.trans ?_ (mixV_eq x0 x1 x2 x3 x5 x6 x7 x8 0 0 1 p n (k0_pay70 x0 x1 x2 x3 x4 x5 x6 x7 x8 x9) (k0_pay71 x0 x1 x2 x3 x4 x5 x6 x7 x8 x9) (View.ld x7 r0_10) (View.ld x8 r0_11)
    (g70 x0 x1 x2 x3 x4 x5 x6 x7 x8 x9) (v71 x0 x1 x2 x3 x4 x5 x6 x7 x8 x9) (ld_w1 x7) (ld_b1 x8))
  exact mix15_at _ _ _ _ p n
theorem piece9 (x : S1x128x128.Idx) :
    (k0_pay14 (k0_pay13 (k0_pay66 x0 x1 x2 x3 x4 x5 x6 x7 x8 x9) (k0_pay67 x0 x1 x2 x3 x4 x5 x6 x7 x8 x9) (k0_pay68 x0 x1 x2 x3 x4 x5 x6 x7 x8 x9) (k0_pay69 x0 x1 x2 x3 x4 x5 x6 x7 x8 x9) (Scalar.ofBits .f32 0x3F800000#32) (View.ld x5 r0_6) (View.ld x6 r0_6) (View.ld x7 r0_7) (View.ld x8 r0_8)) : FVec Ideal S1x128x128 .bf16) x = blkY x0 x1 x2 x3 x5 x6 x7 x8 (r0_9.emb x) := by
  obtain ⟨p, n, rfl⟩ := idx_cases x
  rw [show r0_9.emb (ix3 0 p n : S1x128x128.Idx) = (ix3 0 (blkRow 0 (halfRow 0 p)) (headCol 0 n) : S1x512x1024.Idx) from funext fun a => by
    match a with
    | ⟨0, _⟩ => rfl
    | ⟨1, _⟩ => exact Fin.ext (by show 0 + 1 * p.val = 256 * 0 + (128 * 0 + p.val); omega)
    | ⟨2, _⟩ => exact Fin.ext (by show 0 + 1 * n.val = 128 * 0 + n.val; omega)]
  refine Eq.trans ?_ (mixV_eq x0 x1 x2 x3 x5 x6 x7 x8 0 0 0 p n (k0_pay70 x0 x1 x2 x3 x4 x5 x6 x7 x8 x9) (k0_pay71 x0 x1 x2 x3 x4 x5 x6 x7 x8 x9) (View.ld x7 r0_7) (View.ld x8 r0_8)
    (g70 x0 x1 x2 x3 x4 x5 x6 x7 x8 x9) (v71 x0 x1 x2 x3 x4 x5 x6 x7 x8 x9) (ld_w0 x7) (ld_b0 x8))
  exact mix14_at _ _ p n _ _ _ _ _ _ _

/-- The first output block is the gated block. -/
theorem out10 (y : S1x512x1024.Idx) : out0_10 (F := Ideal) x0 x1 x2 x3 x4 x5 x6 x7 x8 x9 y = blkY x0 x1 x2 x3 x5 x6 x7 x8 y := by
  unfold out0_10
  refine View.canon_apply_of_pieces (Val := Elt Ideal) (blkY x0 x1 x2 x3 x5 x6 x7 x8) _ ?_ y (cover0_10 _ _ _ _ _ _ _ _ _ _ _ _ _ _ _ _ _ _ _ _ _ _ _ _ _ _ _ _ _ _ _ _ y)
  refine View.PiecesOf.mem ⟨piece56 x0 x1 x2 x3 x4 x5 x6 x7 x8 x9, piece55 x0 x1 x2 x3 x4 x5 x6 x7 x8 x9, piece54 x0 x1 x2 x3 x4 x5 x6 x7 x8 x9, piece53 x0 x1 x2 x3 x4 x5 x6 x7 x8 x9, piece52 x0 x1 x2 x3 x4 x5 x6 x7 x8 x9, piece51 x0 x1 x2 x3 x4 x5 x6 x7 x8 x9, piece50 x0 x1 x2 x3 x4 x5 x6 x7 x8 x9, piece49 x0 x1 x2 x3 x4 x5 x6 x7 x8 x9, piece48 x0 x1 x2 x3 x4 x5 x6 x7 x8 x9, piece47 x0 x1 x2 x3 x4 x5 x6 x7 x8 x9, piece46 x0 x1 x2 x3 x4 x5 x6 x7 x8 x9, piece45 x0 x1 x2 x3 x4 x5 x6 x7 x8 x9, piece44 x0 x1 x2 x3 x4 x5 x6 x7 x8 x9, piece43 x0 x1 x2 x3 x4 x5 x6 x7 x8 x9, piece42 x0 x1 x2 x3 x4 x5 x6 x7 x8 x9, piece41 x0 x1 x2 x3 x4 x5 x6 x7 x8 x9, piece38 x0 x1 x2 x3 x4 x5 x6 x7 x8 x9, piece37 x0 x1 x2 x3 x4 x5 x6 x7 x8 x9, piece36 x0 x1 x2 x3 x4 x5 x6 x7 x8 x9, piece35 x0 x1 x2 x3 x4 x5 x6 x7 x8 x9, piece34 x0 x1 x2 x3 x4 x5 x6 x7 x8 x9, piece33 x0 x1 x2 x3 x4 x5 x6 x7 x8 x9, piece32 x0 x1 x2 x3 x4 x5 x6 x7 x8 x9, piece31 x0 x1 x2 x3 x4 x5 x6 x7 x8 x9, piece30 x0 x1 x2 x3 x4 x5 x6 x7 x8 x9, piece27 x0 x1 x2 x3 x4 x5 x6 x7 x8 x9, piece24 x0 x1 x2 x3 x4 x5 x6 x7 x8 x9, piece21 x0 x1 x2 x3 x4 x5 x6 x7 x8 x9, piece18 x0 x1 x2 x3 x4 x5 x6 x7 x8 x9, piece15 x0 x1 x2 x3 x4 x5 x6 x7 x8 x9, piece12 x0 x1 x2 x3 x4 x5 x6 x7 x8 x9, piece9 x0 x1 x2 x3 x4 x5 x6 x7 x8 x9, trivial⟩

theorem idx_casesW {N : Nat} (x : (⟨3, ![1, 256, N]⟩ : Shape).Idx) : ∃ (r : Fin 256) (n : Fin N), x = ix3 0 r n :=
  ⟨x 1, x 2, by funext a; match a with | ⟨0, _⟩ => exact Fin.ext (by have h : (x 0).val < 1 := (x 0).isLt; show (x 0).val = 0; omega) | ⟨1, _⟩ => rfl | ⟨2, _⟩ => rfl⟩

/-- The second projection's own gate, of a block. -/
def blkZ (y : S1x512x1024.Idx) : EReal := sideS (rowB x0 x1 x2 (y 1)) x4 (y 2)

/-- A block's modulated rows. -/
def blkH (y : S1x512x2048.Idx) : EReal := rowB x0 x1 x2 (y 1) (y 2)

/-- The second output block: the second projection's own gate. -/
theorem out11 (y : S1x512x1024.Idx) : out0_11 (F := Ideal) x0 x1 x2 x3 x4 x5 x6 x7 x8 x9 y = blkZ x0 x1 x2 x4 y := by
  unfold out0_11
  refine View.canon_apply_of_pieces (Val := Elt Ideal) (blkZ x0 x1 x2 x4) _ ?_ y (cover0_11 _ _ y)
  refine View.PiecesOf.mem ⟨fun x => ?_, fun x => ?_, trivial⟩
  · obtain ⟨r, n, rfl⟩ := idx_casesW (N := 1024) x
    rw [show r0_40.emb (ix3 0 r n : S1x256x1024.Idx) = (ix3 0 (blkRow 1 r) n : S1x512x1024.Idx) from funext fun a => by
      match a with
      | ⟨0, _⟩ => rfl
      | ⟨1, _⟩ => exact Fin.ext (by show 256 + 1 * r.val = 256 * 1 + r.val; omega)
      | ⟨2, _⟩ => exact Fin.ext (by show 0 + 1 * n.val = n.val; omega)]
    refine (side_at' _ _ _ _ r n).trans ?_
    rw [ld_x4, funext fun k => h72 x0 x1 x2 x3 x4 x5 x6 x7 x8 x9 r k]
    rfl
  · obtain ⟨r, n, rfl⟩ := idx_casesW (N := 1024) x
    rw [show r0_5.emb (ix3 0 r n : S1x256x1024.Idx) = (ix3 0 (blkRow 0 r) n : S1x512x1024.Idx) from funext fun a => by
      match a with
      | ⟨0, _⟩ => rfl
      | ⟨1, _⟩ => exact Fin.ext (by show 0 + 1 * r.val = 256 * 0 + r.val; omega)
      | ⟨2, _⟩ => exact Fin.ext (by show 0 + 1 * n.val = n.val; omega)]
    refine (side_at _ _ r n).trans ?_
    rw [ld_x4, funext fun k => h65 x0 x1 x2 x3 x4 x5 x6 x7 x8 x9 r k]
    rfl

/-- The third output block: the modulated rows. -/
theorem out12 (y : S1x512x2048.Idx) : out0_12 (F := Ideal) x0 x1 x2 x3 x4 x5 x6 x7 x8 x9 y = blkH x0 x1 x2 y := by
  unfold out0_12
  refine View.canon_apply_of_pieces (Val := Elt Ideal) (blkH x0 x1 x2) _ ?_ y (cover0_12 _ _ y)
  refine View.PiecesOf.mem ⟨fun x => ?_, fun x => ?_, trivial⟩
  · obtain ⟨r, n, rfl⟩ := idx_casesW (N := 2048) x
    rw [show r0_39.emb (ix3 0 r n : S1x256x2048.Idx) = (ix3 0 (blkRow 1 r) n : S1x512x2048.Idx) from funext fun a => by
      match a with
      | ⟨0, _⟩ => rfl
      | ⟨1, _⟩ => exact Fin.ext (by show 256 + 1 * r.val = 256 * 1 + r.val; omega)
      | ⟨2, _⟩ => exact Fin.ext (by show 0 + 1 * n.val = n.val; omega)]
    exact (keep_at' _ _ _ r n).trans (h72 x0 x1 x2 x3 x4 x5 x6 x7 x8 x9 r n)
  · obtain ⟨r, n, rfl⟩ := idx_casesW (N := 2048) x
    rw [show r0_1.emb (ix3 0 r n : S1x256x2048.Idx) = (ix3 0 (blkRow 0 r) n : S1x512x2048.Idx) from funext fun a => by
      match a with
      | ⟨0, _⟩ => rfl
      | ⟨1, _⟩ => exact Fin.ext (by show 0 + 1 * r.val = 256 * 0 + r.val; omega)
      | ⟨2, _⟩ => exact Fin.ext (by show 0 + 1 * n.val = n.val; omega)]
    exact (keep_at _ _ _ r n).trans (h65 x0 x1 x2 x3 x4 x5 x6 x7 x8 x9 r n)

/-- The fourth output block: a copy. -/
theorem out13 : out0_13 (F := Ideal) x0 x1 x2 x3 x4 x5 x6 x7 x8 x9 = x9 := by
  unfold out0_13
  rw [View.canon_unit_zero zero2]
  exact View.ld_unit_zero zero2 _ x9

end

end Cert.Proof.Gate

end
-- ==== Proof.GateFinal.lean ====
/- The gated mixing block's four result arrays at the ideal values, each as one function of the argument arrays. -/
module

public import proofs.«01_k».proof.Proof.GateVal
public import proofs.«01_k».proof.Proof.Gen.Kernel2Ideal.Value
public import Idealize.ShloMosaic.Lib.Pipeline.ValueKit.Geometry

@[expose] public section

set_option maxRecDepth 16384

noncomputable section

namespace Cert.Proof.Gate

open Cert.Kernel2Ideal Cert.Kernel2Ideal.Gen Cert.Kernel2Ideal.Value
open Idealize.ShloMosaic Idealize.ShloMosaic.TcCoe
open Idealize.SL.Sem

/-! ## The windows' block indices -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, 1] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 3] := (by decide +kernel : ∀ t : Fin grid0.N, _)
theorem idx10 : ∀ t : Fin cfg0.N, win0_10.index t = ![t.val / 16, t.val % 16, 0] := (by decide +kernel : ∀ t : Fin grid0.N, _)
theorem idx11 : ∀ t : Fin cfg0.N, win0_11.index t = ![t.val / 16, t.val % 16, 0] := (by decide +kernel : ∀ t : Fin grid0.N, _)
theorem idx12 : ∀ t : Fin cfg0.N, win0_12.index t = ![t.val / 16, t.val % 16, 0] := (by decide +kernel : ∀ t : Fin grid0.N, _)
theorem idx13 : ∀ t : Fin cfg0.N, win0_13.index t = ![t.val, 0] := (by decide +kernel : ∀ t : Fin grid0.N, _)

theorem pt_lt : ∀ t : Fin cfg0.N, t.val < 32 := (by decide +kernel : ∀ t : Fin grid0.N, t.val < 32)

/-- A grid point's batch. -/
def bat (t : Fin cfg0.N) : Fin 2 := ⟨t.val / 16, by have := pt_lt t; omega⟩

/-- Row `r` of a grid point's block, as a row of its batch. -/
def row (t : Fin cfg0.N) (r : Fin 512) : Fin 8192 := ⟨512 * (t.val % 16) + r.val, by omega⟩

/-- Row `r` of a grid point's block of the packed weights. -/
def wrow (t : Fin cfg0.N) (r : Fin 64) : Fin 2048 := ⟨64 * t.val + r.val, by have := pt_lt t; omega⟩

/-- The batch's place among the modulation's rows. -/
def mbat (t : Fin cfg0.N) : Fin 8 := ⟨(bat t).val, by omega⟩

/-- A shift column of the modulation. -/
def shc (j : Fin 2048) : Fin 6144 := ⟨j.val, by omega⟩

/-- A scale column of the modulation. -/
def scc (j : Fin 2048) : Fin 6144 := ⟨2048 + j.val, by omega⟩

/-- Blocks hold whole chunks, so the rows of a chunk correspond. -/
theorem row_mate (t : Fin cfg0.N) (r : Fin 512) (q : Fin 128) : row t (mate r q) = mateA (row t r) q :=
  Fin.ext (by show 512 * (t.val % 16) + (128 * (r.val / 128) + q.val) = 128 * ((512 * (t.val % 16) + r.val) / 128) + q.val; omega)

theorem row_place (t : Fin cfg0.N) (r : Fin 512) : placeA (row t r) = inChunk r :=
  Fin.ext (by show (512 * (t.val % 16) + r.val) % 128 = r.val % 128; omega)

variable (m : (ℓ : Loc nD τ sig) → Buf (Elt Ideal) ℓ) (ρ : Dev nD → PrngReg) (c : Dev nD) (t : Fin cfg0.N)

/-! ## The input blocks at coordinates -/

theorem gblk0 (z : Fin 1) (r : Fin 512) (j : Fin 2048) :
    iblk m c 0 t (ix3 z r j : S1x512x2048.Idx) = m ((c.tc : Thread nD τ).loc main_arg0) (ix3 (bat t) (row t r) j) := by
  blk_simp [iblk, idx0]
  refine congrArg (m ((c.tc : Thread nD τ).loc main_arg0)) ?_
  blk_ext [idx0]
  all_goals (simp only [bat, row]; try omega)

theorem gblk1 (z y : Fin 1) (j : Fin 2048) :
    iblk m c 1 t (ix3 z y j : S1x1x2048.Idx) = m ((c.tc : Thread nD τ).loc main_arg1) (ix3 (mbat t) 0 (shc j)) := by
  blk_simp [iblk, idx1]
  refine congrArg (m ((c.tc : Thread nD τ).loc main_arg1)) ?_
  blk_ext [idx1]
  all_goals (simp only [bat, mbat, shc]; try omega)

theorem gblk2 (z y : Fin 1) (j : Fin 2048) :
    iblk m c 2 t (ix3 z y j : S1x1x2048.Idx) = m ((c.tc : Thread nD τ).loc main_arg1) (ix3 (mbat t) 0 (scc j)) := by
  blk_simp [iblk, idx2]
  refine congrArg (m ((c.tc : Thread nD τ).loc main_arg1)) ?_
  blk_ext [idx2]
  all_goals (simp only [bat, mbat, scc]; try omega)

theorem gblk3 : iblk m c 3 t = (m ((c.tc : Thread nD τ).loc main_arg2) : S2048x3072.Idx → EReal) := by
  funext y
  blk_simp [iblk, idx3]
  refine congrArg (m ((c.tc : Thread nD τ).loc main_arg2)) ?_
  blk_ext [idx3]

theorem gblk4 : iblk m c 4 t = (m ((c.tc : Thread nD τ).loc main_arg3) : S2048x1024.Idx → EReal) := by
  funext y
  blk_simp [iblk, idx4]
  refine congrArg (m ((c.tc : Thread nD τ).loc main_arg3)) ?_
  blk_ext [idx4]

theorem gblk5 : iblk m c 5 t = (m ((c.tc : Thread nD τ).loc main_arg4) : S1x1024.Idx → EReal) := by
  funext y
  blk_simp [iblk, idx5]
  refine congrArg (m ((c.tc : Thread nD τ).loc main_arg4)) ?_
  blk_ext [idx5]

theorem gblk6 : iblk m c 6 t = (m ((c.tc : Thread nD τ).loc main_arg5) : S1x1024.Idx → EReal) := by
  funext y
  blk_simp [iblk, idx6]
  refine congrArg (m ((c.tc : Thread nD τ).loc main_arg5)) ?_
  blk_ext [idx6]

theorem gblk7 : iblk m c 7 t = (m ((c.tc : Thread nD τ).loc main_arg6) : S8x128x128.Idx → EReal) := by
  funext y
  blk_simp [iblk, idx7]
  refine congrArg (m ((c.tc : Thread nD τ).loc main_arg6)) ?_
  blk_ext [idx7]

theorem gblk8 : iblk m c 8 t = (m ((c.tc : Thread nD τ).loc main_arg7) : S128x1024.Idx → EReal) := by
  funext y
  blk_simp [iblk, idx8]
  refine congrArg (m ((c.tc : Thread nD τ).loc main_arg7)) ?_
  blk_ext [idx8]

/-- A row of a grid point's block, modulated, is the array's. -/
theorem rowB_eq (r : Fin 512) : rowB (iblk m c 0 t) (iblk m c 1 t) (iblk m c 2 t) r
    = rowA (m ((c.tc : Thread nD τ).loc main_arg0)) (m ((c.tc : Thread nD τ).loc main_arg1)) (bat t) (row t r) := by
  show modS (fun j => iblk m c 0 t (ix3 0 r j : S1x512x2048.Idx)) (fun j => iblk m c 2 t (ix3 0 0 j : S1x1x2048.Idx)) (fun j => iblk m c 1 t (ix3 0 0 j : S1x1x2048.Idx)) = _
  rw [funext fun j => gblk0 m c t 0 r j, funext fun j => gblk1 m c t 0 0 j, funext fun j => gblk2 m c t 0 0 j]
  rfl

/-! ## The position in its array of a result block's element -/

theorem emb10 (z : Fin 1) (r : Fin 512) (n : Fin 1024) :
    (win0_10.blk t).view.emb (ix3 z r n : S1x512x1024.Idx) = ix3 (bat t) (row t r) n := by
  blk_ext [idx10]
  all_goals (simp only [bat, row]; try omega)

theorem emb11 (z : Fin 1) (r : Fin 512) (n : Fin 1024) :
    (win0_11.blk t).view.emb (ix3 z r n : S1x512x1024.Idx) = ix3 (bat t) (row t r) n := by
  blk_ext [idx11]
  all_goals (simp only [bat, row]; try omega)

theorem emb12 (z : Fin 1) (r : Fin 512) (n : Fin 2048) :
    (win0_12.blk t).view.emb (ix3 z r n : S1x512x2048.Idx) = ix3 (bat t) (row t r) n := by
  blk_ext [idx12]
  all_goals (simp only [bat, row]; try omega)

/-! ## The four result arrays -/

theorem gfinal10 : (dats m 0 c).arrAt 10 cfg0.N = outY (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 10 _ (by decide +kernel) fun t hf y => ?_
  blk_simp
  rw [after0_10]
  obtain ⟨z, r, n, rfl⟩ : ∃ (z : Fin 1) (r : Fin 512) (n : Fin 1024), y = (ix3 z r n : S1x512x1024.Idx) :=
    ⟨y 0, y 1, y 2, by funext a; fin_cases a <;> rfl⟩
  rw [emb10 t z r n]
  refine (out10 (iblk m c 0 t) (iblk m c 1 t) (iblk m c 2 t) (iblk m c 3 t) (iblk m c 4 t) (iblk m c 5 t) (iblk m c 6 t) (iblk m c 7 t) (iblk m c 8 t) (iblk m c 9 t) _).trans ?_
  show mixS (fun q => rowB (iblk m c 0 t) (iblk m c 1 t) (iblk m c 2 t) (mate r q)) (iblk m c 3 t) (iblk m c 5 t) (iblk m c 6 t) (iblk m c 7 t) (iblk m c 8 t) (inChunk r) n
    = mixS (fun q => rowA (m ((c.tc : Thread nD τ).loc main_arg0)) (m ((c.tc : Thread nD τ).loc main_arg1)) (bat t) (mateA (row t r) q)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (placeA (row t r)) n
  rw [gblk3, gblk5, gblk6, gblk7, gblk8, row_place, funext fun q => (rowB_eq m c t (mate r q)).trans (congrArg _ (row_mate t r q))]

theorem gfinal11 : (dats m 0 c).arrAt 11 cfg0.N = outZ (m ((c.tc : Thread nD τ).loc main_arg0)) (m ((c.tc : Thread nD τ).loc main_arg1)) (m ((c.tc : Thread nD τ).loc main_arg3)) := by
  refine (dats m 0 c).arrAt_eq_of_covers 11 _ (by decide +kernel) fun t hf y => ?_
  blk_simp
  rw [after0_11]
  obtain ⟨z, r, n, rfl⟩ : ∃ (z : Fin 1) (r : Fin 512) (n : Fin 1024), y = (ix3 z r n : S1x512x1024.Idx) :=
    ⟨y 0, y 1, y 2, by funext a; fin_cases a <;> rfl⟩
  rw [emb11 t z r n]
  refine (out11 (iblk m c 0 t) (iblk m c 1 t) (iblk m c 2 t) (iblk m c 3 t) (iblk m c 4 t) (iblk m c 5 t) (iblk m c 6 t) (iblk m c 7 t) (iblk m c 8 t) (iblk m c 9 t) _).trans ?_
  show sideS (rowB (iblk m c 0 t) (iblk m c 1 t) (iblk m c 2 t) r) (iblk m c 4 t) n = sideS (rowA (m ((c.tc : Thread nD τ).loc main_arg0)) (m ((c.tc : Thread nD τ).loc main_arg1)) (bat t) (row t r)) (m ((c.tc : Thread nD τ).loc main_arg3)) n
  rw [gblk4, rowB_eq]

theorem gfinal12 : (dats m 0 c).arrAt 12 cfg0.N = outH (m ((c.tc : Thread nD τ).loc main_arg0)) (m ((c.tc : Thread nD τ).loc main_arg1)) := by
  refine (dats m 0 c).arrAt_eq_of_covers 12 _ (by decide +kernel) fun t hf y => ?_
  blk_simp
  rw [after0_12]
  obtain ⟨z, r, n, rfl⟩ : ∃ (z : Fin 1) (r : Fin 512) (n : Fin 2048), y = (ix3 z r n : S1x512x2048.Idx) :=
    ⟨y 0, y 1, y 2, by funext a; fin_cases a <;> rfl⟩
  rw [emb12 t z r n]
  refine (out12 (iblk m c 0 t) (iblk m c 1 t) (iblk m c 2 t) (iblk m c 3 t) (iblk m c 4 t) (iblk m c 5 t) (iblk m c 6 t) (iblk m c 7 t) (iblk m c 8 t) (iblk m c 9 t) _).trans ?_
  exact congrFun (rowB_eq m c t r) n

theorem gfinal13 : (dats m 0 c).arrAt 13 cfg0.N = outW (m ((c.tc : Thread nD τ).loc main_arg8)) := by
  refine (dats m 0 c).arrAt_eq_of_covers 13 _ (by decide +kernel) fun t hf y => ?_
  blk_simp
  rw [after0_13, out13 (iblk m c 0 t) (iblk m c 1 t) (iblk m c 2 t) (iblk m c 3 t) (iblk m c 4 t) (iblk m c 5 t) (iblk m c 6 t) (iblk m c 7 t) (iblk m c 8 t) (iblk m c 9 t)]
  blk_simp [iblk, outW]
  refine congrArg (m ((c.tc : Thread nD τ).loc main_arg8)) ?_
  blk_ext [idx9, idx13, col4]

/-- Every execution of the launch ends with the four specified arrays, and its arguments unchanged. -/
theorem ends :
    θ_run (defs (F := Ideal)) (onTc (τ := τ) (main (F := Ideal))) ⟨m, fun _ => 0, ρ⟩ fun r => ∀ c : Dev nD,
      r.2.mem ((c.tc : Thread nD τ).loc main_v0_0) = outY (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_1) = outZ (m ((c.tc : Thread nD τ).loc main_arg0)) (m ((c.tc : Thread nD τ).loc main_arg1)) (m ((c.tc : Thread nD τ).loc main_arg3))
      ∧ r.2.mem ((c.tc : Thread nD τ).loc main_v0_2) = outH (m ((c.tc : Thread nD τ).loc main_arg0)) (m ((c.tc : Thread nD τ).loc main_arg1))
      ∧ r.2.mem ((c.tc : Thread nD τ).loc main_v0_3) = outW (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (gfinal10 m c), (h c).2.1.trans (gfinal11 m c), (h c).2.2.1.trans (gfinal12 m c), (h c).2.2.2.1.trans (gfinal13 m c), (h c).2.2.2.2⟩)
    (run_blocks (F := Ideal) m ρ)

end Cert.Proof.Gate

end
-- ==== Proof.GateRef.lean ====
/- The gated mixing block's reference at the ideal values, stage by stage and entry by entry. -/
module

public import proofs.«01_k».proof.Proof.GateSpec
public import proofs.«01_k».proof.Proof.Gen.Reference2Ideal.Run
public import Idealize.ShloMosaic.Lib.Pointwise

@[expose] public section
set_option maxRecDepth 16384

noncomputable section

namespace Cert.Proof.GateRef
open Cert.Reference2Ideal Cert.Reference2Ideal.Gen
open Idealize.ShloMosaic Idealize.ShloMosaic.TcCoe
open Cert.Proof.Ssm (geluS geluS_eq)
open Cert.Proof.Gate

/-! ## The stages -/

/-- The modulated rows. -/
def refH (X : FVec Ideal S2x8192x2048 .f32) (Mo : FVec Ideal S8x1x6144 .f32) : FVec Ideal S2x8192x2048 .bf16 :=
  truncf .bf16 (addf (mulf (mulf (subf X (broadcastInDim S2x8192x2048 ![0, 1, 2] bcast_S2x8192x1_S2x8192x2048_0_1_2 (Host.divf (broadcastInDim S2x8192x1 ![0, 1] bcast_S2x8192_S2x8192x1_0_1 (Host.reduceAdd X (constant S_ .f32 0x00000000#32) reducesTo_S2x8192x2048_S2x8192_d2 h_S_)) (broadcastInDim S2x8192x1 ![] bcast_S_S2x8192x1 (constant S_ .f32 0x45000000#32))))) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (subf X (broadcastInDim S2x8192x2048 ![0, 1, 2] bcast_S2x8192x1_S2x8192x2048_0_1_2 (Host.divf (broadcastInDim S2x8192x1 ![0, 1] bcast_S2x8192_S2x8192x1_0_1 (Host.reduceAdd X (constant S_ .f32 0x00000000#32) reducesTo_S2x8192x2048_S2x8192_d2 h_S_)) (broadcastInDim S2x8192x1 ![] bcast_S_S2x8192x1 (constant S_ .f32 0x45000000#32))))) (subf X (broadcastInDim S2x8192x2048 ![0, 1, 2] bcast_S2x8192x1_S2x8192x2048_0_1_2 (Host.divf (broadcastInDim S2x8192x1 ![0, 1] bcast_S2x8192_S2x8192x1_0_1 (Host.reduceAdd X (constant S_ .f32 0x00000000#32) reducesTo_S2x8192x2048_S2x8192_d2 h_S_)) (broadcastInDim S2x8192x1 ![] bcast_S_S2x8192x1 (constant S_ .f32 0x45000000#32)))))) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 0, 2048] Mo slices_S8x1x6144_S2x1x2048_0_0_2048)))) (broadcastInDim S2x8192x2048 ![0, 1, 2] bcast_S2x1x2048_S2x8192x2048_0_1_2 (extractStridedSlice S2x1x2048 ![0, 0, 0] Mo slices_S8x1x6144_S2x1x2048_0_0_0))) bitsLt_bf16_f32
/-- The packed projection. -/
def refP (h : FVec Ideal S2x8192x2048 .bf16) (wA : FVec Ideal S2048x3072 .bf16) : FVec Ideal S2x8192x3072 .f32 :=
  Host.dotGeneral dot_S2x8192x2048_S2048x3072_S2x8192x3072_2_0_01_1_n_n none h wA
/-- The second projection. -/
def refQ (h : FVec Ideal S2x8192x2048 .bf16) (wZ : FVec Ideal S2048x1024 .bf16) : FVec Ideal S2x8192x1024 .f32 :=
  Host.dotGeneral dot_S2x8192x2048_S2048x1024_S2x8192x1024_2_0_01_1_n_n none h wZ
/-- The first third's GELU. -/
def refU (p : FVec Ideal S2x8192x3072 .f32) : FVec Ideal S2x8192x1024 .f32 :=
  mulf (mulf (broadcastInDim S2x8192x1024 ![] bcast_S_S2x8192x1024 (constant S_ .f32 0x3F000000#32)) (extractStridedSlice S2x8192x1024 ![0, 0, 0] p slices_S2x8192x3072_S2x8192x1024_0_0_0)) (Host.erfc (mulf (Host.negf (extractStridedSlice S2x8192x1024 ![0, 0, 0] p slices_S2x8192x3072_S2x8192x1024_0_0_0)) (broadcastInDim S2x8192x1024 ![] bcast_S_S2x8192x1024 (constant S_ .f32 0x3F3504F3#32))))
/-- The middle third's GELU. -/
def refG (p : FVec Ideal S2x8192x3072 .f32) : FVec Ideal S2x8192x1024 .f32 :=
  mulf (mulf (broadcastInDim S2x8192x1024 ![] bcast_S_S2x8192x1024 (constant S_ .f32 0x3F000000#32)) (extractStridedSlice S2x8192x1024 ![0, 0, 1024] p slices_S2x8192x3072_S2x8192x1024_0_0_1024)) (Host.erfc (mulf (Host.negf (extractStridedSlice S2x8192x1024 ![0, 0, 1024] p slices_S2x8192x3072_S2x8192x1024_0_0_1024)) (broadcastInDim S2x8192x1024 ![] bcast_S_S2x8192x1024 (constant S_ .f32 0x3F3504F3#32))))
/-- The mixed operand. -/
def refV (a : FVec Ideal S2x8192x1024 .f32) (g b : FVec Ideal S1x1024 .f32) : FVec Ideal S2x8192x1024 .bf16 :=
  truncf .bf16 (addf (mulf (mulf (subf a (broadcastInDim S2x8192x1024 ![0, 1, 2] bcast_S2x8192x1_S2x8192x1024_0_1_2 (Host.divf (broadcastInDim S2x8192x1 ![0, 1] bcast_S2x8192_S2x8192x1_0_1 (Host.reduceAdd a (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf a (broadcastInDim S2x8192x1024 ![0, 1, 2] bcast_S2x8192x1_S2x8192x1024_0_1_2 (Host.divf (broadcastInDim S2x8192x1 ![0, 1] bcast_S2x8192_S2x8192x1_0_1 (Host.reduceAdd a (constant S_ .f32 0x00000000#32) reducesTo_S2x8192x1024_S2x8192_d2 h_S_)) (broadcastInDim S2x8192x1 ![] bcast_S_S2x8192x1 (constant S_ .f32 0x44800000#32))))) (subf a (broadcastInDim S2x8192x1024 ![0, 1, 2] bcast_S2x8192x1_S2x8192x1024_0_1_2 (Host.divf (broadcastInDim S2x8192x1 ![0, 1] bcast_S2x8192_S2x8192x1_0_1 (Host.reduceAdd a (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 g))) (broadcastInDim S2x8192x1024 ![0, 1, 2] bcast_S1x1x1024_S2x8192x1024_0_1_2 (broadcastInDim S1x1x1024 ![1, 2] bcast_S1x1024_S1x1x1024_1_2 b))) bitsLt_bf16_f32
/-- The chunks' mix and its bias, head by head. -/
def refM (v : FVec Ideal S2x64x128x8x128 .bf16) (ws : FVec Ideal S8x128x128 .f32) (bs : FVec Ideal S128x8x128 .f32) : FVec Ideal S2x64x128x8x128 .f32 :=
  addf (transpose S2x64x128x8x128 [1, 2, 4, 0, 3] (Host.dotGeneral dot_S2x64x128x8x128_S8x128x128_S8x2x64x128x128_2_2_014_1_3_0 none v (truncf .bf16 ws bitsLt_bf16_f32)) transposes_S8x2x64x128x128_S2x64x128x8x128_1_2_4_0_3) (broadcastInDim S2x64x128x8x128 ![0, 1, 2, 3, 4] bcast_S1x1x128x8x128_S2x64x128x8x128_0_1_2_3_4 (broadcastInDim S1x1x128x8x128 ![2, 3, 4] bcast_S128x8x128_S1x1x128x8x128_2_3_4 bs))
/-- The last third. -/
def refS (p : FVec Ideal S2x8192x3072 .f32) : FVec Ideal S2x8192x1024 .f32 :=
  extractStridedSlice S2x8192x1024 ![0, 0, 2048] p slices_S2x8192x3072_S2x8192x1024_0_0_2048
/-- A value times its logistic. -/
def refL (z : FVec Ideal S2x8192x1024 .f32) : FVec Ideal S2x8192x1024 .f32 :=
  mulf z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z))))

/-- The first result, by its stages. -/
def refY (X : FVec Ideal S2x8192x2048 .f32) (Mo : FVec Ideal S8x1x6144 .f32) (wA : FVec Ideal S2048x3072 .bf16) (g b : FVec Ideal S1x1024 .f32)
    (ws : FVec Ideal S8x128x128 .f32) (bs : FVec Ideal S128x1024 .f32) : FVec Ideal S2x8192x1024 .bf16 :=
  truncf .bf16 (mulf (mulf (refU (refP (refH X Mo) wA))
    (shapeCast S2x8192x1024 (refM (shapeCast S2x64x128x8x128 (refV (refG (refP (refH X Mo) wA)) g b) shapeCasts_S2x8192x1024_S2x64x128x8x128) ws
      (shapeCast S128x8x128 bs shapeCasts_S128x1024_S128x8x128)) shapeCasts_S2x64x128x8x128_S2x8192x1024))
    (refL (refS (refP (refH X Mo) wA)))) bitsLt_bf16_f32

/-- The second result, by its stages. -/
def refZ (X : FVec Ideal S2x8192x2048 .f32) (Mo : FVec Ideal S8x1x6144 .f32) (wZ : FVec Ideal S2048x1024 .bf16) : FVec Ideal S2x8192x1024 .bf16 :=
  truncf .bf16 (refL (refQ (refH X Mo) wZ)) bitsLt_bf16_f32

/-! ## Their entries -/

theorem h_at (X : FVec Ideal S2x8192x2048 .f32) (Mo : FVec Ideal S8x1x6144 .f32) (b : Fin 2) (l : Fin 8192) (k : Fin 2048) :
    refH X Mo (ix3 b l k) = rowA X Mo b l k := by
  generalize hz : rowA _ _ _ _ _ = z
  pointwise [refH]
  rw [← hz]
  rfl
theorem p_at (h : FVec Ideal S2x8192x2048 .bf16) (w : FVec Ideal S2048x3072 .bf16) (b : Fin 2) (l : Fin 8192) (n : Fin 3072) :
    refP h w (ix3 b l n) = projS (fun k => h (ix3 b l k)) w n := by
  generalize hz : projS _ _ _ = z
  pointwise [refP]
  rw [← hz]
  rfl
theorem q_at (h : FVec Ideal S2x8192x2048 .bf16) (w : FVec Ideal S2048x1024 .bf16) (b : Fin 2) (l : Fin 8192) (n : Fin 1024) :
    refQ h w (ix3 b l n) = ∑ k : Fin 2048, h (ix3 b l k) * w (ix2 k n) := by
  pointwise [refQ]
theorem u_at (p : FVec Ideal S2x8192x3072 .f32) (b : Fin 2) (l : Fin 8192) (n : Fin 1024) :
    refU p (ix3 b l n) = geluS (p (ix3 b l ⟨n.val, by omega⟩)) := by
  rw [← geluS_eq]
  generalize hz : Ideal.ofBits FTy.f32 0x3F000000#32 * _ * _ = z
  pointwise [refU]
  rw [← hz]
theorem g_at (p : FVec Ideal S2x8192x3072 .f32) (b : Fin 2) (l : Fin 8192) (n : Fin 1024) :
    refG p (ix3 b l n) = geluS (p (ix3 b l ⟨1024 + n.val, by omega⟩)) := by
  rw [← geluS_eq]
  generalize hz : Ideal.ofBits FTy.f32 0x3F000000#32 * _ * _ = z
  pointwise [refG]
  rw [← hz]
theorem v_at (a : FVec Ideal S2x8192x1024 .f32) (g c : FVec Ideal S1x1024 .f32) (b : Fin 2) (l : Fin 8192) (n : Fin 1024) :
    refV a g c (ix3 b l n) = normS (Ideal.ofBits FTy.f32 0x44800000#32) (fun j : Fin 1024 => a (ix3 b l j)) n * g (ix2 0 n) + c (ix2 0 n) := by
  generalize hz : normS _ _ _ * _ + _ = z
  pointwise [refV]
  rw [← hz]
  rfl
theorem s_at (p : FVec Ideal S2x8192x3072 .f32) (b : Fin 2) (l : Fin 8192) (n : Fin 1024) :
    refS p (ix3 b l n) = p (ix3 b l ⟨2048 + n.val, by omega⟩) := by
  pointwise [refS]
theorem l_at (z : FVec Ideal S2x8192x1024 .f32) (b : Fin 2) (l : Fin 8192) (n : Fin 1024) :
    refL z (ix3 b l n) = siluS (z (ix3 b l n)) := by
  rw [← siluS_neg]
  generalize hz : _ * Ideal.div _ _ = y
  pointwise [refL]
  rw [← hz]
theorem m_at (v : FVec Ideal S2x64x128x8x128 .bf16) (ws : FVec Ideal S8x128x128 .f32) (bs : FVec Ideal S128x8x128 .f32)
    (b : Fin 2) (c : Fin 64) (p : Fin 128) (d : Fin 8) (n : Fin 128) :
    refM v ws bs (ix5 b c p d n) = (∑ q : Fin 128, v (ix5 b c q d n) * ws (ix3 d p q)) + bs (ix3 p d n) := by
  pointwise [refM]
theorem split_at {α : Type} (v : S2x8192x1024.Idx → α) (b : Fin 2) (c : Fin 64) (q : Fin 128) (d : Fin 8) (n : Fin 128) :
    shapeCast S2x64x128x8x128 v shapeCasts_S2x8192x1024_S2x64x128x8x128 (ix5 b c q d n) = v (ix3 b ⟨c.val * 128 + q.val, by omega⟩ ⟨d.val * 128 + n.val, by omega⟩) := by
  pointwise []
theorem join_at {α : Type} (v : S2x64x128x8x128.Idx → α) (b : Fin 2) (l : Fin 8192) (n : Fin 1024) :
    shapeCast S2x8192x1024 v shapeCasts_S2x64x128x8x128_S2x8192x1024 (ix3 b l n)
      = v (ix5 b ⟨l.val / 128, by omega⟩ ⟨l.val % 128, by omega⟩ ⟨n.val / 128, by omega⟩ ⟨n.val % 128, by omega⟩) := by
  pointwise []
theorem bias_at {α : Type} (v : S128x1024.Idx → α) (p : Fin 128) (d : Fin 8) (n : Fin 128) :
    shapeCast S128x8x128 v shapeCasts_S128x1024_S128x8x128 (ix3 p d n) = v (ix2 p ⟨d.val * 128 + n.val, by omega⟩) := by
  pointwise []
theorem w_at (W : FVec Ideal S2048x5120 .f32) (k : Fin 2048) (n : Fin 1024) :
    extractStridedSlice S2048x1024 ![0, 3072] W slices_S2048x5120_S2048x1024_0_3072 (ix2 k n) = W (ix2 k (col4 n)) := by
  pointwise [col4]

/-! ## The results -/

theorem refZ_eq (X : FVec Ideal S2x8192x2048 .f32) (Mo : FVec Ideal S8x1x6144 .f32) (wZ : FVec Ideal S2048x1024 .bf16) : refZ X Mo wZ = outZ X Mo wZ := by
  funext y
  idx_vars y
  show refL (refQ (refH X Mo) wZ) _ = _
  rw [l_at, q_at]
  simp only [h_at]
  rfl
theorem refH_eq (X : FVec Ideal S2x8192x2048 .f32) (Mo : FVec Ideal S8x1x6144 .f32) : refH X Mo = outH X Mo := by
  funext y
  idx_vars y
  exact h_at X Mo _ _ _
theorem refW_eq (W : FVec Ideal S2048x5120 .f32) :
    truncf (F := Ideal) .bf16 (extractStridedSlice S2048x1024 ![0, 3072] W slices_S2048x5120_S2048x1024_0_3072) bitsLt_bf16_f32 = outW W := by
  funext y
  idx_vars y
  exact w_at W _ _

/-- A row's projection, as the stages give it. -/
theorem p_row (X : FVec Ideal S2x8192x2048 .f32) (Mo : FVec Ideal S8x1x6144 .f32) (wA : FVec Ideal S2048x3072 .bf16) (b : Fin 2) (l : Fin 8192) :
    (fun n => refP (refH X Mo) wA (ix3 b l n)) = projS (rowA X Mo b l) wA := by
  funext n
  rw [p_at, funext fun k => h_at X Mo b l k]
/-- A row's mixed operand, as the stages give it. -/
theorem v_row (X : FVec Ideal S2x8192x2048 .f32) (Mo : FVec Ideal S8x1x6144 .f32) (wA : FVec Ideal S2048x3072 .bf16) (g c : FVec Ideal S1x1024 .f32) (b : Fin 2) (l : Fin 8192) (n : Fin 1024) :
    refV (refG (refP (refH X Mo) wA)) g c (ix3 b l n) = valS (projS (rowA X Mo b l) wA) g c n := by
  rw [v_at, ← p_row]
  simp only [g_at]
  rfl

theorem refY_eq (X : FVec Ideal S2x8192x2048 .f32) (Mo : FVec Ideal S8x1x6144 .f32) (wA : FVec Ideal S2048x3072 .bf16) (g c : FVec Ideal S1x1024 .f32)
    (ws : FVec Ideal S8x128x128 .f32) (bs : FVec Ideal S128x1024 .f32) : refY X Mo wA g c ws bs = outY X Mo wA g c ws bs := by
  funext y
  obtain ⟨b, l, n, rfl⟩ : ∃ (b : Fin 2) (l : Fin 8192) (n : Fin 1024), y = (ix3 b l n : S2x8192x1024.Idx) :=
    ⟨y 0, y 1, y 2, by funext a; fin_cases a <;> rfl⟩
  show refU (refP (refH X Mo) wA) (ix3 b l n) * shapeCast S2x8192x1024 _ _ (ix3 b l n) * refL (refS (refP (refH X Mo) wA)) (ix3 b l n) = _
  rw [join_at, m_at, bias_at, l_at, s_at, u_at]
  simp only [split_at]
  have hn : (⟨n.val / 128 * 128 + n.val % 128, by omega⟩ : Fin 1024) = n := Fin.ext (by show n.val / 128 * 128 + n.val % 128 = n.val; omega)
  rw [hn]
  simp only [v_row]
  have hu : refP (refH X Mo) wA (ix3 b l ⟨n.val, by omega⟩) = projS (rowA X Mo b l) wA ⟨n.val, by omega⟩ := congrFun (p_row X Mo wA b l) _
  have hs : refP (refH X Mo) wA (ix3 b l ⟨2048 + n.val, by omega⟩) = projS (rowA X Mo b l) wA ⟨2048 + n.val, by omega⟩ := congrFun (p_row X Mo wA b l) _
  rw [hu, hs]
  refine (mul_right_comm (G := EReal) _ _ _).trans ?_
  show _ = gateS (projS (rowA X Mo b (mateA l (placeA l))) wA) n * ((∑ q, ws (ix3 (headOf n) (placeA l) q) * valS (projS (rowA X Mo b (mateA l q)) wA) g c n) + bs (ix2 (placeA l) n))
  rw [mateA_place]
  refine congrArg (fun z => _ * (z + _)) (Finset.sum_congr rfl fun q _ => ?_)
  have hl : (⟨l.val / 128 * 128 + q.val, by omega⟩ : Fin 8192) = mateA l q := Fin.ext (by show l.val / 128 * 128 + q.val = 128 * (l.val / 128) + q.val; omega)
  rw [hl]
  exact @mul_comm EReal _ _ _

section
open Cert.Reference2Ideal.Value
variable (m : (ℓ : Loc nD τ sig) → Buf (Elt Ideal) ℓ) (c : Dev nD)

theorem res83 : res_main_v83 m c = outY (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) :=
  (show res_main_v83 m c = refY (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) from rfl).trans (refY_eq _ _ _ _ _ _ _)
theorem res85 : res_main_v85 m c = outZ (m ((c.tc : Thread nD τ).loc main_arg0)) (m ((c.tc : Thread nD τ).loc main_arg1)) (m ((c.tc : Thread nD τ).loc main_arg3)) :=
  (show res_main_v85 m c = refZ (m ((c.tc : Thread nD τ).loc main_arg0)) (m ((c.tc : Thread nD τ).loc main_arg1)) (m ((c.tc : Thread nD τ).loc main_arg3)) from rfl).trans (refZ_eq _ _ _)

/-- Every execution of the reference ends with the four specified arrays, and its arguments unchanged. -/
theorem ends (ρ : Dev nD → PrngReg) :
    θ_run (defs (F := Ideal)) (onTc (τ := τ) (main (F := Ideal))) ⟨m, fun _ => 0, ρ⟩ fun r => ∀ c : Dev nD,
      r.2.mem ((c.tc : Thread nD τ).loc main_v83) = outY (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v85) = outZ (m ((c.tc : Thread nD τ).loc main_arg0)) (m ((c.tc : Thread nD τ).loc main_arg1)) (m ((c.tc : Thread nD τ).loc main_arg3))
      ∧ r.2.mem ((c.tc : Thread nD τ).loc main_v26) = outH (m ((c.tc : Thread nD τ).loc main_arg0)) (m ((c.tc : Thread nD τ).loc main_arg1))
      ∧ r.2.mem ((c.tc : Thread nD τ).loc main_v87) = outW (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (res83 m c), (h c).2.1.trans (res85 m c), (h c).2.2.1.trans (refH_eq _ _), (h c).2.2.2.1.trans (refW_eq _), (h c).2.2.2.2⟩)
    (run (F := Ideal) m ρ)

end

end Cert.Proof.GateRef

end
-- ==== Proof.GateValue.lean ====
/- The gated mixing block's claims: its programs' frames, and over the reals the same four results as the reference's. -/
module

public import proofs.«01_k».proof.Proof.GateFinal
public import proofs.«01_k».proof.Proof.GateRef
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Defs

@[expose] public section

set_option maxRecDepth 16384

noncomputable section

namespace Cert.Proof.GateValue

open Idealize.ShloMosaic Idealize.ShloMosaic.TcCoe Idealize.SL.Sem
open Cert.Proof.Gate (outY outZ outH outW)

/-! ## The frames -/

theorem kernel : Cert.quiescent_Kernel2 := fun m ρ _ => Cert.Kernel2.Gen.frame (F := Bits) m ρ

theorem kernelIdeal : Cert.quiescent_Kernel2Ideal := fun m ρ _ => Cert.Kernel2Ideal.Gen.frame (F := Ideal) m ρ

/-- The reference has no semaphore, so its counters are all zero. -/
theorem referenceIdeal : Cert.quiescent_Reference2Ideal := fun m ρ _ =>
  (θ_run Cert.Reference2Ideal.defs _ _).mono (fun _ h => ⟨fun c => (h c).2.2.2.2, by
    funext g; rcases g with ⟨_, i | i⟩ <;> exact i.elim0⟩) (GateRef.ends m ρ)

/-! ## The value claim -/

theorem algebraic : Cert.algebraic_Kernel2Ideal_Reference2Ideal := fun m g m' g' _ hm => by
  refine ⟨fun c => outY (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)),
    fun c => outZ (m ((c.tc : Thread _ _).loc Cert.Kernel2Ideal.main_arg0)) (m ((c.tc : Thread _ _).loc Cert.Kernel2Ideal.main_arg1)) (m ((c.tc : Thread _ _).loc Cert.Kernel2Ideal.main_arg3)),
    fun c => outH (m ((c.tc : Thread _ _).loc Cert.Kernel2Ideal.main_arg0)) (m ((c.tc : Thread _ _).loc Cert.Kernel2Ideal.main_arg1)),
    fun c => outW (m ((c.tc : Thread _ _).loc Cert.Kernel2Ideal.main_arg8)), Gate.ends m g, ?_⟩
  refine (θ_run Cert.Reference2Ideal.defs _ _).mono (fun r h c => ?_) (GateRef.ends m' g')
  obtain ⟨h0, h1, h2, h3, h4, h5, h6, h7, h8⟩ := hm c
  refine ⟨(h c).1.trans ?_, (h c).2.1.trans ?_, (h c).2.2.1.trans ?_, (h c).2.2.2.1.trans ?_, (h c).2.2.2.2⟩
  · rw [h0, h1, h2, h4, h5, h6, h7]
  · rw [h0, h1, h3]
  · rw [h0, h1]
  · rw [h8]

end Cert.Proof.GateValue

end
-- ==== Proof.OutBody.lean ====
/- The body of the output projection at one grid point, in each of its four cases. -/
module

public import proofs.«01_k».proof.Proof.Gen.Kernel3Ideal.Frame
public import proofs.«01_k».proof.Proof.Gen.Kernel3Ideal.Skeleton

@[expose] public section

set_option maxRecDepth 16384

noncomputable section

namespace Cert.Proof.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether the point is the first, as the body computes it. -/
def firstCond (i : grid0.Coords) : BitVec 1 :=
  Scalar.cmpi .ne (Scalar.extui (Scalar.cmpi .eq (BitVec.ofNat 32 (i 0).val) 0#32) : BitVec 32) 0#32

/-- The rectangle from the origin over the whole shape moves no index. -/
theorem whole_emb {s : Shape} (o : Fin s.rank → ℕ) (ho : ∀ a, o a = 0) (h) (z : s.Idx) :
    (Rect.unit (s := s) o s.size h).emb z = z := by
  funext a
  exact Fin.ext (by show o a + 1 * (z a).val = (z a).val; rw [ho a]; omega)

/-- A load of the whole memref reads what it holds. -/
theorem load_whole {s : Shape} {e : EltTy} (a : Memref sig .tc .vmem s e) (o : Fin s.rank → ℕ) (ho : ∀ a, o a = 0) (h)
    (f : BufTy.Contents (Elt F) a.view.ty) :
    View.readAt (Elt F) a.view (Rect.unit (s := s) o s.size h).toLoadRect f = a.view.read (Elt F) f :=
  funext fun z => congrArg (a.view.read (Elt F) f) (whole_emb o ho h z)

/-- After a store over the whole memref it reads what was stored. -/
theorem store_whole {s : Shape} {e : EltTy} (a : Memref sig .tc .vmem s e) (o : Fin s.rank → ℕ) (ho : ∀ a, o a = 0) (h)
    (f : BufTy.Contents (Elt F) a.view.ty) (p) :
    a.view.read (Elt F) (a.view.writes (Elt F) f [⟨Rect.unit (s := s) o s.size h, p⟩]) = p :=
  funext fun y => View.read_writes_cons_hit a.view _ (Rect.unit (s := s) o s.size h) _ [] y y (whole_emb o ho h y)

theorem zero2 : ∀ a : Fin 2, (![0, 0] : Fin 2 → ℕ) a = 0 := by decide
theorem zero3 : ∀ a : Fin 3, (![0, 0, 0] : Fin 3 → ℕ) a = 0 := by decide

set_option maxHeartbeats 4000000 in
/-- The first point: the first scratch gets the row block's projection. -/
theorem runFirst (c : Dev nD) (i : grid0.Coords) (a1 : Memref sig .tc .vmem S1x512x2048 .f32) (h1 : a1.IsWhole) (a2 : Memref sig .tc .vmem S1x512x1024 .bf16) (h2 : a2.IsWhole) (a3 : Memref sig .tc .vmem S1x512x1024 .bf16) (h3 : a3.IsWhole) (a4 : Memref sig .tc .vmem S1x512x1024 .bf16) (h4 : a4.IsWhole) (a5 : Memref sig .tc .vmem S1x1x2048 .f32) (h5 : a5.IsWhole) (a6 : Memref sig .tc .vmem S2048x2048 .bf16) (h6 : a6.IsWhole) (a7 : Memref sig .tc .vmem S1x2048 .f32) (h7 : a7.IsWhole) (a8 : Memref sig .tc .vmem S1x2048 .f32) (h8 : a8.IsWhole) (a9 : Memref sig .tc .vmem S1x512x2048 .f32) (h9 : a9.IsWhole) (a10 : Memref sig .tc .vmem S512x2048 .f32) (h10 : a10.IsWhole) (a11 : Memref sig .tc .vmem S512x2048 .f32) (h11 : a11.IsWhole)
    (X1 : FVec F S1x512x2048 .f32) (X2 : FVec F S1x512x1024 .bf16) (X3 : FVec F S1x512x1024 .bf16) (X4 : FVec F S1x512x1024 .bf16) (X5 : FVec F S1x1x2048 .f32) (X6 : FVec F S2048x2048 .bf16) (X7 : FVec F S1x2048 .f32) (X8 : FVec F S1x2048 .f32) (X9 : FVec F S1x512x2048 .f32) (X10 : FVec F S512x2048 .f32) (X11 : FVec F S512x2048 .f32)
    (c1 : firstCond i = 1#1) (c2 : k0_cond2 i ≠ 1#1) (c3 : k0_cond3 i ≠ 1#1) (c4 : k0_cond4 i ≠ 1#1) :
    (iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11) : sProp 𝕄)
      ⊢ wp Idealize.ShloMosaic.frame (wpE (defs₀ (F := F)) Variants.none (c : Thread nD τ) none) Set.univ
          (cc0_out (F := F) i a1 h1 a2 h2 a3 h3 a4 h4 a5 h5 a6 h6 a7 h7 a8 h8 a9 h9 a10 h10 a11 h11)
          (fun _ => iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare (k0_pay1 X3 X4 X2 X6 X1 X5) ∗ owns (c : Thread nD τ) a11 fullShare X11)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  subst e1 e2 e3 e4 e5 e6 e7 e8 e9 e10 e11
  unfold firstCond at c1
  simp only [cc0_out_eq_skeleton]; unfold cc0_out_skel
  simp only [dif_pos c1, dif_neg c2, dif_neg c3, dif_neg c4, k0_part1_eq_skeleton, k0_part2_eq_skeleton, k0_part1_skel, k0_part2_skel]
  sl_exec
  sl_step
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    refine (store_whole (F := F) a10 _ zero2 _ _ _).trans ?_
    rw [load_whole (F := F) a3 _ zero3 inb_S1x512x1024_S1x512x1024_0_0_0 f3, load_whole (F := F) a4 _ zero3 inb_S1x512x1024_S1x512x1024_0_0_0 f4, load_whole (F := F) a2 _ zero3 inb_S1x512x1024_S1x512x1024_0_0_0 f2, load_whole (F := F) a6 _ zero2 inb_S2048x2048_S2048x2048_0_0 f6, load_whole (F := F) a1 _ zero3 inb_S1x512x2048_S1x512x2048_0_0_0 f1, load_whole (F := F) a5 _ zero3 inb_S1x1x2048_S1x1x2048_0_0_0 f5]
  · iexists _; isplitr; swap; · iexact H11
    ipureintro
    rfl

set_option maxHeartbeats 4000000 in
/-- An even point between: the second scratch's rows are normalised into the output, the first gets the next row block's projection. -/
theorem runEven (c : Dev nD) (i : grid0.Coords) (a1 : Memref sig .tc .vmem S1x512x2048 .f32) (h1 : a1.IsWhole) (a2 : Memref sig .tc .vmem S1x512x1024 .bf16) (h2 : a2.IsWhole) (a3 : Memref sig .tc .vmem S1x512x1024 .bf16) (h3 : a3.IsWhole) (a4 : Memref sig .tc .vmem S1x512x1024 .bf16) (h4 : a4.IsWhole) (a5 : Memref sig .tc .vmem S1x1x2048 .f32) (h5 : a5.IsWhole) (a6 : Memref sig .tc .vmem S2048x2048 .bf16) (h6 : a6.IsWhole) (a7 : Memref sig .tc .vmem S1x2048 .f32) (h7 : a7.IsWhole) (a8 : Memref sig .tc .vmem S1x2048 .f32) (h8 : a8.IsWhole) (a9 : Memref sig .tc .vmem S1x512x2048 .f32) (h9 : a9.IsWhole) (a10 : Memref sig .tc .vmem S512x2048 .f32) (h10 : a10.IsWhole) (a11 : Memref sig .tc .vmem S512x2048 .f32) (h11 : a11.IsWhole)
    (X1 : FVec F S1x512x2048 .f32) (X2 : FVec F S1x512x1024 .bf16) (X3 : FVec F S1x512x1024 .bf16) (X4 : FVec F S1x512x1024 .bf16) (X5 : FVec F S1x1x2048 .f32) (X6 : FVec F S2048x2048 .bf16) (X7 : FVec F S1x2048 .f32) (X8 : FVec F S1x2048 .f32) (X9 : FVec F S1x512x2048 .f32) (X10 : FVec F S512x2048 .f32) (X11 : FVec F S512x2048 .f32)
    (c1 : firstCond i ≠ 1#1) (c2 : k0_cond2 i = 1#1) (c3 : k0_cond3 i ≠ 1#1) (c4 : k0_cond4 i ≠ 1#1) :
    (iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11) : sProp 𝕄)
      ⊢ wp Idealize.ShloMosaic.frame (wpE (defs₀ (F := F)) Variants.none (c : Thread nD τ) none) Set.univ
          (cc0_out (F := F) i a1 h1 a2 h2 a3 h3 a4 h4 a5 h5 a6 h6 a7 h7 a8 h8 a9 h9 a10 h10 a11 h11)
          (fun _ => iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare (k0_pay5 X11 X7 X8) ∗ owns (c : Thread nD τ) a10 fullShare (k0_pay2 (k0_pay6 X3 X4) (k0_pay7 X2) X6 X1 X5) ∗ owns (c : Thread nD τ) a11 fullShare X11)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  subst e1 e2 e3 e4 e5 e6 e7 e8 e9 e10 e11
  unfold firstCond at c1
  simp only [cc0_out_eq_skeleton]; unfold cc0_out_skel
  simp only [dif_neg c1, dif_pos c2, dif_neg c3, dif_neg c4, k0_part1_eq_skeleton, k0_part2_eq_skeleton, k0_part1_skel, k0_part2_skel]
  sl_exec
  sl_step
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    refine (store_whole (F := F) a9 _ zero3 _ _ _).trans ?_
    rw [load_whole (F := F) a11 _ zero2 inb_S512x2048_S512x2048_0_0 f11, load_whole (F := F) a7 _ zero2 inb_S1x2048_S1x2048_0_0 f7, load_whole (F := F) a8 _ zero2 inb_S1x2048_S1x2048_0_0 f8]
  isplitl [H10]
  · iexists _; isplitr; swap; · iexact H10
    ipureintro
    refine (store_whole (F := F) a10 _ zero2 _ _ _).trans ?_
    rw [load_whole (F := F) a3 _ zero3 inb_S1x512x1024_S1x512x1024_0_0_0 f3, load_whole (F := F) a4 _ zero3 inb_S1x512x1024_S1x512x1024_0_0_0 f4, load_whole (F := F) a2 _ zero3 inb_S1x512x1024_S1x512x1024_0_0_0 f2, load_whole (F := F) a6 _ zero2 inb_S2048x2048_S2048x2048_0_0 f6, load_whole (F := F) a1 _ zero3 inb_S1x512x2048_S1x512x2048_0_0_0 f1, load_whole (F := F) a5 _ zero3 inb_S1x1x2048_S1x1x2048_0_0_0 f5]
  · iexists _; isplitr; swap; · iexact H11
    ipureintro
    rfl

set_option maxHeartbeats 4000000 in
/-- An odd point: the same with the scratches exchanged. -/
theorem runOdd (c : Dev nD) (i : grid0.Coords) (a1 : Memref sig .tc .vmem S1x512x2048 .f32) (h1 : a1.IsWhole) (a2 : Memref sig .tc .vmem S1x512x1024 .bf16) (h2 : a2.IsWhole) (a3 : Memref sig .tc .vmem S1x512x1024 .bf16) (h3 : a3.IsWhole) (a4 : Memref sig .tc .vmem S1x512x1024 .bf16) (h4 : a4.IsWhole) (a5 : Memref sig .tc .vmem S1x1x2048 .f32) (h5 : a5.IsWhole) (a6 : Memref sig .tc .vmem S2048x2048 .bf16) (h6 : a6.IsWhole) (a7 : Memref sig .tc .vmem S1x2048 .f32) (h7 : a7.IsWhole) (a8 : Memref sig .tc .vmem S1x2048 .f32) (h8 : a8.IsWhole) (a9 : Memref sig .tc .vmem S1x512x2048 .f32) (h9 : a9.IsWhole) (a10 : Memref sig .tc .vmem S512x2048 .f32) (h10 : a10.IsWhole) (a11 : Memref sig .tc .vmem S512x2048 .f32) (h11 : a11.IsWhole)
    (X1 : FVec F S1x512x2048 .f32) (X2 : FVec F S1x512x1024 .bf16) (X3 : FVec F S1x512x1024 .bf16) (X4 : FVec F S1x512x1024 .bf16) (X5 : FVec F S1x1x2048 .f32) (X6 : FVec F S2048x2048 .bf16) (X7 : FVec F S1x2048 .f32) (X8 : FVec F S1x2048 .f32) (X9 : FVec F S1x512x2048 .f32) (X10 : FVec F S512x2048 .f32) (X11 : FVec F S512x2048 .f32)
    (c1 : firstCond i ≠ 1#1) (c2 : k0_cond2 i ≠ 1#1) (c3 : k0_cond3 i = 1#1) (c4 : k0_cond4 i ≠ 1#1) :
    (iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11) : sProp 𝕄)
      ⊢ wp Idealize.ShloMosaic.frame (wpE (defs₀ (F := F)) Variants.none (c : Thread nD τ) none) Set.univ
          (cc0_out (F := F) i a1 h1 a2 h2 a3 h3 a4 h4 a5 h5 a6 h6 a7 h7 a8 h8 a9 h9 a10 h10 a11 h11)
          (fun _ => iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare (k0_pay8 X10 X7 X8) ∗ owns (c : Thread nD τ) a10 fullShare X10 ∗ owns (c : Thread nD τ) a11 fullShare (k0_pay3 (k0_pay9 X3 X4) (k0_pay10 X2) X6 X1 X5))) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  subst e1 e2 e3 e4 e5 e6 e7 e8 e9 e10 e11
  unfold firstCond at c1
  simp only [cc0_out_eq_skeleton]; unfold cc0_out_skel
  simp only [dif_neg c1, dif_neg c2, dif_pos c3, dif_neg c4, k0_part1_eq_skeleton, k0_part2_eq_skeleton, k0_part1_skel, k0_part2_skel]
  sl_exec
  sl_step
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    refine (store_whole (F := F) a9 _ zero3 _ _ _).trans ?_
    rw [load_whole (F := F) a10 _ zero2 inb_S512x2048_S512x2048_0_0 f10, load_whole (F := F) a7 _ zero2 inb_S1x2048_S1x2048_0_0 f7, load_whole (F := F) a8 _ zero2 inb_S1x2048_S1x2048_0_0 f8]
  isplitl [H10]
  · iexists _; isplitr; swap; · iexact H10
    ipureintro
    rfl
  · iexists _; isplitr; swap; · iexact H11
    ipureintro
    refine (store_whole (F := F) a11 _ zero2 _ _ _).trans ?_
    rw [load_whole (F := F) a3 _ zero3 inb_S1x512x1024_S1x512x1024_0_0_0 f3, load_whole (F := F) a4 _ zero3 inb_S1x512x1024_S1x512x1024_0_0_0 f4, load_whole (F := F) a2 _ zero3 inb_S1x512x1024_S1x512x1024_0_0_0 f2, load_whole (F := F) a6 _ zero2 inb_S2048x2048_S2048x2048_0_0 f6, load_whole (F := F) a1 _ zero3 inb_S1x512x2048_S1x512x2048_0_0_0 f1, load_whole (F := F) a5 _ zero3 inb_S1x1x2048_S1x1x2048_0_0_0 f5]

set_option maxHeartbeats 4000000 in
/-- The last point: the second scratch's rows are normalised into the output. -/
theorem runLast (c : Dev nD) (i : grid0.Coords) (a1 : Memref sig .tc .vmem S1x512x2048 .f32) (h1 : a1.IsWhole) (a2 : Memref sig .tc .vmem S1x512x1024 .bf16) (h2 : a2.IsWhole) (a3 : Memref sig .tc .vmem S1x512x1024 .bf16) (h3 : a3.IsWhole) (a4 : Memref sig .tc .vmem S1x512x1024 .bf16) (h4 : a4.IsWhole) (a5 : Memref sig .tc .vmem S1x1x2048 .f32) (h5 : a5.IsWhole) (a6 : Memref sig .tc .vmem S2048x2048 .bf16) (h6 : a6.IsWhole) (a7 : Memref sig .tc .vmem S1x2048 .f32) (h7 : a7.IsWhole) (a8 : Memref sig .tc .vmem S1x2048 .f32) (h8 : a8.IsWhole) (a9 : Memref sig .tc .vmem S1x512x2048 .f32) (h9 : a9.IsWhole) (a10 : Memref sig .tc .vmem S512x2048 .f32) (h10 : a10.IsWhole) (a11 : Memref sig .tc .vmem S512x2048 .f32) (h11 : a11.IsWhole)
    (X1 : FVec F S1x512x2048 .f32) (X2 : FVec F S1x512x1024 .bf16) (X3 : FVec F S1x512x1024 .bf16) (X4 : FVec F S1x512x1024 .bf16) (X5 : FVec F S1x1x2048 .f32) (X6 : FVec F S2048x2048 .bf16) (X7 : FVec F S1x2048 .f32) (X8 : FVec F S1x2048 .f32) (X9 : FVec F S1x512x2048 .f32) (X10 : FVec F S512x2048 .f32) (X11 : FVec F S512x2048 .f32)
    (c1 : firstCond i ≠ 1#1) (c2 : k0_cond2 i ≠ 1#1) (c3 : k0_cond3 i ≠ 1#1) (c4 : k0_cond4 i = 1#1) :
    (iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11) : sProp 𝕄)
      ⊢ wp Idealize.ShloMosaic.frame (wpE (defs₀ (F := F)) Variants.none (c : Thread nD τ) none) Set.univ
          (cc0_out (F := F) i a1 h1 a2 h2 a3 h3 a4 h4 a5 h5 a6 h6 a7 h7 a8 h8 a9 h9 a10 h10 a11 h11)
          (fun _ => iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare (k0_pay4 X11 X7 X8) ∗ owns (c : Thread nD τ) a10 fullShare X10 ∗ owns (c : Thread nD τ) a11 fullShare X11)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  subst e1 e2 e3 e4 e5 e6 e7 e8 e9 e10 e11
  unfold firstCond at c1
  simp only [cc0_out_eq_skeleton]; unfold cc0_out_skel
  simp only [dif_neg c1, dif_neg c2, dif_neg c3, dif_pos c4, k0_part1_eq_skeleton, k0_part2_eq_skeleton, k0_part1_skel, k0_part2_skel]
  sl_exec
  sl_step
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    refine (store_whole (F := F) a9 _ zero3 _ _ _).trans ?_
    rw [load_whole (F := F) a11 _ zero2 inb_S512x2048_S512x2048_0_0 f11, load_whole (F := F) a7 _ zero2 inb_S1x2048_S1x2048_0_0 f7, load_whole (F := F) a8 _ zero2 inb_S1x2048_S1x2048_0_0 f8]
  isplitl [H10]
  · iexists _; isplitr; swap; · iexact H10
    ipureintro
    rfl
  · iexists _; isplitr; swap; · iexact H11
    ipureintro
    rfl

end Cert.Proof.Out
end
-- ==== Proof.OutRun.lean ====
/- The launch of the output projection: what its scratch carries from point to point, and what the result array
   holds at the end, over any values. -/
module

public import proofs.«01_k».proof.Proof.OutBody
public import Idealize.ShloMosaic.Lib.Claim

@[expose] public section

set_option maxRecDepth 16384

noncomputable section

namespace Cert.Proof.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before `k`. -/
def prev (k : ℕ) : Fin cfg0.N := ⟨min (k - 1) 32, Nat.lt_of_le_of_lt (Nat.min_le_right _ _) (by decide)⟩

theorem prev_succ (t : Fin cfg0.N) : prev (t.val + 1) = t :=
  Fin.ext (by have h : t.val < 33 := lt_of_lt_of_eq t.isLt N_0; show min (t.val + 1 - 1) 32 = t.val; omega)

/-- The rows the body computes at point `t`, before they are normalised. -/
def rows (c : Dev nD) (t : Fin cfg0.N) : FVec F S512x2048 .f32 :=
  k0_pay1 (iblk m c 2 t) (iblk m c 3 t) (iblk m c 1 t) (iblk m c 5 t) (iblk m c 0 t) (iblk m c 4 t)

/-- A scratch buffer, as the whole memref over it. -/
abbrev scr0 : Memref sig .tc .vmem S512x2048 .f32 := Memref.whole cc0_scratch0
abbrev scr1 : Memref sig .tc .vmem S512x2048 .f32 := Memref.whole cc0_scratch1

/-- What the scratch buffers carry before point `k`: the rows of the point before lie in the first at an odd
    point and in the second at an even one. -/
def carry (c : Dev nD) (k : ℕ) : sProp 𝕄 :=
  iprop(∃ A : FVec F S512x2048 .f32, ∃ B : FVec F S512x2048 .f32,
    ⌜(k % 2 = 1 → k < 33 → A = rows m c (prev k)) ∧ (k % 2 = 0 → 0 < k → B = rows m c (prev k))⌝
      ∗ owns (c : Thread nD τ) scr0 fullShare A ∗ owns (c : Thread nD τ) scr1 fullShare B)

/-- The pipeline's proof data: each input's buffer keeps its block, the output's gets the rows of the point
    before, normalised. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (rows m c (prev t.val)) (iblk m c 6 t) (iblk m c 7 t)
  Φ t := iprop(carry m c t.val ∗ ∃ r, prngReg c r)
  q _ := fullShare
  owed _ := 0

theorem A_eq (c : Dev nD) (w : Fin cfg0.W) : (dats m 0 c).A w = V m c (Pipeline.arrRef spec0 w) := by
  dsimp only [dats]

theorem carry_eq (c : Dev nD) (t : Fin (cfg0.N + 1)) : (dats m 0 c).Φ t = iprop(carry m c t.val ∗ ∃ r, prngReg c r) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = k0_pay4 (rows m c (prev t.val)) (iblk m c 6 t) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The four cases on the grid -/

theorem first_iff : ∀ t : Fin cfg0.N, firstCond (grid0.coords t) = 1#1 ↔ t.val = 0 :=
  (by decide +kernel : ∀ t : Fin grid0.N, firstCond (grid0.coords t) = 1#1 ↔ t.val = 0)
theorem even_iff : ∀ t : Fin cfg0.N, k0_cond2 (grid0.coords t) = 1#1 ↔ (0 < t.val ∧ t.val < 32 ∧ t.val % 2 = 0) :=
  (by decide +kernel : ∀ t : Fin grid0.N, k0_cond2 (grid0.coords t) = 1#1 ↔ (0 < t.val ∧ t.val < 32 ∧ t.val % 2 = 0))
theorem odd_iff : ∀ t : Fin cfg0.N, k0_cond3 (grid0.coords t) = 1#1 ↔ t.val % 2 = 1 :=
  (by decide +kernel : ∀ t : Fin grid0.N, k0_cond3 (grid0.coords t) = 1#1 ↔ t.val % 2 = 1)
theorem last_iff : ∀ t : Fin cfg0.N, k0_cond4 (grid0.coords t) = 1#1 ↔ t.val = 32 :=
  (by decide +kernel : ∀ t : Fin grid0.N, k0_cond4 (grid0.coords t) = 1#1 ↔ t.val = 32)

/-- The output's window is left as found at the first point and nowhere else. -/
theorem idle_first : ∀ t : Fin cfg0.N, t.val = 0 → cfg0.idle 8 (cfg0.grid.coords t) = true :=
  (by decide +kernel : ∀ t : Fin grid0.N, t.val = 0 → idle0 8 (grid0.coords t) = true)
theorem live_later : ∀ t : Fin cfg0.N, t.val ≠ 0 → cfg0.idle 8 (cfg0.grid.coords t) = false :=
  (by decide +kernel : ∀ t : Fin grid0.N, t.val ≠ 0 → idle0 8 (grid0.coords t) = false)
theorem flush_first : ∀ t : Fin cfg0.N, t.val = 0 → (cfg0.win 8).flush t = false :=
  (by decide +kernel : ∀ t : Fin grid0.N, t.val = 0 → win0_8.flush t = false)

theorem leaves_first (c : Dev nD) (t : Fin cfg0.N) (h : t.val = 0) : (dats m 0 c).leavesExact 8 t
    = iprop(∃ d, owns (c : Thread nD τ) (st0_8 t) fullShare ((dats m 0 c).before 8 t d)) :=
  Dat.leavesExact_idle _ 8 t (idle_first t h) (flush_first t h)
theorem leaves_later (c : Dev nD) (t : Fin cfg0.N) (h : t.val ≠ 0) : (dats m 0 c).leavesExact 8 t
    = owns (c : Thread nD τ) (st0_8 t) fullShare ((dats m 0 c).after 8 t) := by
  unfold Dat.leavesExact; rw [live_later t h]

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

/-- The first point. -/
theorem soundFirst (c : Dev nD) (t : Fin cfg0.N) (h0 : t.val = 0) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [leaves_first m c t h0, carry_eq, carry_eq,
    show (dats m 0 c).owesAt () t.succ = (dats m 0 c).owesAt () t.castSucc from rfl,
    after0_0, after0_1, after0_2, after0_3, after0_4, after0_5, after0_6, after0_7]
  rw [show t.castSucc.val = t.val from rfl, show t.succ.val = t.val + 1 from Fin.val_succ t]
  unfold carry
  rw [prev_succ]
  iintro ⟨⟨⟨%A, %B, %hAB, HA, HB⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  skip
  iapply (wp_wand_r Idealize.ShloMosaic.frame (wpE (defs₀ (F := F)) Variants.none c none) Set.univ)
  isplitl [HA HB H0 H1 H2 H3 H4 H5 H6 H7 H8]
  · iapply (runFirst (F := F) c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) scr0 (Memref.isWhole_whole _) scr1 (Memref.isWhole_whole _)
      (X1 := iblk m c 0 t) (X2 := iblk m c 1 t) (X3 := iblk m c 2 t) (X4 := iblk m c 3 t) (X5 := iblk m c 4 t) (X6 := iblk m c 5 t) (X7 := iblk m c 6 t) (X8 := iblk m c 7 t) (X9 := (dats m 0 c).before 8 t d8) (X10 := A) (X11 := B) ((first_iff t).2 (by omega)) (fun h => absurd ((even_iff t).1 h) (by omega)) (fun h => absurd ((odd_iff t).1 h) (by omega)) (fun h => absurd ((last_iff t).1 h) (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iexact HB
  iintro %a ⟨H0, H1, H2, H3, H4, H5, H6, H7, H8, HA, HB⟩
  isplitl [HA HB Hp]
  · isplitr [Hp]; swap; · iexact Hp
    iexists rows m c t; iexists B
    isplitr
    · ipureintro; exact ⟨fun h _ => rfl, fun h h' => absurd h (by omega)⟩
    isplitl [HA]; · iexact HA
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- An even point between. -/
theorem soundEven (c : Dev nD) (t : Fin cfg0.N) (h0 : 0 < t.val) (h1 : t.val < 32) (h2 : t.val % 2 = 0) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [leaves_later m c t (by omega), after0_8, carry_eq, carry_eq,
    show (dats m 0 c).owesAt () t.succ = (dats m 0 c).owesAt () t.castSucc from rfl,
    after0_0, after0_1, after0_2, after0_3, after0_4, after0_5, after0_6, after0_7]
  rw [show t.castSucc.val = t.val from rfl, show t.succ.val = t.val + 1 from Fin.val_succ t]
  unfold carry
  rw [prev_succ]
  iintro ⟨⟨⟨%A, %B, %hAB, HA, HB⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hB := hAB.2 h2 h0; subst hB
  iapply (wp_wand_r Idealize.ShloMosaic.frame (wpE (defs₀ (F := F)) Variants.none c none) Set.univ)
  isplitl [HA HB H0 H1 H2 H3 H4 H5 H6 H7 H8]
  · iapply (runEven (F := F) c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) scr0 (Memref.isWhole_whole _) scr1 (Memref.isWhole_whole _)
      (X1 := iblk m c 0 t) (X2 := iblk m c 1 t) (X3 := iblk m c 2 t) (X4 := iblk m c 3 t) (X5 := iblk m c 4 t) (X6 := iblk m c 5 t) (X7 := iblk m c 6 t) (X8 := iblk m c 7 t) (X9 := (dats m 0 c).before 8 t d8) (X10 := A) (X11 := rows m c (prev t.val)) (fun h => absurd ((first_iff t).1 h) (by omega)) ((even_iff t).2 (by omega)) (fun h => absurd ((odd_iff t).1 h) (by omega)) (fun h => absurd ((last_iff t).1 h) (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iexact HB
  iintro %a ⟨H0, H1, H2, H3, H4, H5, H6, H7, H8, HA, HB⟩
  isplitl [HA HB Hp]
  · isplitr [Hp]; swap; · iexact Hp
    iexists rows m c t; iexists rows m c (prev t.val)
    isplitr
    · ipureintro; exact ⟨fun h _ => rfl, fun h h' => absurd h (by omega)⟩
    isplitl [HA]; · iexact HA
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- An odd point. -/
theorem soundOdd (c : Dev nD) (t : Fin cfg0.N) (h2 : t.val % 2 = 1) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [leaves_later m c t (by omega), after0_8, carry_eq, carry_eq,
    show (dats m 0 c).owesAt () t.succ = (dats m 0 c).owesAt () t.castSucc from rfl,
    after0_0, after0_1, after0_2, after0_3, after0_4, after0_5, after0_6, after0_7]
  rw [show t.castSucc.val = t.val from rfl, show t.succ.val = t.val + 1 from Fin.val_succ t]
  unfold carry
  rw [prev_succ]
  iintro ⟨⟨⟨%A, %B, %hAB, HA, HB⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hA := hAB.1 h2 (lt_of_lt_of_eq t.isLt N_0); subst hA
  iapply (wp_wand_r Idealize.ShloMosaic.frame (wpE (defs₀ (F := F)) Variants.none c none) Set.univ)
  isplitl [HA HB H0 H1 H2 H3 H4 H5 H6 H7 H8]
  · iapply (runOdd (F := F) c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) scr0 (Memref.isWhole_whole _) scr1 (Memref.isWhole_whole _)
      (X1 := iblk m c 0 t) (X2 := iblk m c 1 t) (X3 := iblk m c 2 t) (X4 := iblk m c 3 t) (X5 := iblk m c 4 t) (X6 := iblk m c 5 t) (X7 := iblk m c 6 t) (X8 := iblk m c 7 t) (X9 := (dats m 0 c).before 8 t d8) (X10 := rows m c (prev t.val)) (X11 := B) (fun h => absurd ((first_iff t).1 h) (by omega)) (fun h => absurd ((even_iff t).1 h) (by omega)) ((odd_iff t).2 (by omega)) (fun h => absurd ((last_iff t).1 h) (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iexact HB
  iintro %a ⟨H0, H1, H2, H3, H4, H5, H6, H7, H8, HA, HB⟩
  isplitl [HA HB Hp]
  · isplitr [Hp]; swap; · iexact Hp
    iexists rows m c (prev t.val); iexists rows m c t
    isplitr
    · ipureintro; exact ⟨fun h _ => absurd h (by omega), fun h h' => rfl⟩
    isplitl [HA]; · iexact HA
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The last point. -/
theorem soundLast (c : Dev nD) (t : Fin cfg0.N) (h0 : t.val = 32) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [leaves_later m c t (by omega), after0_8, carry_eq, carry_eq,
    show (dats m 0 c).owesAt () t.succ = (dats m 0 c).owesAt () t.castSucc from rfl,
    after0_0, after0_1, after0_2, after0_3, after0_4, after0_5, after0_6, after0_7]
  rw [show t.castSucc.val = t.val from rfl, show t.succ.val = t.val + 1 from Fin.val_succ t]
  unfold carry
  rw [prev_succ]
  iintro ⟨⟨⟨%A, %B, %hAB, HA, HB⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hB := hAB.2 (by omega) (by omega); subst hB
  iapply (wp_wand_r Idealize.ShloMosaic.frame (wpE (defs₀ (F := F)) Variants.none c none) Set.univ)
  isplitl [HA HB H0 H1 H2 H3 H4 H5 H6 H7 H8]
  · iapply (runLast (F := F) c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) scr0 (Memref.isWhole_whole _) scr1 (Memref.isWhole_whole _)
      (X1 := iblk m c 0 t) (X2 := iblk m c 1 t) (X3 := iblk m c 2 t) (X4 := iblk m c 3 t) (X5 := iblk m c 4 t) (X6 := iblk m c 5 t) (X7 := iblk m c 6 t) (X8 := iblk m c 7 t) (X9 := (dats m 0 c).before 8 t d8) (X10 := A) (X11 := rows m c (prev t.val)) (fun h => absurd ((first_iff t).1 h) (by omega)) (fun h => absurd ((even_iff t).1 h) (by omega)) (fun h => absurd ((odd_iff t).1 h) (by omega)) ((last_iff t).2 (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iexact HB
  iintro %a ⟨H0, H1, H2, H3, H4, H5, H6, H7, H8, HA, HB⟩
  isplitl [HA HB Hp]
  · isplitr [Hp]; swap; · iexact Hp
    iexists A; iexists rows m c (prev t.val)
    isplitr
    · ipureintro; exact ⟨fun _ h => absurd h (by omega), fun h h' => absurd h (by omega)⟩
    isplitl [HA]; · iexact HA
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp Idealize.ShloMosaic.frame (wpE (defs₀ (F := F)) Variants.none c none) Set.univ (bodyAt0 t) (fun _ => bodyPost m c t) := by
  have hN : t.val < 33 := lt_of_lt_of_eq t.isLt N_0
  rcases Nat.eq_zero_or_pos t.val with h | h
  · exact soundFirst m c t h
  rcases Nat.mod_two_eq_zero_or_one t.val with h2 | h2
  · by_cases h3 : t.val = 32
    · exact soundLast m c t h3
    · exact soundEven m c t h (by omega) h2
  · exact soundOdd m c t h2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A whole buffer, held by the elements its memref covers. -/
theorem pts_whole (b : Ref sig .tc) (c : Dev nD) (f : Buf (Elt F) ((c : Thread nD τ).loc b)) :
    (((Memref.whole b).view.loc (c : Thread nD τ) ↦[(Memref.whole b).view.set]{fullShare} f : sProp 𝕄))
      = ((c : Thread nD τ).loc b ↦{fullShare} f) := by
  show (((c : Thread nD τ).loc b ↦[(View.whole b).set]{fullShare} f : sProp 𝕄)) = _
  rw [View.set_whole]

/-- Before the first point the scratch may hold anything. -/
theorem enter (c : Dev nD) : Pipeline.ΦA spec0 c ⊢ (dats (F := F) m 0 c).Φ 0 := by
  rw [carry_eq]
  unfold Pipeline.ΦA carry owns
  rw [scopedRest0_eq]
  iintro ⟨⟨⟨%f, HA⟩, ⟨%g, HB⟩⟩, Hp⟩
  isplitr [Hp]; swap; · iexact Hp
  iexists (scr0.view.read (Elt F) f); iexists (scr1.view.read (Elt F) g)
  isplitr
  · ipureintro
    exact ⟨fun h _ => absurd h (by decide), fun _ h => absurd h (by decide)⟩
  isplitl [HA]
  · iexists f; isplitr; · ipureintro; rfl
    iapply (BIBase.Entails.of_eq (pts_whole cc0_scratch0 c f).symm) $$ HA
  iexists g; isplitr; · ipureintro; rfl
  iapply (BIBase.Entails.of_eq (pts_whole cc0_scratch1 c g).symm) $$ HB

/-- After the last point what it holds is forgotten. -/
theorem leave (c : Dev nD) : (dats (F := F) m 0 c).Φ (Fin.last cfg0.N) ⊢ Pipeline.ΦA spec0 c := by
  rw [carry_eq]
  unfold Pipeline.ΦA carry owns
  rw [scopedRest0_eq]
  iintro ⟨⟨%A, %B, -, ⟨%f, -, HA⟩, ⟨%g, -, HB⟩⟩, Hp⟩
  isplitr [Hp]; swap; · iexact Hp
  isplitl [HA]
  · iexists f; iapply (BIBase.Entails.of_eq (pts_whole cc0_scratch0 c f)) $$ HA
  iexists g; iapply (BIBase.Entails.of_eq (pts_whole cc0_scratch1 c g)) $$ HB

-- the launch theorem's implicit arguments are found by unfolding plain definitions in a metavariable's type
set_option backward.isDefEq.respectTransparency.types false in
/-- The launch, its counters at zero at the end. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The arguments end unchanged and the counters at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Proof.Out

end
-- ==== Proof.OutSpec.lean ====
/- The output projection's mathematics at the ideal values: the second head group's gate, the projection of both head
   groups, the gated residual, and its layer norm. -/
module

public import proofs.«01_k».proof.Proof.GateSpec

@[expose] public section

noncomputable section

namespace Cert.Proof.Out
open Idealize.ShloMosaic
open Cert.Proof.Gate (normS)

/-- A row of both head groups projected: the first group's heads, and the second's times their gate. -/
def projO (ya yb zb : Fin 1024 → EReal) (w : (⟨2, ![2048, 2048]⟩ : Shape).Idx → EReal) (n : Fin 2048) : EReal :=
  (∑ k : Fin 1024, ya k * w (ix2 ⟨k.val, by omega⟩ n)) + ∑ k : Fin 1024, yb k * zb k * w (ix2 ⟨1024 + k.val, by omega⟩ n)

/-- A row's gated residual: the scaled input plus the gate times the projected heads. -/
def resS (x : Fin 2048 → EReal) (ya yb zb : Fin 1024 → EReal) (gate : Fin 2048 → EReal) (w : (⟨2, ![2048, 2048]⟩ : Shape).Idx → EReal)
    (n : Fin 2048) : EReal :=
  Ideal.ofBits FTy.f32 0x3F9837F0#32 * x n + gate n * projO ya yb zb w n

/-- A row normalised, scaled and shifted. -/
def lnS (r : Fin 2048 → EReal) (g b : (⟨2, ![1, 2048]⟩ : Shape).Idx → EReal) (n : Fin 2048) : EReal :=
  normS (Ideal.ofBits FTy.f32 0x45000000#32) r n * g (ix2 0 n) + b (ix2 0 n)

/-- The gated residual of row `l` of batch `b`. -/
def resA (X : (⟨3, ![2, 8192, 2048]⟩ : Shape).Idx → EReal) (Ya Yb Zb : (⟨3, ![2, 8192, 1024]⟩ : Shape).Idx → EReal)
    (Mo : (⟨3, ![8, 1, 6144]⟩ : Shape).Idx → EReal) (w : (⟨2, ![2048, 2048]⟩ : Shape).Idx → EReal) (b : Fin 2) (l : Fin 8192) : Fin 2048 → EReal :=
  resS (fun j => X (ix3 b l j)) (fun k => Ya (ix3 b l k)) (fun k => Yb (ix3 b l k)) (fun k => Zb (ix3 b l k))
    (fun j => Mo (ix3 ⟨b.val, by omega⟩ 0 ⟨4096 + j.val, by omega⟩)) w

/-- The result array. -/
def outO (X : (⟨3, ![2, 8192, 2048]⟩ : Shape).Idx → EReal) (Ya Yb Zb : (⟨3, ![2, 8192, 1024]⟩ : Shape).Idx → EReal)
    (Mo : (⟨3, ![8, 1, 6144]⟩ : Shape).Idx → EReal) (w : (⟨2, ![2048, 2048]⟩ : Shape).Idx → EReal) (g b : (⟨2, ![1, 2048]⟩ : Shape).Idx → EReal)
    (y : (⟨3, ![2, 8192, 2048]⟩ : Shape).Idx) : EReal :=
  lnS (resA X Ya Yb Zb Mo w (y 0) (y 1)) g b (y 2)

end Cert.Proof.Out

end
-- ==== Proof.OutVal.lean ====
/- The output projection's two block functions at the ideal values, entry by entry. -/
module

public import proofs.«01_k».proof.Proof.OutSpec
public import proofs.«01_k».proof.Proof.Gen.Kernel3Ideal.Skeleton
public import Idealize.ShloMosaic.Lib.Pointwise

@[expose] public section
set_option maxRecDepth 16384

noncomputable section

namespace Cert.Proof.Out
open Cert.Kernel3Ideal Cert.Kernel3Ideal.Gen
open Idealize.ShloMosaic Idealize.ShloMosaic.TcCoe
open Cert.Proof.Gate (normS meanS)

/-- A block's rows before the norm. -/
theorem rows_at (yb zb ya : FVec Ideal S1x512x1024 .bf16) (w : FVec Ideal S2048x2048 .bf16) (x : FVec Ideal S1x512x2048 .f32) (gt : FVec Ideal S1x1x2048 .f32)
    (r : Fin 512) (n : Fin 2048) :
    k0_pay1 (F := Ideal) yb zb ya w x gt (ix2 r n)
      = resS (fun j => x (ix3 0 r j)) (fun k => ya (ix3 0 r k)) (fun k => yb (ix3 0 r k)) (fun k => zb (ix3 0 r k)) (fun j => gt (ix3 0 0 j)) w n := by
  generalize hz : resS _ _ _ _ _ _ _ = z
  pointwise [k0_pay1]
  rw [← hz]
  rfl

/-- A block's rows after it. -/
theorem norm_at (v : FVec Ideal S512x2048 .f32) (g b : FVec Ideal S1x2048 .f32) (r : Fin 512) (n : Fin 2048) :
    k0_pay4 (F := Ideal) v g b (ix3 0 r n) = lnS (fun j => v (ix2 r j)) g b n := by
  generalize hz : lnS _ _ _ _ = z
  pointwise [k0_pay4]
  rw [← hz]
  rfl

end Cert.Proof.Out

end
-- ==== Proof.OutFinal.lean ====
/- The output projection's result array at the ideal values, as one function of the argument arrays. -/
module

public import proofs.«01_k».proof.Proof.OutRun
public import proofs.«01_k».proof.Proof.OutVal
public import Idealize.ShloMosaic.Lib.Pipeline.ValueKit.Geometry

@[expose] public section

set_option maxRecDepth 16384

noncomputable section

namespace Cert.Proof.Out

open Cert.Kernel3Ideal Cert.Kernel3Ideal.Gen
open Idealize.ShloMosaic Idealize.ShloMosaic.TcCoe
open Idealize.SL.Sem

/-! ## The windows' block indices: the inputs' row block is the point's, the output's the one before it -/

theorem idx0 : ∀ t : Fin cfg0.N, win0_0.index t = ![min t.val 31 / 16, min t.val 31 % 16, 0] := (by decide +kernel : ∀ t : Fin grid0.N, _)
theorem idx1 : ∀ t : Fin cfg0.N, win0_1.index t = ![min t.val 31 / 16, min t.val 31 % 16, 0] := (by decide +kernel : ∀ t : Fin grid0.N, _)
theorem idx2 : ∀ t : Fin cfg0.N, win0_2.index t = ![min t.val 31 / 16, min t.val 31 % 16, 0] := (by decide +kernel : ∀ t : Fin grid0.N, _)
theorem idx3 : ∀ t : Fin cfg0.N, win0_3.index t = ![min t.val 31 / 16, min t.val 31 % 16, 0] := (by decide +kernel : ∀ t : Fin grid0.N, _)
theorem idx4 : ∀ t : Fin cfg0.N, win0_4.index t = ![min t.val 31 / 16, 0, 2] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![min (t.val - 1) 31 / 16, min (t.val - 1) 31 % 16, 0] := (by decide +kernel : ∀ t : Fin grid0.N, _)

/-- The row block a point's inputs come from. -/
def tile (t : Fin cfg0.N) : ℕ := min t.val 31

theorem tile_lt (t : Fin cfg0.N) : tile t < 32 := Nat.lt_of_le_of_lt (Nat.min_le_right _ _) (by decide)

/-- Its batch. -/
def bat (t : Fin cfg0.N) : Fin 2 := ⟨tile t / 16, by have := tile_lt t; omega⟩

/-- Row `r` of it, as a row of its batch. -/
def row (t : Fin cfg0.N) (r : Fin 512) : Fin 8192 := ⟨512 * (tile t % 16) + r.val, by omega⟩

/-- The batch's place among the modulation's rows. -/
def mbat (t : Fin cfg0.N) : Fin 8 := ⟨(bat t).val, by omega⟩

/-- A gate column of the modulation. -/
def gtc (j : Fin 2048) : Fin 6144 := ⟨4096 + j.val, by omega⟩

variable (m : (ℓ : Loc nD τ sig) → Buf (Elt Ideal) ℓ) (ρ : Dev nD → PrngReg) (c : Dev nD) (t : Fin cfg0.N)

/-! ## The input blocks at coordinates -/

theorem oblk0 (z : Fin 1) (r : Fin 512) (j : Fin 2048) :
    iblk m c 0 t (ix3 z r j : S1x512x2048.Idx) = m ((c.tc : Thread nD τ).loc main_arg0) (ix3 (bat t) (row t r) j) := by
  blk_simp [iblk, idx0]
  refine congrArg (m ((c.tc : Thread nD τ).loc main_arg0)) ?_
  blk_ext [idx0]
  all_goals (simp only [bat, row, tile]; try omega)

theorem oblk1 (z : Fin 1) (r : Fin 512) (j : Fin 1024) :
    iblk m c 1 t (ix3 z r j : S1x512x1024.Idx) = m ((c.tc : Thread nD τ).loc main_arg1) (ix3 (bat t) (row t r) j) := by
  blk_simp [iblk, idx1]
  refine congrArg (m ((c.tc : Thread nD τ).loc main_arg1)) ?_
  blk_ext [idx1]
  all_goals (simp only [bat, row, tile]; try omega)

theorem oblk2 (z : Fin 1) (r : Fin 512) (j : Fin 1024) :
    iblk m c 2 t (ix3 z r j : S1x512x1024.Idx) = m ((c.tc : Thread nD τ).loc main_arg2) (ix3 (bat t) (row t r) j) := by
  blk_simp [iblk, idx2]
  refine congrArg (m ((c.tc : Thread nD τ).loc main_arg2)) ?_
  blk_ext [idx2]
  all_goals (simp only [bat, row, tile]; try omega)

theorem oblk3 (z : Fin 1) (r : Fin 512) (j : Fin 1024) :
    iblk m c 3 t (ix3 z r j : S1x512x1024.Idx) = m ((c.tc : Thread nD τ).loc main_arg3) (ix3 (bat t) (row t r) j) := by
  blk_simp [iblk, idx3]
  refine congrArg (m ((c.tc : Thread nD τ).loc main_arg3)) ?_
  blk_ext [idx3]
  all_goals (simp only [bat, row, tile]; try omega)

theorem oblk5 : iblk m c 5 t = (m ((c.tc : Thread nD τ).loc main_arg5) : S2048x2048.Idx → EReal) := by
  funext y
  blk_simp [iblk, idx5]
  refine congrArg (m ((c.tc : Thread nD τ).loc main_arg5)) ?_
  blk_ext [idx5]

theorem oblk6 : iblk m c 6 t = (m ((c.tc : Thread nD τ).loc main_arg6) : S1x2048.Idx → EReal) := by
  funext y
  blk_simp [iblk, idx6]
  refine congrArg (m ((c.tc : Thread nD τ).loc main_arg6)) ?_
  blk_ext [idx6]

theorem oblk7 : iblk m c 7 t = (m ((c.tc : Thread nD τ).loc main_arg7) : S1x2048.Idx → EReal) := by
  funext y
  blk_simp [iblk, idx7]
  refine congrArg (m ((c.tc : Thread nD τ).loc main_arg7)) ?_
  blk_ext [idx7]

theorem oblk4 (z y : Fin 1) (j : Fin 2048) :
    iblk m c 4 t (ix3 z y j : S1x1x2048.Idx) = m ((c.tc : Thread nD τ).loc main_arg4) (ix3 (mbat t) 0 (gtc j)) := by
  blk_simp [iblk, idx4]
  refine congrArg (m ((c.tc : Thread nD τ).loc main_arg4)) ?_
  blk_ext [idx4]
  all_goals (simp only [bat, mbat, gtc, tile]; try omega)

/-- The point's rows before the norm, of the argument arrays. -/
theorem rows_eq (r : Fin 512) (n : Fin 2048) : rows m c t (ix2 r n)
    = resA (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (bat t) (row t r) n := by
  unfold rows
  refine (rows_at (iblk m c 2 t) (iblk m c 3 t) (iblk m c 1 t) (iblk m c 5 t) (iblk m c 0 t) (iblk m c 4 t) r n).trans ?_
  rw [funext fun j => oblk0 m c t 0 r j, funext fun k => oblk1 m c t 0 r k, funext fun k => oblk2 m c t 0 r k, funext fun k => oblk3 m c t 0 r k,
    funext fun j => oblk4 m c t 0 0 j, oblk5]
  rfl

/-- The position in the result of an output block's element. -/
theorem emb8 (h : t.val ≠ 0) (z : Fin 1) (r : Fin 512) (n : Fin 2048) :
    (win0_8.blk t).view.emb (ix3 z r n : S1x512x2048.Idx) = ix3 (bat (prev t.val)) (row (prev t.val) r) n := by
  blk_ext [idx8]
  all_goals (simp only [bat, row, tile, prev]; try omega)

/-- The output is written back after the first point only. -/
theorem flush_pos : ∀ t : Fin cfg0.N, (cfg0.win 8).flush t = true → t.val ≠ 0 :=
  (by decide +kernel : ∀ t : Fin grid0.N, win0_8.flush t = true → t.val ≠ 0)

/-- The result array is the specified one of the launch's operands. -/
theorem ofinal : (dats m 0 c).arrAt 8 cfg0.N = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  have ht := flush_pos t hf
  blk_simp
  rw [after0_8]
  obtain ⟨z, r, n, rfl⟩ : ∃ (z : Fin 1) (r : Fin 512) (n : Fin 2048), y = (ix3 z r n : S1x512x2048.Idx) :=
    ⟨y 0, y 1, y 2, by funext a; fin_cases a <;> rfl⟩
  rw [emb8 t ht z r n]
  obtain rfl : z = 0 := Subsingleton.elim _ _
  refine (norm_at (rows m c (prev t.val)) (iblk m c 6 t) (iblk m c 7 t) r n).trans ?_
  rw [oblk6, oblk7, funext fun j => rows_eq m c (prev t.val) r j]
  rfl

/-- Every execution of the launch ends with the specified array, and its arguments unchanged. -/
theorem ends :
    θ_run (defs (F := Ideal)) (onTc (τ := τ) (main (F := Ideal))) ⟨m, fun _ => 0, ρ⟩ fun r => ∀ c : Dev nD,
      r.2.mem ((c.tc : Thread nD τ).loc main_v0) = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_and
    ((θ_run defs _ _).mono (fun r h c => ((h.1 c).1 8).trans (ofinal m c)) (launched (F := Ideal) m ρ))
    ((θ_run defs _ _).mono (fun r h c => h.1 c) (frames (F := Ideal) m ρ)) |> fun H => (θ_run defs _ _).mono (fun r h c => ⟨h.1 c, h.2 c⟩) H

end Cert.Proof.Out

end
-- ==== Proof.OutRef.lean ====
/- The output projection's reference at the ideal values, stage by stage and entry by entry. -/
module

public import proofs.«01_k».proof.Proof.OutSpec
public import proofs.«01_k».proof.Proof.Gen.Reference3Ideal.Run
public import Idealize.ShloMosaic.Lib.Pointwise

@[expose] public section
set_option maxRecDepth 16384

noncomputable section

namespace Cert.Proof.OutRef
open Cert.Reference3Ideal Cert.Reference3Ideal.Gen
open Idealize.ShloMosaic Idealize.ShloMosaic.TcCoe Idealize.SL.Sem
open Cert.Proof.Gate (normS meanS)
open Cert.Proof.Out

/-- The gated residual. -/
def refR (X : FVec Ideal S2x8192x2048 .f32) (Ya Yb Zb : FVec Ideal S2x8192x1024 .bf16) (Mo : FVec Ideal S8x1x6144 .f32) (w : FVec Ideal S2048x2048 .bf16) : FVec Ideal S2x8192x2048 .f32 :=
  addf (mulf (broadcastInDim S2x8192x2048 ![] bcast_S_S2x8192x2048 (constant S_ .f32 0x3F9837F0#32)) X) (mulf (broadcastInDim S2x8192x2048 ![0, 1, 2] bcast_S2x1x2048_S2x8192x2048_0_1_2 (extractStridedSlice S2x1x2048 ![0, 0, 4096] Mo slices_S8x1x6144_S2x1x2048_0_0_4096)) (Host.dotGeneral (φ₁ := .bf16) dot_S2x8192x2048_S2048x2048_S2x8192x2048_2_0_01_1_n_n none (Value.fn_main_v4 (F := Ideal) Ya (truncf .bf16 (mulf (extf .f32 Yb bitsLt_bf16_f32) (extf .f32 Zb bitsLt_bf16_f32)) bitsLt_bf16_f32)) w))

/-- Its rows normalised, scaled and shifted. -/
def refN (v : FVec Ideal S2x8192x2048 .f32) (g b : FVec Ideal S1x2048 .f32) : FVec Ideal S2x8192x2048 .f32 :=
  addf (mulf (mulf (subf v (broadcastInDim S2x8192x2048 ![0, 1, 2] bcast_S2x8192x1_S2x8192x2048_0_1_2 (Host.divf (broadcastInDim S2x8192x1 ![0, 1] bcast_S2x8192_S2x8192x1_0_1 (Host.reduceAdd v (constant S_ .f32 0x00000000#32) reducesTo_S2x8192x2048_S2x8192_d2 h_S_)) (broadcastInDim S2x8192x1 ![] bcast_S_S2x8192x1 (constant S_ .f32 0x45000000#32))))) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (subf v (broadcastInDim S2x8192x2048 ![0, 1, 2] bcast_S2x8192x1_S2x8192x2048_0_1_2 (Host.divf (broadcastInDim S2x8192x1 ![0, 1] bcast_S2x8192_S2x8192x1_0_1 (Host.reduceAdd v (constant S_ .f32 0x00000000#32) reducesTo_S2x8192x2048_S2x8192_d2 h_S_)) (broadcastInDim S2x8192x1 ![] bcast_S_S2x8192x1 (constant S_ .f32 0x45000000#32))))) (subf v (broadcastInDim S2x8192x2048 ![0, 1, 2] bcast_S2x8192x1_S2x8192x2048_0_1_2 (Host.divf (broadcastInDim S2x8192x1 ![0, 1] bcast_S2x8192_S2x8192x1_0_1 (Host.reduceAdd v (constant S_ .f32 0x00000000#32) reducesTo_S2x8192x2048_S2x8192_d2 h_S_)) (broadcastInDim S2x8192x1 ![] bcast_S_S2x8192x1 (constant S_ .f32 0x45000000#32)))))) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![1, 2] bcast_S1x2048_S1x1x2048_1_2 g))) (broadcastInDim S2x8192x2048 ![0, 1, 2] bcast_S1x1x2048_S2x8192x2048_0_1_2 (broadcastInDim S1x1x2048 ![1, 2] bcast_S1x2048_S1x1x2048_1_2 b))

theorem r_at (X : FVec Ideal S2x8192x2048 .f32) (Ya Yb Zb : FVec Ideal S2x8192x1024 .bf16) (Mo : FVec Ideal S8x1x6144 .f32) (w : FVec Ideal S2048x2048 .bf16)
    (b : Fin 2) (l : Fin 8192) (n : Fin 2048) : refR X Ya Yb Zb Mo w (ix3 b l n) = resA X Ya Yb Zb Mo w b l n := by
  generalize hz : resA _ _ _ _ _ _ _ _ _ = z
  pointwise [refR, Value.fn_main_v4]
  rw [← hz]
  rfl

theorem n_at (v : FVec Ideal S2x8192x2048 .f32) (g c : FVec Ideal S1x2048 .f32) (b : Fin 2) (l : Fin 8192) (n : Fin 2048) :
    refN v g c (ix3 b l n) = lnS (fun j => v (ix3 b l j)) g c n := by
  generalize hz : lnS _ _ _ _ = z
  pointwise [refN]
  rw [← hz]
  rfl

/-- The reference's result, of its operands. -/
theorem refO_eq (X : FVec Ideal S2x8192x2048 .f32) (Ya Yb Zb : FVec Ideal S2x8192x1024 .bf16) (Mo : FVec Ideal S8x1x6144 .f32) (w : FVec Ideal S2048x2048 .bf16)
    (g c : FVec Ideal S1x2048 .f32) : refN (refR X Ya Yb Zb Mo w) g c = outO X Ya Yb Zb Mo w g c := by
  funext y
  obtain ⟨b, l, n, rfl⟩ : ∃ (b : Fin 2) (l : Fin 8192) (n : Fin 2048), y = (ix3 b l n : S2x8192x2048.Idx) :=
    ⟨y 0, y 1, y 2, by funext a; fin_cases a <;> rfl⟩
  rw [n_at, funext fun j => r_at X Ya Yb Zb Mo w b l j]
  rfl

section
open Cert.Reference3Ideal.Value
variable (m : (ℓ : Loc nD τ sig) → Buf (Elt Ideal) ℓ) (c : Dev nD)

theorem res35 : res_main_v35 m c = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (show res_main_v35 m c = refN (refR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) from rfl).trans (refO_eq _ _ _ _ _ _ _ _)

/-- Every execution of the reference ends with the specified array, and its arguments unchanged. -/
theorem ends (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (res35 m c), (h c).2⟩) (run (F := Ideal) m ρ)

end

end Cert.Proof.OutRef

end
-- ==== Proof.OutValue.lean ====
/- The output projection's claims: its programs' frames, and over the reals the same result as the reference's. -/
module

public import proofs.«01_k».proof.Proof.OutFinal
public import proofs.«01_k».proof.Proof.OutRef
public import proofs.«01_k».proof.Proof.Gen.Kernel3
public import proofs.«01_k».proof.Proof.Gen.Kernel3Ideal
public import proofs.«01_k».proof.Proof.Gen.Reference3Ideal
public import proofs.«01_k».proof.Defs

@[expose] public section

set_option maxRecDepth 16384

noncomputable section

namespace Cert.Proof.OutValue

open Idealize.ShloMosaic Idealize.ShloMosaic.TcCoe Idealize.SL.Sem
open Cert.Proof.Out (outO)

/-! ## The frames -/

/-- The compiled program's kernel table is the one of the program over ideal values: they are one text. -/
theorem tables {F : FTy → Type} [FloatOps F] : Cert.Kernel3.defs₀ (F := F) = Cert.Kernel3Ideal.defs₀ (F := F) := by
  unfold Cert.Kernel3.defs₀ Cert.Kernel3Ideal.defs₀
  refine congrArg (Defs.onTc (nD := Cert.Kernel3.nD) (τ := Cert.Kernel3.τ) (sig := Cert.Kernel3.sig) (Val := Elt F) (Λ := Cert.Kernel3.Λ₀)) ?_
  funext l a
  match l, a with
  | 0, (t, s) => rfl
  | ⟨n + 1, h⟩, _ => exact absurd h (Nat.not_lt.2 (Nat.le_add_left _ _))

/-- So the run over any values serves the compiled program too. -/
theorem kernel : Cert.quiescent_Kernel3 := fun m ρ _ => by
  unfold Cert.Kernel3.defs
  rw [tables]
  exact Cert.Proof.Out.frames (F := Bits) m ρ

theorem kernelIdeal : Cert.quiescent_Kernel3Ideal := fun m ρ _ => Cert.Proof.Out.frames (F := Ideal) m ρ

/-- The reference has no semaphore, so its counters are all zero. -/
theorem referenceIdeal : Cert.quiescent_Reference3Ideal := fun m ρ _ =>
  (θ_run Cert.Reference3Ideal.defs _ _).mono (fun _ h => ⟨fun c => (h c).2, by
    funext g; rcases g with ⟨_, i | i⟩ <;> exact i.elim0⟩) (OutRef.ends m ρ)

/-! ## The value claim -/

theorem algebraic : Cert.algebraic_Kernel3Ideal_Reference3Ideal := fun m g m' g' _ hm => by
  refine ⟨fun c => outO (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)), Out.ends m g, ?_⟩
  refine (θ_run Cert.Reference3Ideal.defs _ _).mono (fun r h c => ?_) (OutRef.ends m' g')
  obtain ⟨h0, h1, h2, h3, h4, h5, h6, h7⟩ := hm c
  refine ⟨(h c).1.trans ?_, (h c).2⟩
  rw [h0, h1, h2, h3, h4, h5, h6, h7]

end Cert.Proof.OutValue

end
-- ==== Proof.lean ====
/- The claims of this certificate, from the modules beside it. -/
module

public import proofs.«01_k».proof.Defs
public import proofs.«01_k».proof.Proof.Frames
public import proofs.«01_k».proof.Proof.Value
public import proofs.«01_k».proof.Proof.GateValue
public import proofs.«01_k».proof.Proof.OutValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Adequacy
public import Idealize.ShloMosaic.Init

@[expose] public section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Frames.kernel, Frames.kernelIdeal, Frames.referenceIdeal, GateValue.kernel, GateValue.kernelIdeal, GateValue.referenceIdeal,
  OutValue.kernel, OutValue.kernelIdeal, OutValue.referenceIdeal,
  trivial, Value.algebraic, trivial, GateValue.algebraic, trivial, OutValue.algebraic⟩

end Cert.Proof

end
